-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v151) = v0 c
          ∧ r.2.mem ((c.tc : Thread Cert.Reference2Ideal.nD Cert.Reference2Ideal.τ).loc Cert.Reference2Ideal.main_v150) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_v114) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S1x1024x8224 : Shape := ⟨3, ![1, 1024, 8224]⟩
abbrev S1024x8224 : Shape := ⟨2, ![1024, 8224]⟩
abbrev S8224x1024 : Shape := ⟨2, ![8224, 1024]⟩
abbrev S8192x1024 : Shape := ⟨2, ![8192, 1024]⟩
abbrev S128x1024 : Shape := ⟨2, ![128, 1024]⟩
abbrev S1024x1024 : Shape := ⟨2, ![1024, 1024]⟩
abbrev S32x1024 : Shape := ⟨2, ![32, 1024]⟩
abbrev S96x1024 : Shape := ⟨2, ![96, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1x1024x8224, .f32⟩
  | .hbm, ⟨1, _⟩ => ⟨S1024x8224, .f32⟩
  | .hbm, ⟨2, _⟩ => ⟨S8224x1024, .f32⟩
  | .hbm, ⟨3, _⟩ => ⟨S8192x1024, .bf16⟩
  | .hbm, ⟨4, _⟩ => ⟨S128x1024, .bf16⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | _, _ => ⟨S1x1024x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c3_i32 : BitVec 32 := 3#32
  let v0 : BitVec 1 := Scalar.cmpi .slt arg0 c3_i32
  let c1024_i32 : BitVec 32 := 1024#32
  let v1 : BitVec 32 := Scalar.muli arg0 c1024_i32
  let c1024_i32_0 : BitVec 32 := 1024#32
  let v2 : BitVec 32 := Scalar.muli arg0 c1024_i32_0
  let c32_i32 : BitVec 32 := 32#32
  let v3 : BitVec 32 := Scalar.addi v2 c32_i32
  let v4 : BitVec 32 := Scalar.select v0 v1 v3
  v4
def cc0_transform_0 (i : grid0.Coords) : Fin 2 → Nat :=
  let arg0 : BitVec 32 := BitVec.ofNat 32 (i 0).val
  let c3_i32 : BitVec 32 := 3#32
  let v0 : BitVec 1 := Scalar.cmpi .slt arg0 c3_i32
  let c1024_i32 : BitVec 32 := 1024#32
  let v1 : BitVec 32 := Scalar.muli arg0 c1024_i32
  let c1024_i32_0 : BitVec 32 := 1024#32
  let v2 : BitVec 32 := Scalar.muli arg0 c1024_i32_0
  let c32_i32 : BitVec 32 := 32#32
  let v3 : BitVec 32 := Scalar.addi v2 c32_i32
  let v4 : BitVec 32 := Scalar.select v0 v1 v3
  let v5 : BitVec 32 := v4
  let c0_i32 : BitVec 32 := 0#32
  let c0_i32_1 : BitVec 32 := 0#32
  ![v5.toNat, c0_i32.toNat]

def cc0_transform_1 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x1024x8224 : Shape := ⟨3, ![1, 1024, 8224]⟩
abbrev S1024x8224 : Shape := ⟨2, ![1024, 8224]⟩
abbrev S8224x1024 : Shape := ⟨2, ![8224, 1024]⟩
abbrev S3072x1024 : Shape := ⟨2, ![3072, 1024]⟩
abbrev S5120x1024 : Shape := ⟨2, ![5120, 1024]⟩
abbrev S8192x1024 : Shape := ⟨2, ![8192, 1024]⟩
abbrev S32x1024 : Shape := ⟨2, ![32, 1024]⟩
abbrev S_ : Shape := ⟨0, ![]⟩
abbrev S96x1024 : Shape := ⟨2, ![96, 1024]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x1024x8224, .f32⟩
  | .hbm, ⟨1, _⟩ => ⟨S1024x8224, .f32⟩
  | .hbm, ⟨2, _⟩ => ⟨S8224x1024, .f32⟩
  | .hbm, ⟨3, _⟩ => ⟨S3072x1024, .f32⟩
  | .hbm, ⟨4, _⟩ => ⟨S5120x1024, .f32⟩
  | .hbm, ⟨5, _⟩ => ⟨S8192x1024, .f32⟩
  | .hbm, ⟨6, _⟩ => ⟨S32x1024, .f32⟩
  | .hbm, ⟨7, _⟩ => ⟨S_, .f32⟩
  | .hbm, ⟨8, _⟩ => ⟨S96x1024, .f32⟩
  | .hbm, ⟨9, _⟩ => ⟨S128x1024, .f32⟩
  | .hbm, ⟨10, _⟩ => ⟨S8192x1024, .bf16⟩
  | .hbm, ⟨11, _⟩ => ⟨S128x1024, .bf16⟩
  | _, _ => ⟨S1x1024x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x8224 : Shape := ⟨3, ![1, 1024, 8224]⟩
abbrev S1024x8224 : Shape := ⟨2, ![1024, 8224]⟩
abbrev S8224x1024 : Shape := ⟨2, ![8224, 1024]⟩
abbrev S8192x1024 : Shape := ⟨2, ![8192, 1024]⟩
abbrev S128x1024 : Shape := ⟨2, ![128, 1024]⟩
abbrev S1024x1024 : Shape := ⟨2, ![1024, 1024]⟩
abbrev S32x1024 : Shape := ⟨2, ![32, 1024]⟩
abbrev S96x1024 : Shape := ⟨2, ![96, 1024]⟩
abbrev S1024 : Shape := ⟨1, ![1024]⟩
abbrev S16384x1024 : Shape := ⟨2, ![16384, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x8192 : Shape := ⟨2, ![16384, 8192]⟩
abbrev S16384x128 : Shape := ⟨2, ![16384, 128]⟩
abbrev S1x1x1024 : Shape := ⟨3, ![1, 1, 1024]⟩
abbrev S2048x1024 : Shape := ⟨2, ![2048, 1024]⟩
abbrev S1024x128 : Shape := ⟨2, ![1024, 128]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x2048 : Shape := ⟨2, ![256, 2048]⟩
abbrev S1024x256 : Shape := ⟨2, ![1024, 256]⟩

abbrev nBuf : Space → Nat
  | .hbm => 53
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S1x1024x8224, .f32⟩
  | .hbm, ⟨5, _⟩ => ⟨S1024x8224, .f32⟩
  | .hbm, ⟨6, _⟩ => ⟨S8224x1024, .f32⟩
  | .hbm, ⟨7, _⟩ => ⟨S8192x1024, .bf16⟩
  | .hbm, ⟨8, _⟩ => ⟨S128x1024, .bf16⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x128, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x128, .f32⟩
  | .hbm, ⟨51, _⟩ => ⟨S16384x8192, .bf16⟩
  | .hbm, ⟨52, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S2048x1024, .bf16⟩
  | .local _ .vmem, ⟨14, _⟩ => ⟨S2048x1024, .bf16⟩
  | .local _ .vmem, ⟨15, _⟩ => ⟨S128x1024, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x2048, .bf16⟩
  | .local _ .vmem, ⟨21, _⟩ => ⟨S1024x2048, .bf16⟩
  | .local _ .vmem, ⟨22, _⟩ => ⟨S1024x128, .f32⟩
  | .local _ .vmem, ⟨23, _⟩ => ⟨S1024x128, .f32⟩
  | .local _ .vmem, ⟨24, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c3_i32 : BitVec 32 := 3#32
  let v0 : BitVec 1 := Scalar.cmpi .slt arg0 c3_i32
  let c1024_i32 : BitVec 32 := 1024#32
  let v1 : BitVec 32 := Scalar.muli arg0 c1024_i32
  let c1024_i32_0 : BitVec 32 := 1024#32
  let v2 : BitVec 32 := Scalar.muli arg0 c1024_i32_0
  let c32_i32 : BitVec 32 := 32#32
  let v3 : BitVec 32 := Scalar.addi v2 c32_i32
  let v4 : BitVec 32 := Scalar.select v0 v1 v3
  v4
def cc0_transform_0 (i : grid0.Coords) : Fin 2 → Nat :=
  let arg0 : BitVec 32 := BitVec.ofNat 32 (i 0).val
  let c3_i32 : BitVec 32 := 3#32
  let v0 : BitVec 1 := Scalar.cmpi .slt arg0 c3_i32
  let c1024_i32 : BitVec 32 := 1024#32
  let v1 : BitVec 32 := Scalar.muli arg0 c1024_i32
  let c1024_i32_0 : BitVec 32 := 1024#32
  let v2 : BitVec 32 := Scalar.muli arg0 c1024_i32_0
  let c32_i32 : BitVec 32 := 32#32
  let v3 : BitVec 32 := Scalar.addi v2 c32_i32
  let v4 : BitVec 32 := Scalar.select v0 v1 v3
  let v5 : BitVec 32 := v4
  let c0_i32 : BitVec 32 := 0#32
  let c0_i32_1 : BitVec 32 := 0#32
  ![v5.toNat, c0_i32.toNat]

def cc0_transform_1 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c0_i32_1 : BitVec 32 := 0#32
  let v3 : BitVec 1 := Scalar.cmpi .ne arg1 c0_i32_1
  let c1_i32 : BitVec 32 := 1#32
  let v4 : BitVec 1 := Scalar.cmpi .ne arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k1_cond3 (i : grid1.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_7 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S128x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== Reference2Ideal.lean ====
abbrev S2x8192x1024 : Shape := ⟨3, ![2, 8192, 1024]⟩
abbrev S2x1x1024 : Shape := ⟨3, ![2, 1, 1024]⟩
abbrev S1x1024 : Shape := ⟨2, ![1, 1024]⟩
abbrev S1x1024x8224 : Shape := ⟨3, ![1, 1024, 8224]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x8224 : Shape := ⟨2, ![1024, 8224]⟩
abbrev S2x8192x8224 : Shape := ⟨3, ![2, 8192, 8224]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S2x8192x3072 : Shape := ⟨3, ![2, 8192, 3072]⟩
abbrev S2x8192x32 : Shape := ⟨3, ![2, 8192, 32]⟩
abbrev S2x8192x512 : Shape := ⟨3, ![2, 8192, 512]⟩
abbrev S2x8192x4096 : Shape := ⟨3, ![2, 8192, 4096]⟩
abbrev S2x8192x4x128 : Shape := ⟨4, ![2, 8192, 4, 128]⟩
abbrev S32 : Shape := ⟨1, ![32]⟩
abbrev S2x8192x4x64 : Shape := ⟨4, ![2, 8192, 4, 64]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x4x32 : Shape := ⟨4, ![2, 8192, 4, 32]⟩
abbrev S2x8192x8192 : Shape := ⟨3, ![2, 8192, 8192]⟩
abbrev S16384x8192 : Shape := ⟨2, ![16384, 8192]⟩
abbrev S2x8192x96 : Shape := ⟨3, ![2, 8192, 96]⟩
abbrev S2x8192x128 : Shape := ⟨3, ![2, 8192, 128]⟩
abbrev S16384x128 : Shape := ⟨2, ![16384, 128]⟩

abbrev nBuf : Space → Nat
  | .hbm => 167
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1x1024, .f32⟩
  | 4 => ⟨S1x1024x8224, .f32⟩
  | 5 => ⟨S1024, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S_, .f32⟩
  | 23 => ⟨S2x1x1024, .f32⟩
  | 24 => ⟨S2x1x1024, .f32⟩
  | 25 => ⟨S2x8192x1024, .f32⟩
  | 26 => ⟨S2x8192x1024, .f32⟩
  | 27 => ⟨S2x8192x1024, .f32⟩
  | 28 => ⟨S2x8192x1024, .f32⟩
  | 29 => ⟨S1024x8224, .f32⟩
  | 30 => ⟨S2x8192x8224, .f32⟩
  | 31 => ⟨S128, .f32⟩
  | 32 => ⟨S128x64, .f32⟩
  | 33 => ⟨S8192, .f32⟩
  | 34 => ⟨S64, .f32⟩
  | 35 => ⟨S1x64, .f32⟩
  | 36 => ⟨S128x64, .f32⟩
  | 37 => ⟨S8192, .f32⟩
  | 38 => ⟨S2x8192x3072, .f32⟩
  | 39 => ⟨S2x8192x32, .f32⟩
  | 40 => ⟨S2x8192x512, .f32⟩
  | 41 => ⟨S2x8192x512, .f32⟩
  | 42 => ⟨S2x8192x4096, .f32⟩
  | 43 => ⟨S2x8192x4x128, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S2x8192x4x64, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S8192x32, .f32⟩
  | 59 => ⟨S1x8192x1x32, .f32⟩
  | 60 => ⟨S8192x32, .f32⟩
  | 61 => ⟨S1x8192x1x32, .f32⟩
  | 62 => ⟨S2x8192x4x32, .f32⟩
  | 63 => ⟨S2x8192x4x32, .f32⟩
  | 64 => ⟨S2x8192x4x32, .f32⟩
  | 65 => ⟨S2x8192x4x32, .f32⟩
  | 66 => ⟨S2x8192x4x32, .f32⟩
  | 67 => ⟨S2x8192x4x32, .f32⟩
  | 68 => ⟨S2x8192x4x32, .f32⟩
  | 69 => ⟨S2x8192x4x32, .f32⟩
  | 70 => ⟨S2x8192x4x32, .f32⟩
  | 71 => ⟨S2x8192x4x32, .f32⟩
  | 72 => ⟨S2x8192x4x32, .f32⟩
  | 73 => ⟨S2x8192x4x32, .f32⟩
  | 74 => ⟨S2x8192x4x64, .f32⟩
  | 75 => ⟨S2x8192x4x64, .f32⟩
  | 76 => ⟨S8192x1, .f32⟩
  | 77 => ⟨S1x32, .f32⟩
  | 78 => ⟨S8192x32, .f32⟩
  | 79 => ⟨S8192x32, .f32⟩
  | 80 => ⟨S8192x32, .f32⟩
  | 81 => ⟨S8192x32, .f32⟩
  | 82 => ⟨S1x8192x1x32, .f32⟩
  | 83 => ⟨S8192x32, .f32⟩
  | 84 => ⟨S1x8192x1x32, .f32⟩
  | 85 => ⟨S2x8192x4x32, .f32⟩
  | 86 => ⟨S2x8192x4x32, .f32⟩
  | 87 => ⟨S2x8192x4x32, .f32⟩
  | 88 => ⟨S2x8192x4x32, .f32⟩
  | 89 => ⟨S2x8192x4x32, .f32⟩
  | 90 => ⟨S2x8192x4x32, .f32⟩
  | 91 => ⟨S2x8192x4x32, .f32⟩
  | 92 => ⟨S2x8192x4x32, .f32⟩
  | 93 => ⟨S2x8192x4x32, .f32⟩
  | 94 => ⟨S2x8192x4x32, .f32⟩
  | 95 => ⟨S2x8192x4x32, .f32⟩
  | 96 => ⟨S2x8192x4x32, .f32⟩
  | 97 => ⟨S2x8192x4x64, .f32⟩
  | 98 => ⟨S2x8192x4x128, .f32⟩
  | 99 => ⟨S2x8192x512, .f32⟩
  | 100 => ⟨S2x8192x4x128, .f32⟩
  | 101 => ⟨S_, .f32⟩
  | 102 => ⟨S2x8192x4x128, .f32⟩
  | 103 => ⟨S2x8192x4x128, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S2x8192x4x64, .f32⟩
  | 113 => ⟨S8192x1, .f32⟩
  | 114 => ⟨S1x32, .f32⟩
  | 115 => ⟨S8192x32, .f32⟩
  | 116 => ⟨S8192x32, .f32⟩
  | 117 => ⟨S8192x32, .f32⟩
  | 118 => ⟨S8192x32, .f32⟩
  | 119 => ⟨S1x8192x1x32, .f32⟩
  | 120 => ⟨S8192x32, .f32⟩
  | 121 => ⟨S1x8192x1x32, .f32⟩
  | 122 => ⟨S2x8192x4x32, .f32⟩
  | 123 => ⟨S2x8192x4x32, .f32⟩
  | 124 => ⟨S2x8192x4x32, .f32⟩
  | 125 => ⟨S2x8192x4x32, .f32⟩
  | 126 => ⟨S2x8192x4x32, .f32⟩
  | 127 => ⟨S2x8192x4x32, .f32⟩
  | _ => ⟨S2x8192x1024, .f32⟩

abbrev hbmTy0_1 (i : Nat) : BufTy := match i % 128 with
  | 0 => ⟨S2x8192x4x32, .f32⟩
  | 1 => ⟨S2x8192x4x32, .f32⟩
  | 2 => ⟨S2x8192x4x32, .f32⟩
  | 3 => ⟨S2x8192x4x32, .f32⟩
  | 4 => ⟨S2x8192x4x32, .f32⟩
  | 5 => ⟨S2x8192x4x32, .f32⟩
  | 6 => ⟨S2x8192x4x64, .f32⟩
  | 7 => ⟨S2x8192x4x64, .f32⟩
  | 8 => ⟨S8192x1, .f32⟩
  | 9 => ⟨S1x32, .f32⟩
  | 10 => ⟨S8192x32, .f32⟩
  | 11 => ⟨S8192x32, .f32⟩
  | 12 => ⟨S8192x32, .f32⟩
  | 13 => ⟨S8192x32, .f32⟩
  | 14 => ⟨S1x8192x1x32, .f32⟩
  | 15 => ⟨S8192x32, .f32⟩
  | 16 => ⟨S1x8192x1x32, .f32⟩
  | 17 => ⟨S2x8192x4x32, .f32⟩
  | 18 => ⟨S2x8192x4x32, .f32⟩
  | 19 => ⟨S2x8192x4x32, .f32⟩
  | 20 => ⟨S2x8192x4x32, .f32⟩
  | 21 => ⟨S2x8192x4x32, .f32⟩
  | 22 => ⟨S2x8192x4x32, .f32⟩
  | 23 => ⟨S2x8192x4x32, .f32⟩
  | 24 => ⟨S2x8192x4x32, .f32⟩
  | 25 => ⟨S2x8192x4x32, .f32⟩
  | 26 => ⟨S2x8192x4x32, .f32⟩
  | 27 => ⟨S2x8192x4x32, .f32⟩
  | 28 => ⟨S2x8192x4x32, .f32⟩
  | 29 => ⟨S2x8192x4x64, .f32⟩
  | 30 => ⟨S2x8192x4x128, .f32⟩
  | 31 => ⟨S2x8192x512, .f32⟩
  | 32 => ⟨S2x8192x8192, .f32⟩
  | 33 => ⟨S16384x8192, .f32⟩
  | 34 => ⟨S_, .f32⟩
  | 35 => ⟨S2x8192x96, .f32⟩
  | 36 => ⟨S2x8192x128, .f32⟩
  | 37 => ⟨S16384x128, .f32⟩
  | 38 => ⟨S16384x8192, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_5 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_6 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_cst_8 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩

abbrev nD : Nat := 1
abbrev τ : Topo := Topo.v7x

variable {F : FTy → Type} [FloatOps F]
-- ==== Kernel3.lean ====
abbrev S16384x1024 : Shape := ⟨2, ![16384, 1024]⟩
abbrev S16384x8192 : Shape := ⟨2, ![16384, 8192]⟩
abbrev S2x8192x1024 : Shape := ⟨3, ![2, 8192, 1024]⟩
abbrev S2x1x1024 : Shape := ⟨3, ![2, 1, 1024]⟩
abbrev S1x1024 : Shape := ⟨2, ![1, 1024]⟩
abbrev S1x256 : Shape := ⟨2, ![1, 256]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S1024x128 : Shape := ⟨2, ![1024, 128]⟩
abbrev S1024x4 : Shape := ⟨2, ![1024, 4]⟩
abbrev S1 : Shape := ⟨1, ![1]⟩
abbrev S1024x32 : Shape := ⟨2, ![1024, 32]⟩
abbrev S1024x256 : Shape := ⟨2, ![1024, 256]⟩
abbrev S1x128 : Shape := ⟨2, ![1, 128]⟩
abbrev S4 : Shape := ⟨1, ![4]⟩
abbrev S2 : Shape := ⟨1, ![2]⟩
abbrev S32 : Shape := ⟨1, ![32]⟩
abbrev S1024 : Shape := ⟨1, ![1024]⟩
abbrev S1x1x1024 : Shape := ⟨3, ![1, 1, 1024]⟩
abbrev S256 : Shape := ⟨1, ![256]⟩
abbrev S4x256 : Shape := ⟨2, ![4, 256]⟩
abbrev S1024x1024 : Shape := ⟨2, ![1024, 1024]⟩
abbrev S512x512 : Shape := ⟨2, ![512, 512]⟩
abbrev S131072x128 : Shape := ⟨2, ![131072, 128]⟩
abbrev S8x16384 : Shape := ⟨2, ![8, 16384]⟩
abbrev S32x128 : Shape := ⟨2, ![32, 128]⟩
abbrev S512x1024 : Shape := ⟨2, ![512, 1024]⟩
abbrev S4096x128 : Shape := ⟨2, ![4096, 128]⟩
abbrev S8x512 : Shape := ⟨2, ![8, 512]⟩
abbrev S256x1024 : Shape := ⟨2, ![256, 1024]⟩
abbrev S256x256 : Shape := ⟨2, ![256, 256]⟩
abbrev S256x1 : Shape := ⟨2, ![256, 1]⟩
abbrev S256x128 : Shape := ⟨2, ![256, 128]⟩
abbrev S2048x128 : Shape := ⟨2, ![2048, 128]⟩
abbrev S512x128 : Shape := ⟨2, ![512, 128]⟩
abbrev S128x512 : Shape := ⟨2, ![128, 512]⟩
abbrev S1x512 : Shape := ⟨2, ![1, 512]⟩
abbrev S512 : Shape := ⟨1, ![512]⟩
abbrev S2x512 : Shape := ⟨2, ![2, 512]⟩
abbrev S32x512 : Shape := ⟨2, ![32, 512]⟩
abbrev S32x1 : Shape := ⟨2, ![32, 1]⟩
abbrev S4x512 : Shape := ⟨2, ![4, 512]⟩
abbrev S6x512 : Shape := ⟨2, ![6, 512]⟩

abbrev nBuf : Space → Nat
  | .hbm => 74
  | .vmem => 41
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x8192, .bf16⟩
  | .hbm, ⟨5, _⟩ => ⟨S2x8192x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .hbm, ⟨10, _⟩ => ⟨S1x256, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x4, .f32⟩
  | .hbm, ⟨15, _⟩ => ⟨S1x4, .f32⟩
  | .hbm, ⟨16, _⟩ => ⟨S1x1024x32, .f32⟩
  | .hbm, ⟨17, _⟩ => ⟨S1x32, .f32⟩
  | .hbm, ⟨18, _⟩ => ⟨S16384x1024, .f32⟩
  | .hbm, ⟨19, _⟩ => ⟨S_, .f32⟩
  | .hbm, ⟨20, _⟩ => ⟨S1024x128, .f32⟩
  | .hbm, ⟨21, _⟩ => ⟨S1024x4, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S1024x32, .f32⟩
  | .hbm, ⟨26, _⟩ => ⟨S_, .i32⟩
  | .hbm, ⟨27, _⟩ => ⟨S1, .i32⟩
  | .hbm, ⟨28, _⟩ => ⟨S1024x128, .f32⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S1024x256, .bf16⟩
  | .hbm, ⟨34, _⟩ => ⟨S_, .f32⟩
  | .hbm, ⟨35, _⟩ => ⟨S1x128, .f32⟩
  | .hbm, ⟨36, _⟩ => ⟨S4, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S32, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S1x128, .f32⟩
  | .hbm, ⟨50, _⟩ => ⟨S1024, .f32⟩
  | .hbm, ⟨51, _⟩ => ⟨S1x1x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x1x1024, .f32⟩
  | .hbm, ⟨56, _⟩ => ⟨S2x1x1024, .f32⟩
  | .hbm, ⟨57, _⟩ => ⟨S256, .f32⟩
  | .hbm, ⟨58, _⟩ => ⟨S1x256, .f32⟩
  | .hbm, ⟨59, _⟩ => ⟨S4x256, .f32⟩
  | .hbm, ⟨60, _⟩ => ⟨S1024, .f32⟩
  | .hbm, ⟨61, _⟩ => ⟨S1x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S512x512, .i32⟩
  | .hbm, ⟨66, _⟩ => ⟨S512x512, .i32⟩
  | .hbm, ⟨67, _⟩ => ⟨S512x512, .i1⟩
  | .hbm, ⟨68, _⟩ => ⟨S512x512, .bf16⟩
  | .hbm, ⟨69, _⟩ => ⟨S16384x1024, .f32⟩
  | .hbm, ⟨70, _⟩ => ⟨S131072x128, .f32⟩
  | .hbm, ⟨71, _⟩ => ⟨S8x16384, .i32⟩
  | .hbm, ⟨72, _⟩ => ⟨S8x16384, .f32⟩
  | .hbm, ⟨73, _⟩ => ⟨S32x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1024x256, .bf16⟩
  | .local _ .vmem, ⟨26, _⟩ => ⟨S1x128, .f32⟩
  | .local _ .vmem, ⟨27, _⟩ => ⟨S512x512, .bf16⟩
  | .local _ .vmem, ⟨28, _⟩ => ⟨S512x1024, .f32⟩
  | .local _ .vmem, ⟨29, _⟩ => ⟨S512x1024, .f32⟩
  | .local _ .vmem, ⟨30, _⟩ => ⟨S4096x128, .f32⟩
  | .local _ .vmem, ⟨31, _⟩ => ⟨S4096x128, .f32⟩
  | .local _ .vmem, ⟨32, _⟩ => ⟨S8x512, .i32⟩
  | .local _ .vmem, ⟨33, _⟩ => ⟨S8x512, .i32⟩
  | .local _ .vmem, ⟨34, _⟩ => ⟨S8x512, .f32⟩
  | .local _ .vmem, ⟨35, _⟩ => ⟨S8x512, .f32⟩
  | .local _ .vmem, ⟨36, _⟩ => ⟨S32x128, .i32⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42_0 : Ref sig .tc := ⟨.hbm, 69, rfl⟩
abbrev main_v42_1 : Ref sig .tc := ⟨.hbm, 70, rfl⟩
abbrev main_v42_2 : Ref sig .tc := ⟨.hbm, 71, rfl⟩
abbrev main_v42_3 : Ref sig .tc := ⟨.hbm, 72, rfl⟩
abbrev main_v42_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4096x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S32x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference3Ideal.lean ====
abbrev S16384x1024 : Shape := ⟨2, ![16384, 1024]⟩
abbrev S16384x8192 : Shape := ⟨2, ![16384, 8192]⟩
abbrev S2x8192x1024 : Shape := ⟨3, ![2, 8192, 1024]⟩
abbrev S2x1x1024 : Shape := ⟨3, ![2, 1, 1024]⟩
abbrev S1x1024 : Shape := ⟨2, ![1, 1024]⟩
abbrev S1x256 : Shape := ⟨2, ![1, 256]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S16384x4x256 : Shape := ⟨3, ![16384, 4, 256]⟩
abbrev S256 : Shape := ⟨1, ![256]⟩
abbrev S_ : Shape := ⟨0, ![]⟩
abbrev S16384x4 : Shape := ⟨2, ![16384, 4]⟩
abbrev S16384x4x1 : Shape := ⟨3, ![16384, 4, 1]⟩
abbrev S1x1x256 : Shape := ⟨3, ![1, 1, 256]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S131072x128 : Shape := ⟨2, ![131072, 128]⟩

abbrev nBuf : Space → Nat
  | .hbm => 153
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S16384x1024, .bf16⟩
  | 4 => ⟨S16384x8192, .bf16⟩
  | 5 => ⟨S2x8192x1024, .f32⟩
  | 6 => ⟨S2x1x1024, .f32⟩
  | 7 => ⟨S2x1x1024, .f32⟩
  | 8 => ⟨S2x1x1024, .f32⟩
  | 9 => ⟨S1x1024, .f32⟩
  | 10 => ⟨S1x256, .f32⟩
  | 11 => ⟨S1x1024x1024, .f32⟩
  | 12 => ⟨S1x1024x1024, .f32⟩
  | 13 => ⟨S1x1024x1024, .f32⟩
  | 14 => ⟨S1x1024x4, .f32⟩
  | 15 => ⟨S1x4, .f32⟩
  | 16 => ⟨S1x1024x32, .f32⟩
  | 17 => ⟨S1x32, .f32⟩
  | 18 => ⟨S16384x1024, .bf16⟩
  | 19 => ⟨S16384x1024, .f32⟩
  | 20 => ⟨S16384x1024, .bf16⟩
  | 21 => ⟨S16384x1024, .f32⟩
  | 22 => ⟨S16384x1024, .bf16⟩
  | 23 => ⟨S16384x1024, .f32⟩
  | 24 => ⟨S16384x1024, .bf16⟩
  | 25 => ⟨S16384x1024, .f32⟩
  | 26 => ⟨S16384x1024, .f32⟩
  | 27 => ⟨S16384x1024, .f32⟩
  | 28 => ⟨S16384x1024, .f32⟩
  | 29 => ⟨S16384x4x256, .f32⟩
  | 30 => ⟨S256, .f32⟩
  | 31 => ⟨S16384x4x256, .f32⟩
  | 32 => ⟨S_, .f32⟩
  | 33 => ⟨S16384x4, .f32⟩
  | 34 => ⟨S16384x4x1, .f32⟩
  | 35 => ⟨S_, .f32⟩
  | 36 => ⟨S16384x4x1, .f32⟩
  | 37 => ⟨S16384x4x1, .f32⟩
  | 38 => ⟨S_, .f32⟩
  | 39 => ⟨S16384x4x1, .f32⟩
  | 40 => ⟨S16384x4x1, .f32⟩
  | 41 => ⟨S16384x4x1, .f32⟩
  | 42 => ⟨S16384x4x256, .f32⟩
  | 43 => ⟨S16384x4x256, .f32⟩
  | 44 => ⟨S1x1x256, .f32⟩
  | 45 => ⟨S16384x4x256, .f32⟩
  | 46 => ⟨S16384x4x256, .f32⟩
  | 47 => ⟨S16384x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x4x256, .f32⟩
  | 62 => ⟨S_, .f32⟩
  | 63 => ⟨S16384x4, .f32⟩
  | 64 => ⟨S16384x4x1, .f32⟩
  | 65 => ⟨S_, .f32⟩
  | 66 => ⟨S16384x4x1, .f32⟩
  | 67 => ⟨S16384x4x1, .f32⟩
  | 68 => ⟨S16384x4x256, .f32⟩
  | 69 => ⟨S16384x4x256, .f32⟩
  | 70 => ⟨S16384x4x256, .f32⟩
  | 71 => ⟨S16384x4x256, .f32⟩
  | 72 => ⟨S16384x4x256, .f32⟩
  | 73 => ⟨S_, .f32⟩
  | 74 => ⟨S16384x4, .f32⟩
  | 75 => ⟨S16384x4x1, .f32⟩
  | 76 => ⟨S_, .f32⟩
  | 77 => ⟨S16384x4x1, .f32⟩
  | 78 => ⟨S16384x4x1, .f32⟩
  | 79 => ⟨S16384x4x256, .f32⟩
  | 80 => ⟨S16384x4x256, .f32⟩
  | 81 => ⟨S_, .f32⟩
  | 82 => ⟨S16384x4x1, .f32⟩
  | 83 => ⟨S16384x4x1, .f32⟩
  | 84 => ⟨S16384x4x1, .f32⟩
  | 85 => ⟨S16384x4x256, .f32⟩
  | 86 => ⟨S16384x4x256, .f32⟩
  | 87 => ⟨S16384x1024, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | 93 => ⟨S_, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S_, .f32⟩
  | 101 => ⟨S16384x1024, .f32⟩
  | 102 => ⟨S16384x1024, .f32⟩
  | 103 => ⟨S_, .f32⟩
  | 104 => ⟨S16384x1024, .f32⟩
  | 105 => ⟨S16384x1024, .f32⟩
  | 106 => ⟨S1024x1024, .f32⟩
  | 107 => ⟨S16384x1024, .f32⟩
  | 108 => ⟨S16384x1024, .f32⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S1024x1024, .f32⟩
  | 118 => ⟨S16384x1024, .f32⟩
  | 119 => ⟨S16384x1024, .f32⟩
  | 120 => ⟨S16384x1024, .f32⟩
  | 121 => ⟨S1024x1024, .f32⟩
  | 122 => ⟨S16384x1024, .f32⟩
  | 123 => ⟨S2x8192x1024, .f32⟩
  | 124 => ⟨S2x8192x1024, .f32⟩
  | 125 => ⟨S2x8192x1024, .f32⟩
  | 126 => ⟨S2x8192x1024, .f32⟩
  | 127 => ⟨S1024, .f32⟩
  | _ => ⟨S16384x1024, .bf16⟩

abbrev hbmTy0_1 (i : Nat) : BufTy := match i % 128 with
  | 0 => ⟨S2x8192x1024, .f32⟩
  | 1 => ⟨S_, .f32⟩
  | 2 => ⟨S2x8192, .f32⟩
  | 3 => ⟨S2x8192x1, .f32⟩
  | 4 => ⟨S_, .f32⟩
  | 5 => ⟨S2x8192x1, .f32⟩
  | 6 => ⟨S2x8192x1, .f32⟩
  | 7 => ⟨S_, .f32⟩
  | 8 => ⟨S2x8192x1, .f32⟩
  | 9 => ⟨S2x8192x1, .f32⟩
  | 10 => ⟨S2x8192x1, .f32⟩
  | 11 => ⟨S2x8192x1024, .f32⟩
  | 12 => ⟨S2x8192x1024, .f32⟩
  | 13 => ⟨S1x1x1024, .f32⟩
  | 14 => ⟨S2x8192x1024, .f32⟩
  | 15 => ⟨S2x8192x1024, .f32⟩
  | 16 => ⟨S_, .f32⟩
  | 17 => ⟨S2x1x1024, .f32⟩
  | 18 => ⟨S2x1x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S16384x1024, .f32⟩
  | 24 => ⟨S131072x128, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_v96 : Ref sig .tc := ⟨.hbm, 131, rfl⟩
abbrev main_cst_16 : Ref sig .tc := ⟨.hbm, 132, rfl⟩
abbrev main_v97 : Ref sig .tc := ⟨.hbm, 133, rfl⟩
abbrev main_v98 : Ref sig .tc := ⟨.hbm, 134, rfl⟩
abbrev main_cst_17 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_18 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== Proof.Wprep.lean ====
/- The weight preparation call: what its two result arrays hold, index by index. -/
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise.SelectCore

@[expose] public section

set_option maxRecDepth 16384

noncomputable section

namespace Cert.KernelIdeal.Wprep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The row of the transposed weight from which row `r` of the first result is read: the thirty-two low-rank
    columns 3072..3103 are passed over. -/
abbrev srcRow (r : Nat) : Nat := if r < 3072 then r else r + 32

/-- The first result as a function of the transposed weight. -/
def mainOf (wt : Vec F S8224x1024 .f32) : Vec F S8192x1024 .bf16 := fun i =>
  FloatOps.truncf .bf16 bitsLt_bf16_f32 (wt (Fin.cons ⟨srcRow (i 0).val, by
    have : (i 0).val < 8192 := (i 0).isLt; show srcRow _ < 8224; unfold srcRow; split <;> omega⟩
    (Fin.cons ⟨(i 1).val, (i 1).isLt⟩ finZeroElim)))

/-- The second result: the thirty-two low-rank rows, then zeros. -/
def lrOf (wt : Vec F S8224x1024 .f32) : Vec F S128x1024 .bf16 := fun i =>
  FloatOps.truncf .bf16 bitsLt_bf16_f32 (if h : (i 0).val < 32 then wt (Fin.cons ⟨3072 + (i 0).val, by
    show _ < 8224; omega⟩ (Fin.cons ⟨(i 1).val, (i 1).isLt⟩ finZeroElim)) else Scalar.ofBits .f32 0x00000000#32)

/-- The first result array after the run. -/
theorem final_main (c : Dev nD) : (dats m 0 c).arrAt 2 cfg0.N = mainOf (V m c main_v1) := by
  refine (dats m 0 c).arrAt_eq_of_covers 2 _ (by decide +kernel) fun t hf y => ?_
  blk_simp
  rw [after0_2]
  frame_out
  have e2 : ∀ t : Fin cfg0.N, win0_2.index t = ![(grid0.coords t 0).val, 0] := (by decide +kernel : ∀ t : Fin grid0.N, _)
  have e0 : ∀ t : Fin cfg0.N, win0_0.index t = ![if (grid0.coords t 0).val < 3 then (grid0.coords t 0).val * 1024 else (grid0.coords t 0).val * 1024 + 32, 0] := (by decide +kernel : ∀ t : Fin grid0.N, _)
  refine congrArg (FloatOps.truncf .bf16 bitsLt_bf16_f32) ?_
  refine (shapeCast_apply (iblk m c 0 t) shapeCasts_S1024x1024_S1024x1024 (y : S1024x1024.Idx) y rfl).trans ?_
  refine congrArg (V m c main_v1) (funext fun a => Fin.ext ?_)
  have hy : (y 0).val < 1024 := (y 0).isLt
  match a with
  | ⟨0, _⟩ =>
    refine (Pipeline.Window.rect_emb_val_off win0_0 t y 0).trans ?_
    rw [e0]
    show _ = srcRow (((win0_2.rect t).emb y 0 : Fin _) : Nat)
    rw [Pipeline.Window.rect_emb_val_off win0_2 t y 0, e2]
    show (if (grid0.coords t 0).val < 3 then (grid0.coords t 0).val * 1024 else (grid0.coords t 0).val * 1024 + 32) + (y 0).val
      = srcRow ((grid0.coords t 0).val * 1024 + (y 0).val)
    unfold srcRow
    split <;> split <;> omega
  | ⟨1, _⟩ =>
    refine (Pipeline.Window.rect_emb_val_off win0_0 t y 1).trans ?_
    rw [e0]
    show _ = (((win0_2.rect t).emb y 1 : Fin _) : Nat)
    rw [Pipeline.Window.rect_emb_val_off win0_2 t y 1, e2]
    rfl

/-- The second result array after the run. -/
theorem final_lr (c : Dev nD) : (dats m 0 c).arrAt 3 cfg0.N = lrOf (V m c main_v1) := by
  refine (dats m 0 c).arrAt_eq_of_covers 3 _ (by decide +kernel) fun t hf y => ?_
  blk_simp
  rw [after0_3]
  frame_out
  have e3 : ∀ t : Fin cfg0.N, win0_3.index t = ![0, 0] := (by decide +kernel : ∀ t : Fin grid0.N, _)
  have e1 : ∀ t : Fin cfg0.N, win0_1.index t = ![3072, 0] := (by decide +kernel : ∀ t : Fin grid0.N, _)
  have hy : ((win0_3.rect t).emb y : S128x1024.Idx) = y := funext fun a => Fin.ext (by
    rw [Pipeline.Window.rect_emb_val_off win0_3 t y a, e3]
    match a with | ⟨0, _⟩ => exact (show 0 * 128 + (y 0).val = (y 0).val by omega) | ⟨1, _⟩ => exact (show 0 * 1024 + (y 1).val = (y 1).val by omega))
  show _ = lrOf _ ((win0_3.rect t).emb y)
  rw [hy]
  refine congrArg (FloatOps.truncf .bf16 bitsLt_bf16_f32) ?_
  by_cases h : ((y : S128x1024.Idx) 0).val < 32
  · rw [dif_pos h]
    refine (concatenate_pair_apply _ _ _ _ _).trans ((dif_pos h).trans ?_)
    refine (shapeCast_apply (iblk m c 1 t) shapeCasts_S32x1024_S32x1024 _ _ rfl).trans ?_
    refine congrArg (V m c main_v1) (funext fun a => Fin.ext ?_)
    match a with
    | ⟨0, _⟩ =>
      refine (Pipeline.Window.rect_emb_val_off win0_1 t _ 0).trans ?_
      rw [e1]; rfl
    | ⟨1, _⟩ =>
      refine (Pipeline.Window.rect_emb_val_off win0_1 t _ 1).trans ?_
      rw [e1]; exact Nat.zero_add _
  · rw [dif_neg h]
    exact (concatenate_pair_apply _ _ _ _ _).trans (dif_neg h)

/-- The transposed weight when the region is entered. -/
theorem entry_wt (c : Dev nD) : V m c main_v1 = transpose S8224x1024 [1, 0]
    (shapeCast S1024x8224 (m ((c.tc : Thread nD τ).loc main_arg0)) shapeCasts_S1x1024x8224_S1024x8224) transposes_S1024x8224_S8224x1024_1_0 := by
  unfold V hostOps0
  after_results <;> rfl

/-- The two row ranges set one above the other are the first result. -/
theorem ref_main (wt : Vec F S8224x1024 .f32) :
    truncf .bf16 (concatenate ReferenceIdeal.S8192x1024 0 [⟨ReferenceIdeal.S3072x1024, extractStridedSlice ReferenceIdeal.S3072x1024 ![0, 0] wt ReferenceIdeal.Facts₀.slices_S8224x1024_S3072x1024_0_0⟩,
      ⟨ReferenceIdeal.S5120x1024, extractStridedSlice ReferenceIdeal.S5120x1024 ![3104, 0] wt ReferenceIdeal.Facts₀.slices_S8224x1024_S5120x1024_3104_0⟩] ReferenceIdeal.Facts₀.concatenates_S3072x1024_S5120x1024_S8192x1024_d0) bitsLt_bf16_f32
      = mainOf wt := by
  funext y
  refine congrArg (FloatOps.truncf .bf16 bitsLt_bf16_f32) ?_
  by_cases h : ((y : S8192x1024.Idx) 0).val < 3072
  · refine (concatenate_pair_apply _ _ _ _ _).trans ((dif_pos h).trans ?_)
    refine congrArg wt (funext fun a => Fin.ext ?_)
    match a with
    | ⟨0, _⟩ => show 0 + _ = srcRow (y 0).val; rw [srcRow, if_pos h]; exact Nat.zero_add _
    | ⟨1, _⟩ => exact Nat.zero_add _
  · refine (concatenate_pair_apply _ _ _ _ _).trans ((dif_neg h).trans ?_)
    refine congrArg wt (funext fun a => Fin.ext ?_)
    match a with
    | ⟨0, _⟩ =>
      show 3104 + ((y 0).val - 3072) = srcRow (y 0).val
      rw [srcRow, if_neg h]; omega
    | ⟨1, _⟩ => exact Nat.zero_add _

/-- The low-rank rows over ninety-six rows of zeros are the second result. -/
theorem ref_lr (wt : Vec F S8224x1024 .f32) :
    truncf .bf16 (concatenate ReferenceIdeal.S128x1024 0 [⟨ReferenceIdeal.S32x1024, extractStridedSlice ReferenceIdeal.S32x1024 ![3072, 0] wt ReferenceIdeal.Facts₀.slices_S8224x1024_S32x1024_3072_0⟩,
      ⟨ReferenceIdeal.S96x1024, broadcastInDim ReferenceIdeal.S96x1024 ![] ReferenceIdeal.Facts₀.bcast_S_S96x1024 (constant ReferenceIdeal.S_ .f32 0x00000000#32)⟩] ReferenceIdeal.Facts₀.concatenates_S32x1024_S96x1024_S128x1024_d0) bitsLt_bf16_f32
      = lrOf wt := by
  funext y
  refine congrArg (FloatOps.truncf .bf16 bitsLt_bf16_f32) ?_
  by_cases h : ((y : S128x1024.Idx) 0).val < 32
  · refine (concatenate_pair_apply _ _ _ _ _).trans ((dif_pos h).trans ?_)
    rw [dif_pos h]
    refine congrArg wt (funext fun a => Fin.ext ?_)
    match a with
    | ⟨0, _⟩ => rfl
    | ⟨1, _⟩ => exact Nat.zero_add _
  · refine (concatenate_pair_apply _ _ _ _ _).trans ((dif_neg h).trans ?_)
    rw [dif_neg h]
    rfl

end Cert.KernelIdeal.Wprep
end
-- ==== Proof.ProjDefs.lean ====
/-  What the projection call's body leaves in its buffers, case by case, and when each case runs. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rX0 : Rect S1024x1024 := Rect.unit (s := S1024x1024) ![0, 0] S256x1024.size inb_S1024x1024_S256x1024_0_0
abbrev rX1 : Rect S1024x1024 := Rect.unit (s := S1024x1024) ![256, 0] S256x1024.size inb_S1024x1024_S256x1024_256_0
abbrev rX2 : Rect S1024x1024 := Rect.unit (s := S1024x1024) ![512, 0] S256x1024.size inb_S1024x1024_S256x1024_512_0
abbrev rX3 : Rect S1024x1024 := Rect.unit (s := S1024x1024) ![768, 0] S256x1024.size inb_S1024x1024_S256x1024_768_0
abbrev rL0 : Rect S1024x128 := Rect.unit (s := S1024x128) ![0, 0] S256x128.size inb_S1024x128_S256x128_0_0
abbrev rL1 : Rect S1024x128 := Rect.unit (s := S1024x128) ![256, 0] S256x128.size inb_S1024x128_S256x128_256_0
abbrev rL2 : Rect S1024x128 := Rect.unit (s := S1024x128) ![512, 0] S256x128.size inb_S1024x128_S256x128_512_0
abbrev rL3 : Rect S1024x128 := Rect.unit (s := S1024x128) ![768, 0] S256x128.size inb_S1024x128_S256x128_768_0
abbrev rO0 : Rect S1024x2048 := Rect.unit (s := S1024x2048) ![0, 0] S256x2048.size inb_S1024x2048_S256x2048_0_0
abbrev rO1 : Rect S1024x2048 := Rect.unit (s := S1024x2048) ![256, 0] S256x2048.size inb_S1024x2048_S256x2048_256_0
abbrev rO2 : Rect S1024x2048 := Rect.unit (s := S1024x2048) ![512, 0] S256x2048.size inb_S1024x2048_S256x2048_512_0
abbrev rO3 : Rect S1024x2048 := Rect.unit (s := S1024x2048) ![768, 0] S256x2048.size inb_S1024x2048_S256x2048_768_0
abbrev rM : Rect S1x1x1024 := Rect.unit (s := S1x1x1024) ![0, 0, 0] S1x1x1024.size inb_S1x1x1024_S1x1x1024_0_0_0
abbrev rG : Rect S1x1024 := Rect.unit (s := S1x1024) ![0, 0] S1x1024.size inb_S1x1024_S1x1024_0_0
abbrev rW : Rect S2048x1024 := Rect.unit (s := S2048x1024) ![0, 0] S2048x1024.size inb_S2048x1024_S2048x1024_0_0
abbrev rR : Rect S128x1024 := Rect.unit (s := S128x1024) ![0, 0] S128x1024.size inb_S128x1024_S128x1024_0_0
abbrev rH : Rect S1024x1024 := Rect.unit (s := S1024x1024) ![0, 0] S1024x1024.size inb_S1024x1024_S1024x1024_0_0
abbrev rO : Rect S1024x2048 := Rect.unit (s := S1024x2048) ![0, 0] S1024x2048.size inb_S1024x2048_S1024x2048_0_0
abbrev rC : Rect S1024x128 := Rect.unit (s := S1024x128) ![0, 0] S1024x128.size inb_S1024x128_S1024x128_0_0
abbrev rWp0 : Rect S2048x1024 := Rect.unit (s := S2048x1024) ![1024, 0] S256x1024.size inb_S2048x1024_S256x1024_1024_0
abbrev rWp1 : Rect S2048x1024 := Rect.unit (s := S2048x1024) ![1280, 0] S256x1024.size inb_S2048x1024_S256x1024_1280_0
abbrev rWp2 : Rect S2048x1024 := Rect.unit (s := S2048x1024) ![1536, 0] S256x1024.size inb_S2048x1024_S256x1024_1536_0
abbrev rWp3 : Rect S2048x1024 := Rect.unit (s := S2048x1024) ![1792, 0] S256x1024.size inb_S2048x1024_S256x1024_1792_0
abbrev rWt : Rect S2048x1024 := Rect.unit (s := S2048x1024) ![0, 0] S1024x1024.size inb_S2048x1024_S1024x1024_0_0
abbrev rB0 : Rect S1024x2048 := Rect.unit (s := S1024x2048) ![0, 1024] S1024x128.size inb_S1024x2048_S1024x128_0_1024
abbrev rB1 : Rect S1024x2048 := Rect.unit (s := S1024x2048) ![0, 1152] S1024x128.size inb_S1024x2048_S1024x128_0_1152
abbrev rB2 : Rect S1024x2048 := Rect.unit (s := S1024x2048) ![0, 1280] S1024x128.size inb_S1024x2048_S1024x128_0_1280
abbrev rB3 : Rect S1024x2048 := Rect.unit (s := S1024x2048) ![0, 1408] S1024x128.size inb_S1024x2048_S1024x128_0_1408
abbrev rB4 : Rect S1024x2048 := Rect.unit (s := S1024x2048) ![0, 1536] S1024x128.size inb_S1024x2048_S1024x128_0_1536
abbrev rB5 : Rect S1024x2048 := Rect.unit (s := S1024x2048) ![0, 1664] S1024x128.size inb_S1024x2048_S1024x128_0_1664
abbrev rB6 : Rect S1024x2048 := Rect.unit (s := S1024x2048) ![0, 1792] S1024x128.size inb_S1024x2048_S1024x128_0_1792
abbrev rB7 : Rect S1024x2048 := Rect.unit (s := S1024x2048) ![0, 1920] S1024x128.size inb_S1024x2048_S1024x128_0_1920
abbrev rBt : Rect S1024x2048 := Rect.unit (s := S1024x2048) ![0, 0] S1024x1024.size inb_S1024x2048_S1024x1024_0_0

/-! ## What the body leaves at the first column tile of a row tile -/

/-- The kept rows after the first column tile: four row groups of the normalised, modulated input. -/
def hA (x0 : Vec F S1024x1024 .f32) (x1 x2 : Vec F S1x1x1024 .f32) (x3 : Vec F S1x1024 .f32) : Vec F S1024x1024 .bf16 :=
  View.canon [⟨rX3, k1_pay2 (k1_pay20 (View.ld x0 rX3) (View.ld x3 rG) (View.ld x2 rM)) (View.ld x1 rM)⟩, ⟨rX2, k1_pay17 (k1_pay16 (View.ld x0 rX2) (View.ld x3 rG) (View.ld x2 rM) (View.ld x1 rM))⟩,
    ⟨rX1, k1_pay12 (View.ld x0 rX1) (View.ld x3 rG) (View.ld x2 rM) (View.ld x1 rM)⟩, ⟨rX0, k1_pay8 (View.ld x0 rX0) (View.ld x3 rG) (View.ld x2 rM) (View.ld x1 rM)⟩]

/-- The narrow result's block after the first column tile: each row group's product with the narrow weights. -/
def lrA (x0 : Vec F S1024x1024 .f32) (x1 x2 : Vec F S1x1x1024 .f32) (x3 : Vec F S1x1024 .f32) (x5 : Vec F S128x1024 .bf16) : Vec F S1024x128 .f32 :=
  View.canon [⟨rL3, k1_pay3 (k1_pay20 (View.ld x0 rX3) (View.ld x3 rG) (View.ld x2 rM)) (View.ld x1 rM) (View.ld x5 rR)⟩, ⟨rL2, k1_pay18 (k1_pay16 (View.ld x0 rX2) (View.ld x3 rG) (View.ld x2 rM) (View.ld x1 rM)) (View.ld x5 rR)⟩,
    ⟨rL1, k1_pay14 (k1_pay11 (View.ld x0 rX1) (View.ld x3 rG) (View.ld x2 rM) (View.ld x1 rM)) (k1_pay13 (View.ld x5 rR)) (constant S256x128 .f32 0x00000000#32)⟩, ⟨rL0, k1_pay9 (View.ld x0 rX0) (View.ld x3 rG) (View.ld x2 rM) (View.ld x1 rM) (View.ld x5 rR)⟩]

/-- The wide result's block after the first column tile: each row group's product with the tile's weights. -/
def oA (x0 : Vec F S1024x1024 .f32) (x1 x2 : Vec F S1x1x1024 .f32) (x3 : Vec F S1x1024 .f32) (x4 : Vec F S2048x1024 .bf16) : Vec F S1024x2048 .bf16 :=
  View.canon [⟨rO3, k1_pay4 (k1_pay20 (View.ld x0 rX3) (View.ld x3 rG) (View.ld x2 rM)) (View.ld x1 rM) (View.ld x4 rW)⟩, ⟨rO2, k1_pay19 (k1_pay16 (View.ld x0 rX2) (View.ld x3 rG) (View.ld x2 rM) (View.ld x1 rM)) (View.ld x4 rW)⟩,
    ⟨rO1, k1_pay15 (k1_pay11 (View.ld x0 rX1) (View.ld x3 rG) (View.ld x2 rM) (View.ld x1 rM)) (View.ld x4 rW)⟩, ⟨rO0, k1_pay10 (k1_pay7 (View.ld x0 rX0) (View.ld x3 rG) (View.ld x2 rM) (View.ld x1 rM)) (View.ld x4 rW)⟩]

/-- The wide result's block after the last two column tiles: the kept rows times the tile's weights. -/
def oC (h : Vec F S1024x1024 .bf16) (x4 : Vec F S2048x1024 .bf16) : Vec F S1024x2048 .bf16 :=
  View.canon [⟨rO, k1_pay5 (View.ld h rH) (View.ld x4 rW)⟩]

/-- The wide result's block after the rotated column tile: a plain product in the first 1024 columns, and eight
    rotated blocks of 128 columns in the others. -/
def oB (h : Vec F S1024x1024 .bf16) (x4 : Vec F S2048x1024 .bf16) (x6 x7 : Vec F S1024x128 .f32) : Vec F S1024x2048 .bf16 :=
  have v11 := View.ld h rH
  have v13 := k1_pay21 (View.ld x6 rC)
  have v15 := k1_pay22 (View.ld x7 rC)
  have v81 : BitVec 32 := Scalar.select (Scalar.cmpi .eq 64#32 0#32) 1#32 64#32
  View.canon [⟨rBt, k1_pay6 v11 (View.ld x4 rWt)⟩,
    ⟨rB7, k1_pay46 v13 v15 (k1_pay39 v11 (View.ld x4 rWp3))⟩,
    ⟨rB6, k1_pay45 v13 v15 (k1_pay40 v11 (View.ld x4 rWp3)) v81 k1_pay41 k1_pay42 k1_pay43 k1_pay44⟩,
    ⟨rB5, k1_pay38 v13 v15 (k1_pay36 v11 (View.ld x4 rWp2)) (iota .tc S1024x128 32 [1] iota_S1024x128_d1_w32) v81 k1_pay37⟩,
    ⟨rB4, k1_pay35 v11 v13 v15 (View.ld x4 rWp2)⟩,
    ⟨rB3, k1_pay33 v13 v15 (k1_pay27 v11 (View.ld x4 rWp1))⟩,
    ⟨rB2, k1_pay32 v13 v15 (k1_pay28 v11 (View.ld x4 rWp1)) v81 k1_pay29 k1_pay30 k1_pay31 (Scalar.cmpi .slt v81 0#32)⟩,
    ⟨rB1, k1_pay26 v13 v15 (k1_pay25 v11 (View.ld x4 rWp0)) (iota .tc S1024x128 32 [1] iota_S1024x128_d1_w32) 64#32⟩,
    ⟨rB0, k1_pay24 v11 (View.ld x6 rC) (View.ld x7 rC) (View.ld x4 rWp0)⟩]

/-! ## The stores cover the blocks -/

theorem cover_h (p0 p1 p2 p3 : Vec F S256x1024 .bf16) (y : S1024x1024.Idx) :
    ∃ pc ∈ ([⟨rX3, p3⟩, ⟨rX2, p2⟩, ⟨rX1, p1⟩, ⟨rX0, p0⟩] : List (View.Piece (Elt F) S1024x1024 .bf16)), y ∈ pc.1.set :=
  View.cover_of_tiled [⟨rX3, p3⟩, ⟨rX2, p2⟩, ⟨rX1, p1⟩, ⟨rX0, p0⟩] S256x1024.size (by rfl) y

theorem cover_lr (p0 p1 p2 p3 : Vec F S256x128 .f32) (y : S1024x128.Idx) :
    ∃ pc ∈ ([⟨rL3, p3⟩, ⟨rL2, p2⟩, ⟨rL1, p1⟩, ⟨rL0, p0⟩] : List (View.Piece (Elt F) S1024x128 .f32)), y ∈ pc.1.set :=
  View.cover_of_tiled [⟨rL3, p3⟩, ⟨rL2, p2⟩, ⟨rL1, p1⟩, ⟨rL0, p0⟩] S256x128.size (by rfl) y

theorem cover_oA (p0 p1 p2 p3 : Vec F S256x2048 .bf16) (y : S1024x2048.Idx) :
    ∃ pc ∈ ([⟨rO3, p3⟩, ⟨rO2, p2⟩, ⟨rO1, p1⟩, ⟨rO0, p0⟩] : List (View.Piece (Elt F) S1024x2048 .bf16)), y ∈ pc.1.set :=
  View.cover_of_tiled [⟨rO3, p3⟩, ⟨rO2, p2⟩, ⟨rO1, p1⟩, ⟨rO0, p0⟩] S256x2048.size (by rfl) y

theorem cover_oC (p0 : Vec F S1024x2048 .bf16) (y : S1024x2048.Idx) :
    ∃ pc ∈ ([⟨rO, p0⟩] : List (View.Piece (Elt F) S1024x2048 .bf16)), y ∈ pc.1.set :=
  View.cover_of_tiled [⟨rO, p0⟩] S1024x2048.size (by rfl) y

theorem cover_oB (p0 p1 p2 p3 p4 p5 p6 p7 : Vec F S1024x128 .bf16) (pt : Vec F S1024x1024 .bf16) (y : S1024x2048.Idx) :
    ∃ pc ∈ ([⟨rBt, pt⟩, ⟨rB7, p7⟩, ⟨rB6, p6⟩, ⟨rB5, p5⟩, ⟨rB4, p4⟩, ⟨rB3, p3⟩, ⟨rB2, p2⟩, ⟨rB1, p1⟩, ⟨rB0, p0⟩] : List (View.Piece (Elt F) S1024x2048 .bf16)), y ∈ pc.1.set :=
  View.cover_of_tiledBy [⟨rBt, pt⟩, ⟨rB7, p7⟩, ⟨rB6, p6⟩, ⟨rB5, p5⟩, ⟨rB4, p4⟩, ⟨rB3, p3⟩, ⟨rB2, p2⟩, ⟨rB1, p1⟩, ⟨rB0, p0⟩] S1024x128.size (by sl_kernel_rfl) y

/-! ## The branch conditions -/

/-- The first branch runs at the first column tile, -/
abbrev condA (i : grid1.Coords) : Prop := k1_cond1 i = 1#1
theorem hcondA : ∀ t : Fin cfg1.N, condA (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [condA, k1_cond1, e0, e1]
    word_cmp
   : ∀ t : Fin grid1.N, condA (grid1.coords t) ↔ t.val % 4 = 0)

/-- the second at the third and fourth, -/
abbrev condC (i : grid1.Coords) : Prop := k1_cond2 i = 1#1
theorem hcondC : ∀ t : Fin cfg1.N, condC (grid1.coords t) ↔ 2 ≤ t.val % 4 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [condC, k1_cond2, e0, e1]
    word_cmp
   : ∀ t : Fin grid1.N, condC (grid1.coords t) ↔ 2 ≤ t.val % 4)

/-- and the third at the second. -/
abbrev condB (i : grid1.Coords) : Prop := k1_cond3 i = 1#1
theorem hcondB : ∀ t : Fin cfg1.N, condB (grid1.coords t) ↔ t.val % 4 = 1 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [condB, k1_cond3, e0, e1]
    word_cmp
   : ∀ t : Fin grid1.N, condB (grid1.coords t) ↔ t.val % 4 = 1)

end Cert.Kernel2Ideal.Proj

end
-- ==== Proof.RegWprep.lean ====
/-  The weight-preparing call of the joined program: what its body leaves, and the body obligation. -/
module

public import proofs.«01_k».proof.Proof.ProjDefs

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks the body is handed -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

abbrev rMain : Rect S1024x1024 := Rect.unit (s := S1024x1024) ![0, 0] S1024x1024.size inb_S1024x1024_S1024x1024_0_0
abbrev rSrc : Rect S32x1024 := Rect.unit (s := S32x1024) ![0, 0] S32x1024.size inb_S32x1024_S32x1024_0_0
abbrev rNarrow : Rect S128x1024 := Rect.unit (s := S128x1024) ![0, 0] S128x1024.size inb_S128x1024_S128x1024_0_0

/-- The wide weights' block the body leaves, from the block it reads. -/
def outMain (x0 : Vec F S1024x1024 .f32) : Vec F S1024x1024 .bf16 := View.canon [⟨rMain, k0_pay1 (View.ld x0 rMain)⟩]

/-- The narrow weights' block the body leaves, from the 32 rows it reads. -/
def outNarrow (x1 : Vec F S32x1024 .f32) : Vec F S128x1024 .bf16 := View.canon [⟨rNarrow, k0_pay2 (View.ld x1 rSrc)⟩]

theorem cover_main (p0 : Vec F S1024x1024 .bf16) (y : S1024x1024.Idx) :
    ∃ pc ∈ ([⟨rMain, p0⟩] : List (View.Piece (Elt F) S1024x1024 .bf16)), y ∈ pc.1.set :=
  View.cover_of_tiled [⟨rMain, p0⟩] S1024x1024.size (by rfl) y

theorem cover_narrow (p0 : Vec F S128x1024 .bf16) (y : S128x1024.Idx) :
    ∃ pc ∈ ([⟨rNarrow, p0⟩] : List (View.Piece (Elt F) S128x1024 .bf16)), y ∈ pc.1.set :=
  View.cover_of_tiled [⟨rNarrow, p0⟩] S128x1024.size (by rfl) y

/-! ## The body -/

set_option maxHeartbeats 1000000 in
/-- The weight-preparing body leaves its two outputs at the values named above, and its inputs as they were. -/
theorem run0 (c : Dev nD) (E : Set ℕ) (i : grid0.Coords) (arg1 : Memref sig .tc .vmem S1024x1024 .f32) (harg1 : arg1.IsWhole) (arg2 : Memref sig .tc .vmem S32x1024 .f32) (harg2 : arg2.IsWhole) (arg3 : Memref sig .tc .vmem S1024x1024 .bf16) (harg3 : arg3.IsWhole) (arg4 : Memref sig .tc .vmem S128x1024 .bf16) (harg4 : arg4.IsWhole)
    (x0 : Vec F S1024x1024 .f32) (x1 : Vec F S32x1024 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (outMain x0) ∗ owns (c : Thread nD τ) arg4 fullShare (outNarrow x1)) -∗ K ⟨⟩))
      ⊢ wp frame (wpE (defs₀ (F := F)) Variants.none c none) E (cc0_wprep i arg1 harg1 arg2 harg2 arg3 harg3 arg4 harg4) K := by
  simp only [cc0_wprep_eq_skeleton]; unfold cc0_wprep_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_main _)
  iexists _; isplitr
  swap; · iexact H3
  ipureintro
  exact View.read_writes_eq_canon _ _ _ (cover_narrow _)

/-! ## The region's proof data and the body obligation -/

/-- What the region's proof states of core `c`: the arrays as found, each input's buffer at its block and each output's
    at the body's value after every point, the other scoped buffers and the generator register unread, nothing owed. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => outMain (blk0 V c 0 t)
    | ⟨3, _⟩ => outNarrow (blk0 V c 1 t)
  Φ _ := Pipeline.ΦA spec0 c
  q w := Pipeline.shareOf spec0 w
  owed _ := 0

theorem A0_eq (c : Dev nD) (w : Fin cfg0.W) : (dat0 V c).A w = V c (Proc.devRef .tc (Pipeline.arrRef spec0 w)) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outMain (blk0 V c 0 t) := by dsimp only [dat0]
theorem after0_3 (c : Dev nD) (t : Fin cfg0.N) : (dat0 V c).after 3 t = outNarrow (blk0 V c 1 t) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)

/-- The body at any point, between the region's thread states before and after it. -/
theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ => iprop((dat0 V c).Φ t.succ ∗ (dat0 V c).owesAt () t.succ
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c Set.univ (grid0.coords t) _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row0 (t : Fin cfg0.N) : defs₀ (F := F) .tc cfg0.body (cfg0.bodyArgs t (cfg0.slots t)) = bodyAt0 t := by
  unfold defs₀; rw [Defs.onTc_tc]

/-- The body obligation of the weight-preparing region, at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

end Cert.Kernel2Ideal.Proj

end
-- ==== Proof.ProjRunA.lean ====
/-  The projection call's body at a row tile's first column tile. -/
module

public import proofs.«01_k».proof.Proof.ProjDefs

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a row tile's first column tile: from the inputs' blocks it leaves the kept rows, the narrow
    block and the wide block, whatever the three buffers held. -/
theorem runA (c : Dev nD) (i : grid1.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x1024 .bf16) (harg12 : arg12.IsWhole) (hcA : condA i) (hC : ¬condC i) (hB : ¬condB i)
    (x0 : Vec F S1024x1024 .f32) (x1 : Vec F S1x1x1024 .f32) (x2 : Vec F S1x1x1024 .f32) (x3 : Vec F S1x1024 .f32) (x4 : Vec F S2048x1024 .bf16) (x5 : Vec F S128x1024 .bf16) (x6 : Vec F S1024x128 .f32) (x7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (oA x0 x1 x2 x3 x4) ∗ owns (c : Thread nD τ) arg11 fullShare (lrA x0 x1 x2 x3 x5) ∗ owns (c : Thread nD τ) arg12 fullShare (hA x0 x1 x2 x3)) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec (disch := first | sl_exact hcA | sl_exact hC | sl_exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_oA _ _ _ _)
  isplitl [H9]
  · iexists _; isplitr
    swap; · iexact H9
    ipureintro
    exact View.read_writes_eq_canon _ _ _ (cover_lr _ _ _ _)
  iexists _; isplitr
  swap; · iexact H10
  ipureintro
  exact View.read_writes_eq_canon _ _ _ (cover_h _ _ _ _)

end Cert.Kernel2Ideal.Proj

end
-- ==== Proof.ProjRunB.lean ====
/-  The projection call's body at the rotated column tile. -/
module

public import proofs.«01_k».proof.Proof.ProjRunA

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the rotated column tile: from the kept rows `h`, the tile's weights and the two tables it leaves the
    wide block, and every other buffer as it was. -/
theorem runB (c : Dev nD) (i : grid1.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x1024 .bf16) (harg12 : arg12.IsWhole) (hcA : ¬condA i) (hC : ¬condC i) (hB : condB i)
    (x0 : Vec F S1024x1024 .f32) (x1 : Vec F S1x1x1024 .f32) (x2 : Vec F S1x1x1024 .f32) (x3 : Vec F S1x1024 .f32) (x4 : Vec F S2048x1024 .bf16) (x5 : Vec F S128x1024 .bf16) (x6 : Vec F S1024x128 .f32) (x7 : Vec F S1024x128 .f32) (h : Vec F S1024x1024 .bf16) (x9 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (oB h x4 x6 x7) ∗ owns (c : Thread nD τ) arg11 fullShare x9 ∗ owns (c : Thread nD τ) arg12 fullShare h) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  simp only [k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf0 hf1 hf2 hf3 hf4 hf5 hf6 hf7 hf9 hf10
  sl_exec (disch := first | sl_exact hcA | sl_exact hC | sl_exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_oB _ _ _ _ _ _ _ _ _)
  isplitl [H9]
  · iexists _; isplitr
    swap; · iexact H9
    ipureintro
    rfl
  iexists _; isplitr
  swap; · iexact H10
  ipureintro
  rfl

end Cert.Kernel2Ideal.Proj

end
-- ==== Proof.ProjRunC.lean ====
/-  The projection call's body at the last two column tiles. -/
module

public import proofs.«01_k».proof.Proof.ProjRunB

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the last two column tiles: from the kept rows `h` and the tile's weights it leaves the wide block, and
    every other buffer as it was. -/
theorem runC (c : Dev nD) (i : grid1.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S1024x1024 .bf16) (harg12 : arg12.IsWhole) (hcA : ¬condA i) (hC : condC i) (hB : ¬condB i)
    (x0 : Vec F S1024x1024 .f32) (x1 : Vec F S1x1x1024 .f32) (x2 : Vec F S1x1x1024 .f32) (x3 : Vec F S1x1024 .f32) (x4 : Vec F S2048x1024 .bf16) (x5 : Vec F S128x1024 .bf16) (x6 : Vec F S1024x128 .f32) (x7 : Vec F S1024x128 .f32) (h : Vec F S1024x1024 .bf16) (x9 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (oC h x4) ∗ owns (c : Thread nD τ) arg11 fullShare x9 ∗ owns (c : Thread nD τ) arg12 fullShare h) -∗ K ⟨⟩))
      ⊢ wp frame (wpE (defs₀ (F := F)) Variants.none c none) E (cc1_proj i arg2 harg2 arg3 harg3 arg4 harg4 arg5 harg5 arg6 harg6 arg7 harg7 arg8 harg8 arg9 harg9 arg10 harg10 arg11 harg11 arg12 harg12) K := by
  simp only [cc1_proj_eq_skeleton]; unfold cc1_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf0 hf1 hf2 hf3 hf4 hf5 hf6 hf7 hf9 hf10
  sl_exec (disch := first | sl_exact hcA | sl_exact hC | sl_exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_oC _)
  isplitl [H9]
  · iexists _; isplitr
    swap; · iexact H9
    ipureintro
    rfl
  iexists _; isplitr
  swap; · iexact H10
  ipureintro
  rfl

end Cert.Kernel2Ideal.Proj

end
-- ==== Proof.RegProj.lean ====
/-  The projection call of the joined program: its proof data and the body obligation. -/
module

public import proofs.«01_k».proof.Proof.ProjRunC
public import Idealize.ShloMosaic.Lib.Pipeline.TableIdle

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The blocks the body is handed, and what it leaves -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The first column tile of `t`'s row tile. -/
def base (t : Fin cfg1.N) : Fin cfg1.N := ⟨t.val - t.val % 4, lt_of_le_of_lt (Nat.sub_le _ _) t.isLt⟩

theorem base_of_first (t : Fin cfg1.N) (h : t.val % 4 = 0) : base t = t := Fin.ext (by simp only [base]; omega)
theorem base_pred (s t : Fin cfg1.N) (h : s.val + 1 = t.val) (h4 : t.val % 4 ≠ 0) : base t = base s :=
  Fin.ext (by simp only [base]; omega)

/-- The rows kept for `t`'s row tile. -/
def hAt (c : Dev nD) (t : Fin cfg1.N) : Vec F S1024x1024 .bf16 :=
  hA (blk1 V c 0 (base t)) (blk1 V c 1 (base t)) (blk1 V c 2 (base t)) (blk1 V c 3 (base t))
/-- The narrow block of `t`'s row tile. -/
def lrAt (c : Dev nD) (t : Fin cfg1.N) : Vec F S1024x128 .f32 :=
  lrA (blk1 V c 0 (base t)) (blk1 V c 1 (base t)) (blk1 V c 2 (base t)) (blk1 V c 3 (base t)) (blk1 V c 5 (base t))
/-- The wide block at point `t`: plain at the first column tile, half rotated at the second, plain at the others. -/
def oAt (c : Dev nD) (t : Fin cfg1.N) : Vec F S1024x2048 .bf16 :=
  if t.val % 4 = 0 then oA (blk1 V c 0 t) (blk1 V c 1 t) (blk1 V c 2 t) (blk1 V c 3 t) (blk1 V c 4 t)
  else if t.val % 4 = 1 then oB (hAt V c t) (blk1 V c 4 t) (blk1 V c 6 t) (blk1 V c 7 t)
  else oC (hAt V c t) (blk1 V c 4 t)

theorem hAt_pred (c : Dev nD) (s t : Fin cfg1.N) (h : s.val + 1 = t.val) (h4 : t.val % 4 ≠ 0) : hAt V c t = hAt V c s := by
  unfold hAt; rw [base_pred s t h h4]
theorem lrAt_pred (c : Dev nD) (s t : Fin cfg1.N) (h : s.val + 1 = t.val) (h4 : t.val % 4 ≠ 0) : lrAt V c t = lrAt V c s := by
  unfold lrAt; rw [base_pred s t h h4]

/-! ## The region's proof data -/

/-- The kept rows' buffer before point `t`: at the row tile's kept rows unless `t` starts a row tile. -/
def kept (c : Dev nD) (t : Fin (cfg1.N + 1)) : sProp 𝕄 :=
  iprop(∃ d : Vec F S1024x1024 .bf16, ⌜∀ s : Fin cfg1.N, s.val = t.val → s.val % 4 ≠ 0 → d = hAt V c s⌝
    ∗ owns (c : Thread nD τ) (Memref.whole cc1_scratch0) fullShare d)

/-- The first call's staging buffers, each at some contents. -/
def idleStage (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f))

/-- What the region's proof states of core `c`: the arrays as found, each input's buffer at its block and each output's
    at the values above after every point, the kept rows named, nothing owed. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => oAt V c t
    | ⟨9, _⟩ => lrAt V c t
  Φ t := iprop(kept V c t ∗ idleStage c ∗ ∃ r, prngReg c r)
  q w := Pipeline.shareOf spec1 w
  owed _ := 0

theorem A1_eq (c : Dev nD) (w : Fin cfg1.W) : (dat1 V c).A w = V c (Proc.devRef .tc (Pipeline.arrRef spec1 w)) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = oAt V c t := by dsimp only [dat1]
theorem after1_9 (c : Dev nD) (t : Fin cfg1.N) : (dat1 V c).after 9 t = lrAt V c t := by dsimp only [dat1]
theorem Φ1_eq (c : Dev nD) (t : Fin (cfg1.N + 1)) : (dat1 V c).Φ t = iprop(kept V c t ∗ idleStage c ∗ ∃ r, prngReg c r) := by
  dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A1_eq]; try rfl) t d).trans
    (by unfold Dat.fetched Dat.blockOf blk1; rw [A1_eq]; try rfl)

/-! ## Where the narrow output is carried -/

theorem live8 : ∀ t : Fin cfg1.N, cfg1.idle 8 (cfg1.grid.coords t) = false :=
  (by decide +kernel : ∀ t : Fin grid1.N, idle1 8 (grid1.coords t) = false)
theorem idle9 : ∀ t : Fin cfg1.N, cfg1.idle 9 (cfg1.grid.coords t) = !decide (t.val % 4 = 0) :=
  (by decide +kernel : ∀ t : Fin grid1.N, idle1 9 (grid1.coords t) = !decide (t.val % 4 = 0))

theorem fresh9 (n : ℕ) (hn : n < cfg1.N) : cfg1.fresh 9 n = decide (n % 4 = 0) := by
  induction n with
  | zero => rw [Pipeline.Cfg.fresh_zero]; rfl
  | succ n ih =>
    have hn' : n < cfg1.N := Nat.lt_of_succ_lt hn
    rw [Pipeline.Cfg.fresh_succ _ _ _ hn', ih hn', idle9 ⟨n, hn'⟩]
    have hf := flush1_9 ⟨n, hn'⟩
    by_cases h3 : n % 4 = 3
    · rw [hf.mpr h3]; simp only [Bool.true_or]; exact (decide_eq_true (by omega)).symm
    · have : (cfg1.win 9).flush ⟨n, hn'⟩ = false := by
        rw [← Bool.not_eq_true]; exact fun h => h3 (hf.mp h)
      rw [this, Bool.false_or, decide_eq_false (p := (n + 1) % 4 = 0) (by omega)]
      by_cases h0 : n % 4 = 0
      · simp [h0]
      · simp [h0]

/-- Past a row tile's first column tile the narrow output's buffer holds the row tile's narrow block. -/
theorem before1_9 (c : Dev nD) (t : Fin cfg1.N) (h4 : t.val % 4 ≠ 0) (d) : (dat1 V c).before 9 t d = lrAt V c t := by
  have key := (dat1 V c).before_out_traj 9 rfl (fun _ _ => rfl) (fun t h0 hi hf => by
      have hp : t.val - 1 + 1 = t.val := by omega
      have h4 : t.val % 4 ≠ 0 := fun h => by rw [idle9 t, decide_eq_true h] at hi; exact absurd hi (by decide)
      rw [after1_9, after1_9]
      exact lrAt_pred V c ⟨t.val - 1, by omega⟩ t hp h4) t.val t rfl d
  rw [key, fresh9 t.val t.isLt, decide_eq_false h4, after1_9]
  exact (lrAt_pred V c ⟨t.val - 1, by omega⟩ t (by show t.val - 1 + 1 = t.val; omega) h4).symm

/-- so it may be left there. -/
theorem leaves1_9 (c : Dev nD) (t : Fin cfg1.N) (h4 : t.val % 4 ≠ 0) :
    owns (c : Thread nD τ) (st1_9 t) fullShare (lrAt V c t) ⊢ ((dat1 V c).leavesExact 9 t : sProp 𝕄) := by
  have hi : cfg1.idle 9 (cfg1.grid.coords t) = true := by rw [idle9 t, decide_eq_false h4]; rfl
  by_cases hf : (cfg1.win 9).flush t = true
  · unfold Dat.leavesExact; rw [hi, hf, after1_9]
  · rw [(dat1 V c).leavesExact_idle 9 t hi (by simpa using hf)]
    iintro H; iexists (lrAt V c t)
    rw [before1_9 V c t h4]; iexact H

theorem leaves1_9_first (c : Dev nD) (t : Fin cfg1.N) (h4 : t.val % 4 = 0) :
    owns (c : Thread nD τ) (st1_9 t) fullShare (lrAt V c t) ⊢ ((dat1 V c).leavesExact 9 t : sProp 𝕄) := by
  have hi : cfg1.idle 9 (cfg1.grid.coords t) = false := by rw [idle9 t, decide_eq_true h4]; rfl
  unfold Dat.leavesExact; rw [hi, after1_9]

theorem leaves1_8 (c : Dev nD) (t : Fin cfg1.N) :
    owns (c : Thread nD τ) (st1_8 t) fullShare (oAt V c t) ⊢ ((dat1 V c).leavesExact 8 t : sProp 𝕄) := by
  unfold Dat.leavesExact; rw [live8 t, after1_8]
theorem leaves1_0 (c : Dev nD) (t : Fin cfg1.N) :
    owns (c : Thread nD τ) (st1_0 t) fullShare (blk1 V c 0 t) ⊢ ((dat1 V c).leavesExact 0 t : sProp 𝕄) := by
  unfold Dat.leavesExact; rw [show cfg1.idle 0 (cfg1.grid.coords t) = false from rfl, after1_0]
theorem leaves1_1 (c : Dev nD) (t : Fin cfg1.N) :
    owns (c : Thread nD τ) (st1_1 t) fullShare (blk1 V c 1 t) ⊢ ((dat1 V c).leavesExact 1 t : sProp 𝕄) := by
  unfold Dat.leavesExact; rw [show cfg1.idle 1 (cfg1.grid.coords t) = false from rfl, after1_1]
theorem leaves1_2 (c : Dev nD) (t : Fin cfg1.N) :
    owns (c : Thread nD τ) (st1_2 t) fullShare (blk1 V c 2 t) ⊢ ((dat1 V c).leavesExact 2 t : sProp 𝕄) := by
  unfold Dat.leavesExact; rw [show cfg1.idle 2 (cfg1.grid.coords t) = false from rfl, after1_2]
theorem leaves1_3 (c : Dev nD) (t : Fin cfg1.N) :
    owns (c : Thread nD τ) (st1_3 t) fullShare (blk1 V c 3 t) ⊢ ((dat1 V c).leavesExact 3 t : sProp 𝕄) := by
  unfold Dat.leavesExact; rw [show cfg1.idle 3 (cfg1.grid.coords t) = false from rfl, after1_3]
theorem leaves1_4 (c : Dev nD) (t : Fin cfg1.N) :
    owns (c : Thread nD τ) (st1_4 t) fullShare (blk1 V c 4 t) ⊢ ((dat1 V c).leavesExact 4 t : sProp 𝕄) := by
  unfold Dat.leavesExact; rw [show cfg1.idle 4 (cfg1.grid.coords t) = false from rfl, after1_4]
theorem leaves1_5 (c : Dev nD) (t : Fin cfg1.N) :
    owns (c : Thread nD τ) (st1_5 t) fullShare (blk1 V c 5 t) ⊢ ((dat1 V c).leavesExact 5 t : sProp 𝕄) := by
  unfold Dat.leavesExact; rw [show cfg1.idle 5 (cfg1.grid.coords t) = false from rfl, after1_5]
theorem leaves1_6 (c : Dev nD) (t : Fin cfg1.N) :
    owns (c : Thread nD τ) (st1_6 t) fullShare (blk1 V c 6 t) ⊢ ((dat1 V c).leavesExact 6 t : sProp 𝕄) := by
  unfold Dat.leavesExact; rw [show cfg1.idle 6 (cfg1.grid.coords t) = false from rfl, after1_6]
theorem leaves1_7 (c : Dev nD) (t : Fin cfg1.N) :
    owns (c : Thread nD τ) (st1_7 t) fullShare (blk1 V c 7 t) ⊢ ((dat1 V c).leavesExact 7 t : sProp 𝕄) := by
  unfold Dat.leavesExact; rw [show cfg1.idle 7 (cfg1.grid.coords t) = false from rfl, after1_7]

/-- The kept rows at the point after `t`, from the row tile's kept rows. -/
theorem kept_succ (c : Dev nD) (t : Fin cfg1.N) :
    owns (c : Thread nD τ) (Memref.whole cc1_scratch0) fullShare (hAt V c t) ⊢ (kept V c t.succ : sProp 𝕄) := by
  unfold kept
  iintro H; iexists _; isplitr
  swap; · iexact H
  ipureintro
  intro s hs h4
  exact (hAt_pred V c t s (by rw [hs]; rfl) h4).symm

/-- Inside a row tile the kept rows are the row tile's. -/
theorem kept_inside (c : Dev nD) (t : Fin cfg1.N) (h4 : t.val % 4 ≠ 0) :
    (kept V c t.castSucc : sProp 𝕄) ⊢ owns (c : Thread nD τ) (Memref.whole cc1_scratch0) fullShare (hAt V c t) := by
  unfold kept
  iintro ⟨%d, %hd, H⟩
  rw [hd t rfl h4]
  iexact H

theorem kept_any (c : Dev nD) (t) :
    (kept V c t : sProp 𝕄) ⊢ iprop(∃ d, owns (c : Thread nD τ) (Memref.whole cc1_scratch0) fullShare d) := by
  unfold kept
  iintro ⟨%d, -, H⟩
  iexists d; iexact H

/-! ## The body at any point -/

set_option maxHeartbeats 2000000 in
theorem sound1A (c : Dev nD) (t : Fin cfg1.N) (h : t.val % 4 = 0) :
    iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)))
    ⊢ wp frame (wpE (defs₀ (F := F)) Variants.none c none) Set.univ (bodyAt1 t) (fun _ => iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t)) := by
  unfold bodyAt1
  simp only [before1_0, before1_1, before1_2, before1_3, before1_4, before1_5, before1_6, before1_7]
  rw [Φ1_eq, Φ1_eq, show (dat1 V c).owesAt () t.succ = (dat1 V c).owesAt () t.castSucc from rfl]
  have h8 : oAt V c t = oA (blk1 V c 0 t) (blk1 V c 1 t) (blk1 V c 2 t) (blk1 V c 3 t) (blk1 V c 4 t) := by
    unfold oAt; rw [if_pos h]
  have h9 : lrAt V c t = lrA (blk1 V c 0 t) (blk1 V c 1 t) (blk1 V c 2 t) (blk1 V c 3 t) (blk1 V c 5 t) := by
    unfold lrAt; rw [base_of_first t h]
  have hs : hAt V c t = hA (blk1 V c 0 t) (blk1 V c 1 t) (blk1 V c 2 t) (blk1 V c 3 t) := by
    unfold hAt; rw [base_of_first t h]
  iintro ⟨⟨HS, Hst, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid1.coords t) _ _ _ _ _ _ _ _ _ _ _ _ _ _ _ _ _ _ _ _ _ _ ((hcondA t).mpr h) (fun hc => absurd ((hcondC t).mp hc) (by omega)) (fun hc => absurd ((hcondB t).mp hc) (by omega)) (blk1 V c 0 t) (blk1 V c 1 t) (blk1 V c 2 t) (blk1 V c 3 t) (blk1 V c 4 t) (blk1 V c 5 t) (blk1 V c 6 t) (blk1 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iapply (kept_any V c _); iexact HS
  iintro ⟨H0, H1, H2, H3, H4, H5, H6, H7, H8, H9, HS⟩
  isplitl [HS Hst Hg]
  · isplitl [HS]
    · iapply (kept_succ V c t); rw [hs]; iexact HS
    isplitl [Hst]; · iexact Hst
    iexact Hg
  isplitl [Ho]; · iexact Ho
  isplitl [H0]; · iapply (leaves1_0 V c t); iexact H0
  isplitl [H1]; · iapply (leaves1_1 V c t); iexact H1
  isplitl [H2]; · iapply (leaves1_2 V c t); iexact H2
  isplitl [H3]; · iapply (leaves1_3 V c t); iexact H3
  isplitl [H4]; · iapply (leaves1_4 V c t); iexact H4
  isplitl [H5]; · iapply (leaves1_5 V c t); iexact H5
  isplitl [H6]; · iapply (leaves1_6 V c t); iexact H6
  isplitl [H7]; · iapply (leaves1_7 V c t); iexact H7
  isplitl [H8]; · iapply (leaves1_8 V c t); rw [h8]; iexact H8
  iapply (leaves1_9_first V c t h); rw [h9]; iexact H9

set_option maxHeartbeats 2000000 in
theorem sound1B (c : Dev nD) (t : Fin cfg1.N) (h : t.val % 4 = 1) :
    iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)))
    ⊢ wp frame (wpE (defs₀ (F := F)) Variants.none c none) Set.univ (bodyAt1 t) (fun _ => iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t)) := by
  unfold bodyAt1
  simp only [before1_0, before1_1, before1_2, before1_3, before1_4, before1_5, before1_6, before1_7]
  rw [Φ1_eq, Φ1_eq, show (dat1 V c).owesAt () t.succ = (dat1 V c).owesAt () t.castSucc from rfl]
  have h4 : t.val % 4 ≠ 0 := by omega
  simp only [before1_9 V c t h4]
  have h8 : oAt V c t = oB (hAt V c t) (blk1 V c 4 t) (blk1 V c 6 t) (blk1 V c 7 t) := by
    unfold oAt; rw [if_neg h4, if_pos h]
  iintro ⟨⟨HS, Hst, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid1.coords t) _ _ _ _ _ _ _ _ _ _ _ _ _ _ _ _ _ _ _ _ _ _ (fun hc => absurd ((hcondA t).mp hc) (by omega)) (fun hc => absurd ((hcondC t).mp hc) (by omega)) ((hcondB t).mpr h) (blk1 V c 0 t) (blk1 V c 1 t) (blk1 V c 2 t) (blk1 V c 3 t) (blk1 V c 4 t) (blk1 V c 5 t) (blk1 V c 6 t) (blk1 V c 7 t) (hAt V c t) (lrAt V c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS]; · iapply (kept_inside V c t h4); iexact HS
  iintro ⟨H0, H1, H2, H3, H4, H5, H6, H7, H8, H9, HS⟩
  isplitl [HS Hst Hg]
  · isplitl [HS]
    · iapply (kept_succ V c t); iexact HS
    isplitl [Hst]; · iexact Hst
    iexact Hg
  isplitl [Ho]; · iexact Ho
  isplitl [H0]; · iapply (leaves1_0 V c t); iexact H0
  isplitl [H1]; · iapply (leaves1_1 V c t); iexact H1
  isplitl [H2]; · iapply (leaves1_2 V c t); iexact H2
  isplitl [H3]; · iapply (leaves1_3 V c t); iexact H3
  isplitl [H4]; · iapply (leaves1_4 V c t); iexact H4
  isplitl [H5]; · iapply (leaves1_5 V c t); iexact H5
  isplitl [H6]; · iapply (leaves1_6 V c t); iexact H6
  isplitl [H7]; · iapply (leaves1_7 V c t); iexact H7
  isplitl [H8]; · iapply (leaves1_8 V c t); rw [h8]; iexact H8
  iapply (leaves1_9 V c t h4); iexact H9

set_option maxHeartbeats 2000000 in
theorem sound1C (c : Dev nD) (t : Fin cfg1.N) (h : 2 ≤ t.val % 4) :
    iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)))
    ⊢ wp frame (wpE (defs₀ (F := F)) Variants.none c none) Set.univ (bodyAt1 t) (fun _ => iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t)) := by
  unfold bodyAt1
  simp only [before1_0, before1_1, before1_2, before1_3, before1_4, before1_5, before1_6, before1_7]
  rw [Φ1_eq, Φ1_eq, show (dat1 V c).owesAt () t.succ = (dat1 V c).owesAt () t.castSucc from rfl]
  have h4 : t.val % 4 ≠ 0 := by omega
  simp only [before1_9 V c t h4]
  have h8 : oAt V c t = oC (hAt V c t) (blk1 V c 4 t) := by
    unfold oAt; rw [if_neg h4, if_neg (by omega)]
  iintro ⟨⟨HS, Hst, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runC c (grid1.coords t) _ _ _ _ _ _ _ _ _ _ _ _ _ _ _ _ _ _ _ _ _ _ (fun hc => absurd ((hcondA t).mp hc) (by omega)) ((hcondC t).mpr h) (fun hc => absurd ((hcondB t).mp hc) (by omega)) (blk1 V c 0 t) (blk1 V c 1 t) (blk1 V c 2 t) (blk1 V c 3 t) (blk1 V c 4 t) (blk1 V c 5 t) (blk1 V c 6 t) (blk1 V c 7 t) (hAt V c t) (lrAt V c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS]; · iapply (kept_inside V c t h4); iexact HS
  iintro ⟨H0, H1, H2, H3, H4, H5, H6, H7, H8, H9, HS⟩
  isplitl [HS Hst Hg]
  · isplitl [HS]
    · iapply (kept_succ V c t); iexact HS
    isplitl [Hst]; · iexact Hst
    iexact Hg
  isplitl [Ho]; · iexact Ho
  isplitl [H0]; · iapply (leaves1_0 V c t); iexact H0
  isplitl [H1]; · iapply (leaves1_1 V c t); iexact H1
  isplitl [H2]; · iapply (leaves1_2 V c t); iexact H2
  isplitl [H3]; · iapply (leaves1_3 V c t); iexact H3
  isplitl [H4]; · iapply (leaves1_4 V c t); iexact H4
  isplitl [H5]; · iapply (leaves1_5 V c t); iexact H5
  isplitl [H6]; · iapply (leaves1_6 V c t); iexact H6
  isplitl [H7]; · iapply (leaves1_7 V c t); iexact H7
  isplitl [H8]; · iapply (leaves1_8 V c t); rw [h8]; iexact H8
  iapply (leaves1_9 V c t h4); iexact H9

theorem row1 (t : Fin cfg1.N) : defs₀ (F := F) .tc cfg1.body (cfg1.bodyArgs t (cfg1.slots t)) = bodyAt1 t := by
  unfold defs₀; rw [Defs.onTc_tc]

/-- The body obligation of the projection region, at every point. -/
theorem obligation1 (c : Dev nD) : BodyObligation (dat1 (F := F) V c) (defs₀ (F := F)) Variants.none () Set.univ := fun t => by
  rw [bigSep_W1, bigSep_W1, row1]
  rcases (by omega : t.val % 4 = 0 ∨ t.val % 4 = 1 ∨ 2 ≤ t.val % 4) with h | h | h
  · exact triple_restated (sound1A V c t h) rfl .rfl fun _ => .rfl
  · exact triple_restated (sound1B V c t h) rfl .rfl fun _ => .rfl
  · exact triple_restated (sound1C V c t h) rfl .rfl fun _ => .rfl

/-! ## The invariant's ends -/

/-- The region's own buffers and the generator register make the invariant at the first point, -/
theorem hin1 (c : Dev nD) : (Pipeline.ΦA spec1 c : sProp 𝕄) ⊢ (dat1 V c).Φ 0 := by
  rw [Φ1_eq]; unfold Pipeline.ΦA kept idleStage; rw [scopedRest1_eq]; simp only [owns_whole]
  iintro ⟨⟨Ha, Hb, Hc, Hd, He, Hf, %d, HS⟩, Hg⟩
  isplitl [HS]
  · iexists d; isplitr
    · ipureintro; intro s hs h4; exact absurd (by rw [hs]; rfl) h4
    iexact HS
  isplitl [Ha Hb Hc Hd He Hf]
  · isplitl [Ha]; · iexact Ha
    isplitl [Hb]; · iexact Hb
    isplitl [Hc]; · iexact Hc
    isplitl [Hd]; · iexact Hd
    isplitl [He]; · iexact He
    iexact Hf
  iexact Hg

/-- and the invariant gives them back at any point. -/
theorem hout1 (c : Dev nD) (t) : (dat1 V c).Φ t ⊢ (Pipeline.ΦA spec1 c : sProp 𝕄) := by
  rw [Φ1_eq]; unfold Pipeline.ΦA kept idleStage; rw [scopedRest1_eq]; simp only [owns_whole]
  iintro ⟨⟨%d, -, HS⟩, ⟨Ha, Hb, Hc, Hd, He, Hf⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists d; iexact HS
  iexact Hg

end Cert.Kernel2Ideal.Proj

end
-- ==== Proof.Run.lean ====
/-  The joined program's run: the weight-preparing region, the host operations, the projection region. -/
module

public import proofs.«01_k».proof.Proof.RegWprep
public import proofs.«01_k».proof.Proof.RegProj
public import Idealize.ShloMosaic.Lib.Pipeline.FrameTail
public import Idealize.ShloMosaic.Lib.Pipeline.RegionsLoop
public import proofs.«01_k».proof.Proof.Gen.Kernel2Ideal.Regions

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg HostSeg Seg)

/-! ## What rides beside the buffers -/

abbrev Lv : GSem nD τ sig → Finset Unit := fun _ => ∅
abbrev lev : GSem nD τ sig → Unit → ℕ := fun _ _ => 0

/-- The generator register and the core owing nothing. -/
abbrev rest (_ : Fin 3) (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg)

/-! ## The buffers' contents between the items -/

/-- The unscoped buffers after the weight-preparing call. -/
def afterPrep (c : Dev nD) : Valuation τ sig (Elt F) :=
  Function.update (Function.update (V1 m c) main_v2_0 ((dat0 (V1 m) c).arrAt 2 cfg0.N)) main_v2_1 ((dat0 (V1 m) c).arrAt 3 cfg0.N)
/-- The unscoped buffers the projection call is entered with. -/
def beforeProj (c : Dev nD) : Valuation τ sig (Elt F) := StableHlo.after hostOps1 (afterPrep m c)
/-- The unscoped buffers after the projection call. -/
def afterProj (c : Dev nD) : Valuation τ sig (Elt F) :=
  Function.update (Function.update (beforeProj m c) main_v41_0 ((dat1 (beforeProj m) c).arrAt 8 cfg1.N)) main_v41_1 ((dat1 (beforeProj m) c).arrAt 9 cfg1.N)

/-- What the two calls leave, buffer by buffer. -/
def left : Outs (F := F) := fun J r c => if J = 2 then afterPrep m c (Proc.devRef .tc r) else afterProj m c (Proc.devRef .tc r)

theorem ne_prep : (Proc.devRef .tc main_v2_0 : DevRef τ sig) ≠ Proc.devRef .tc main_v2_1 := StableHlo.devRef_ne_of_ne (by decide)
theorem ne_proj : (Proc.devRef .tc main_v41_0 : DevRef τ sig) ≠ Proc.devRef .tc main_v41_1 := StableHlo.devRef_ne_of_ne (by decide)

theorem afterPrep_main (c : Dev nD) : afterPrep m c main_v2_0 = (dat0 (V1 m) c).arrAt 2 cfg0.N := by
  unfold afterPrep; rw [Function.update_of_ne ne_prep, Function.update_self]
theorem afterPrep_narrow (c : Dev nD) : afterPrep m c main_v2_1 = (dat0 (V1 m) c).arrAt 3 cfg0.N := by
  unfold afterPrep; rw [Function.update_self]
theorem afterPrep_of (c : Dev nD) (b : Ref sig .tc) (h0 : b ≠ main_v2_0) (h1 : b ≠ main_v2_1) : afterPrep m c b = V1 m c b := by
  unfold afterPrep
  rw [Function.update_of_ne (StableHlo.devRef_ne_of_ne h1), Function.update_of_ne (StableHlo.devRef_ne_of_ne h0)]
theorem afterProj_wide (c : Dev nD) : afterProj m c main_v41_0 = (dat1 (beforeProj m) c).arrAt 8 cfg1.N := by
  unfold afterProj; rw [Function.update_of_ne ne_proj, Function.update_self]
theorem afterProj_narrow (c : Dev nD) : afterProj m c main_v41_1 = (dat1 (beforeProj m) c).arrAt 9 cfg1.N := by
  unfold afterProj; rw [Function.update_self]
theorem afterProj_of (c : Dev nD) (b : Ref sig .tc) (h0 : b ≠ main_v41_0) (h1 : b ≠ main_v41_1) : afterProj m c b = beforeProj m c b := by
  unfold afterProj
  rw [Function.update_of_ne (StableHlo.devRef_ne_of_ne h1), Function.update_of_ne (StableHlo.devRef_ne_of_ne h0)]

theorem V2_left (c : Dev nD) : V2 m (left m) c = afterPrep m c := by
  show Function.update (Function.update (V1 m c) main_v2_0 (left m 2 main_v2_0 c)) main_v2_1 (left m 2 main_v2_1 c) = _
  rw [show left m 2 main_v2_0 c = (dat0 (V1 m) c).arrAt 2 cfg0.N from afterPrep_main m c,
    show left m 2 main_v2_1 c = (dat0 (V1 m) c).arrAt 3 cfg0.N from afterPrep_narrow m c]
  rfl
theorem V3_left (c : Dev nD) : V3 m (left m) c = beforeProj m c := by
  show StableHlo.after hostOps1 (V2 m (left m) c) = _
  rw [V2_left]; rfl
theorem V4_left (c : Dev nD) : V4 m (left m) c = afterProj m c := by
  show Function.update (Function.update (V3 m (left m) c) main_v41_0 (left m 4 main_v41_0 c)) main_v41_1 (left m 4 main_v41_1 c) = _
  rw [show left m 4 main_v41_0 c = (dat1 (beforeProj m) c).arrAt 8 cfg1.N from afterProj_wide m c,
    show left m 4 main_v41_1 c = (dat1 (beforeProj m) c).arrAt 9 cfg1.N from afterProj_narrow m c, V3_left]
  rfl

/-! ## The two regions' records -/

/-- The proof data of both calls. -/
def both : (p : Fin 2) → (c : Dev nD) → Dat τ (Elt F) Unit ℕ (UR sig nD τ) ℕ (cfgs p) c
  | ⟨0, _⟩ => dat0 (V1 m)
  | ⟨1, _⟩ => dat1 (beforeProj m)

set_option backward.isDefEq.respectTransparency.types false in
set_option maxHeartbeats 1000000 in
/-- A region's record from its proof data: entered holding every unscoped buffer at `V`, left holding them at `V'`,
    where `V'` has the region's arrays as the proof data leaves them and the others as `V` has them. -/
def record (p : Fin 2) (D : (p : Fin 2) → (c : Dev nD) → Dat τ (Elt F) Unit ℕ (UR sig nD τ) ℕ (cfgs p) c)
    (kit : Pipeline.LaunchFacts₀ (nD := nD) (τ := τ) cfgs p)
    (V V' : Dev nD → Valuation τ sig (Elt F))
    (hq : ∀ c w, ((cfgs p).spec w).isOut = false → (D p c).q w = Pipeline.shareOf (cfgs p).spec w)
    (howed : ∀ c t, (D p c).owed t = 0) (hrec : ∀ c, (D p c).recorded 0 = Set.univ)
    (hA : ∀ c w, (D p c).A w = V c (Proc.devRef .tc (Pipeline.arrRef (cfgs p).spec w)))
    (hF : ∀ c w, (D p c).arrAt w (cfgs p).N = V' c (Proc.devRef .tc (Pipeline.arrRef (cfgs p).spec w)))
    (hR : ∀ c (b : Ref sig .tc), b ∉ Finset.univ.image (Pipeline.arrRef (cfgs p).spec) → V' c b = V c b)
    (hbody : ∀ c, BodyObligation (D p c) (defs₀ (F := F)) Variants.none () Set.univ)
    (hin : ∀ c, (Pipeline.ΦA (cfgs p).spec c : sProp 𝕄) ⊢ (D p c).Φ 0)
    (hout : ∀ c, (D p c).Φ (Fin.last (cfgs p).N) ⊢ (Pipeline.ΦA (cfgs p).spec c : sProp 𝕄)) :
    RegionSeg (pcfgs (F := F)) adm D () defs₀ Variants.none Lv lev p :=
  { win := kit.win
    block_pos := kit.block_pos
    stage_whole := kit.stage_whole
    K := PEmpty
    osem := fun k => k.elim
    ho := Pipeline.OwnSemFacts.none _
    hbody := fun c => (hbody c).loose
    hwaits := Pipeline.hwaits_of_owed_zero (pcfgs (F := F)) adm D () Lv lev p howed
    pre := fun c => iprop(StableHlo.held (c.tc : Thread nD τ) (Pipeline.ucRefs τ sig) (V c) ∗ rest 0 c)
    post := fun c => iprop(StableHlo.held (c.tc : Thread nD τ) (Pipeline.ucRefs τ sig) (V' c) ∗ rest 0 c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c.tc : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm,
        Pipeline.unscopedBufs_split₀ cfgs p kit.win.arr_unscoped c (fun b => V c (Proc.devRef .tc b))]
      have hsplit := (D p c).arrays_split_shared kit.sharedIn kit.arr_whole (hq c)
        (fun b => V c (Proc.devRef .tc b)) ((D p c).arrAt · 0) (fun w => hA c w)
      iintro ⟨⟨⟨Hub, Hrest⟩, Hp, %W, HO⟩, -, -⟩
      ihave Ha := hsplit $$ Hub
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        iexists W; isplitr; · ipureintro; exact fun x _ => Or.inl (by rw [hrec c]; trivial)
        iexact HO
      isplitl [Hp]; · iexact Hp
      iexact Hrest
    hin := fun c => (show _ ⊢ (Pipeline.ΦA (cfgs p).spec c : sProp 𝕄) from by
      unfold Pipeline.ΦA; iintro ⟨Hp, -, Hr⟩
      isplitl [Hr] <;> iassumption).trans (hin c)
    hout := fun c => (hout c).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays_shared (p := p) (pcfgs (F := F)) adm (Ix := Unit) (Name := ℕ) (U := UR sig nD τ) (Lvl := ℕ)
        kit.win kit.sharedIn kit.arr_whole c D (hq c)
        (fun b => V c (Proc.devRef .tc b)) (fun b => V' c (Proc.devRef .tc b)) ((D p c).arrAt · (cfgs p).N)
        (fun w => hF c w) (fun b hb => hR c b hb)
      rw [show StableHlo.held (c.tc : Thread nD τ) (Pipeline.ucRefs τ sig) (V' c) = unscopedBufs c (fun b => V' c (Proc.devRef .tc b))
          from (Pipeline.unscopedBufs_held (Ix := Unit) (Name := ℕ) (U := UR sig nD τ) (Lvl := ℕ) c (V' c)).symm]
      iintro ⟨Ha, HO, Hp, Hrest⟩
      imodintro
      isplitl [Ha Hrest]
      · iapply hjoin; isplitl [Ha] <;> iassumption
      isplitl [Hp]; · iexact Hp
      unfold Dat.owesAt Pipeline.owesWithin
      rw [howed c (Fin.last _)]
      icases HO with ⟨%W, -, HO⟩; iexists W; iexact HO }

theorem launchProj : Pipeline.LaunchFacts₀ (nD := nD) (τ := τ) cfgs 1 :=
  ⟨cellOf_inj, winFacts1.to₀, by decide, block_pos1, arr_whole1, stage_whole1⟩

theorem in_keeps0 (c : Dev nD) (w : Fin cfg0.W) (h : (cfg0.win w).isOut = false) :
    (dat0 (V1 m) c).arrAt w cfg0.N = V1 m c (Proc.devRef .tc (Pipeline.arrRef spec0 w)) :=
  ((dat0 (V1 m) c).arrAt_in w h cfg0.N).trans (A0_eq _ c w)
theorem in_keeps1 (c : Dev nD) (w : Fin cfg1.W) (h : (cfg1.win w).isOut = false) :
    (dat1 (beforeProj m) c).arrAt w cfg1.N = beforeProj m c (Proc.devRef .tc (Pipeline.arrRef spec1 w)) :=
  ((dat1 (beforeProj m) c).arrAt_in w h cfg1.N).trans (A1_eq _ c w)

/-- The weight-preparing region. -/
def recordPrep : RegionSeg (pcfgs (F := F)) adm (both m) () defs₀ Variants.none Lv lev 0 :=
  record 0 (both m) launch₀0 (V1 m) (afterPrep m) (fun _ _ _ => rfl) (fun _ _ => rfl) (fun _ => rfl) (fun c w => A0_eq _ c w)
    (fun c w => match w with
      | ⟨0, _⟩ => (in_keeps0 m c 0 rfl).trans (afterPrep_of m c _ (by decide) (by decide)).symm
      | ⟨1, _⟩ => (in_keeps0 m c 1 rfl).trans (afterPrep_of m c _ (by decide) (by decide)).symm
      | ⟨2, _⟩ => (afterPrep_main m c).symm
      | ⟨3, _⟩ => (afterPrep_narrow m c).symm)
    (fun c b hb => afterPrep_of m c b (fun h => hb (h ▸ Finset.mem_image.mpr ⟨2, Finset.mem_univ _, rfl⟩))
      (fun h => hb (h ▸ Finset.mem_image.mpr ⟨3, Finset.mem_univ _, rfl⟩)))
    (fun c => obligation0 (V1 m) c) (fun _ => .rfl) (fun _ => .rfl)

/-- The projection region. -/
def recordProj : RegionSeg (pcfgs (F := F)) adm (both m) () defs₀ Variants.none Lv lev 1 :=
  record 1 (both m) launchProj (beforeProj m) (afterProj m) (fun _ _ _ => rfl) (fun _ _ => rfl) (fun _ => rfl) (fun c w => A1_eq _ c w)
    (fun c w => match w with
      | ⟨0, _⟩ => (in_keeps1 m c 0 rfl).trans (afterProj_of m c _ (by decide) (by decide)).symm
      | ⟨1, _⟩ => (in_keeps1 m c 1 rfl).trans (afterProj_of m c _ (by decide) (by decide)).symm
      | ⟨2, _⟩ => (in_keeps1 m c 2 rfl).trans (afterProj_of m c _ (by decide) (by decide)).symm
      | ⟨3, _⟩ => (in_keeps1 m c 3 rfl).trans (afterProj_of m c _ (by decide) (by decide)).symm
      | ⟨4, _⟩ => (in_keeps1 m c 4 rfl).trans (afterProj_of m c _ (by decide) (by decide)).symm
      | ⟨5, _⟩ => (in_keeps1 m c 5 rfl).trans (afterProj_of m c _ (by decide) (by decide)).symm
      | ⟨6, _⟩ => (in_keeps1 m c 6 rfl).trans (afterProj_of m c _ (by decide) (by decide)).symm
      | ⟨7, _⟩ => (in_keeps1 m c 7 rfl).trans (afterProj_of m c _ (by decide) (by decide)).symm
      | ⟨8, _⟩ => (afterProj_wide m c).symm
      | ⟨9, _⟩ => (afterProj_narrow m c).symm)
    (fun c b hb => afterProj_of m c b (fun h => hb (h ▸ Finset.mem_image.mpr ⟨8, Finset.mem_univ _, rfl⟩))
      (fun h => hb (h ▸ Finset.mem_image.mpr ⟨9, Finset.mem_univ _, rfl⟩)))
    (fun c => obligation1 (beforeProj m) c) (fun c => hin1 _ c) (fun c => hout1 _ c _)

/-! ## The run -/

/-- What the run shows of a final state: the arguments as launched, the two results as the projection region leaves
    them, every counter at zero. -/
def Shown (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v41_0) = (dat1 (beforeProj m) c).arrAt 8 cfg1.N
  ∧ s.mem ((c.tc : Thread nD τ).loc main_v41_1) = (dat1 (beforeProj m) c).arrAt 9 cfg1.N

set_option backward.isDefEq.respectTransparency.types false in
set_option maxHeartbeats 1000000 in
/-- THE RUN: from any memory with zero counters every weakly fair execution of the two calls and the host operations
    between them terminates, showing the above. -/
theorem run : θ_run defs (onTc (τ := τ) (main (F := F))) ⟨m, fun _ => 0, ρ⟩ (fun r =>
    (∀ c : Dev nD, Shown m c r.2) ∧ r.2.sem = fun _ => 0) := by
  refine Pipeline.θ_run_regions_kit_dev_sems (pcfgs (F := F)) adm (both m) () cellOf_inj emb₁ defs₀ Variants.none Lv lev m ρ main
    (segs m (left m) Variants.none Lv lev rest () (both m) (recordPrep m) (recordProj m))
    (fun c Q => by
      rewrite [main_chain c, Seg.run_eq_chain,
        show (segs m (left m) Variants.none Lv lev rest () (both m) (recordPrep m) (recordProj m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (afterProj m c))
    (hch := fun c => ⟨.rfl, .rfl, by
        show _ ⊢ iprop(StableHlo.held (c : Thread nD τ) (Pipeline.ucRefs τ sig) (V2 m (left m) c) ∗ rest 1 c)
        rw [V2_left]; exact .rfl, by
        show iprop(StableHlo.held (c : Thread nD τ) (Pipeline.ucRefs τ sig) (V3 m (left m) c) ∗ rest 1 c) ⊢ _
        rw [V3_left]; exact .rfl, sep_mono .rfl (by iintro ⟨-, HO⟩; iexact HO)⟩)
    (hinit := ?_) (QY := fun c s => Shown m c s)
    (hfin := fun c s' => ?_) (hQ := fun _ h hz => ⟨h, funext fun g => hz g (.inr (regions_no_unscoped g.2))⟩)
  · refine Pipeline.initEach Lv lev fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (Pipeline.ucRefs τ sig) (fun b => ((c : Thread nD τ).1, b)) (afterProj m c) s') $$ [Hh HSI]
    · isplitl [Hh] <;> iassumption
    icases Hr with ⟨%h, HSI⟩
    imodintro
    isplitr
    · ipureintro
      have arg : ∀ b : Ref sig .tc, Proc.devRef .tc b ∈ Pipeline.ucRefs τ sig → V4 m (left m) c b = m ((c : Thread nD τ).loc b) →
          s'.mem.mem ((c.tc : Thread nD τ).loc b) = m ((c.tc : Thread nD τ).loc b) := fun b hb hv =>
        (h (Proc.devRef .tc b) hb).trans ((congrFun (V4_left m c) _).symm.trans hv)
      have uc : ∀ b : Ref sig .tc, b.isScoped = false → Proc.devRef .tc b ∈ Pipeline.ucRefs τ sig := fun b hb =>
        Pipeline.devRef_mem_ucRefs hb
      exact ⟨arg main_arg0 (uc main_arg0 rfl) (V4_main_arg0 m (left m) c), arg main_arg1 (uc main_arg1 rfl) (V4_main_arg1 m (left m) c), arg main_arg2 (uc main_arg2 rfl) (V4_main_arg2 m (left m) c), arg main_arg3 (uc main_arg3 rfl) (V4_main_arg3 m (left m) c), arg main_arg4 (uc main_arg4 rfl) (V4_main_arg4 m (left m) c),
        (h _ (uc main_v41_0 rfl)).trans (afterProj_wide m c), (h _ (uc main_v41_1 rfl)).trans (afterProj_narrow m c)⟩
    · iexact HSI

/-- The program's frame: the arguments as launched, every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono
    (fun _ h => ⟨fun c => ⟨(h.1 c).1, (h.1 c).2.1, (h.1 c).2.2.1, (h.1 c).2.2.2.1, (h.1 c).2.2.2.2.1⟩, h.2⟩) (run m ρ)

end Cert.Kernel2Ideal.Proj

end
-- ==== Proof.ValModel.lean ====
/-  The projection with its rotary part, written entry by entry: what both programs are shown to return. -/
module

public import Idealize.ShloMosaic.Lib.Pointwise

@[expose] public section

set_option maxRecDepth 16384

noncomputable section

namespace Cert.Proj

open Idealize.ShloMosaic

/-- The reciprocal root of a row's mean square, from the row's sum of squares. -/
def rsq (s : EReal) : EReal :=
  FloatOps.rsqrt (F := Ideal) (φ := .f32) (Ideal.div s (Ideal.ofBits .f32 0x44800000#32) + Ideal.ofBits .f32 0x358637BD#32)

/-- One entry of a normalised, modulated row. -/
def hcell (x g sc sh : Fin 1024 → EReal) (k : Fin 1024) : EReal :=
  x k * rsq (∑ j : Fin 1024, x j * x j) * g k * (1 + sc k) + sh k

/-- The product of two rows of 1024. -/
def dot1 (a b : Fin 1024 → EReal) : EReal := ∑ k, a k * b k

/-- One rotary frequency, of 32. -/
def freq (j : Fin 32) : EReal :=
  FloatOps.hostPowf (F := Ideal) (φ := .f32) (Ideal.ofBits .f32 0x461C4000#32)
    (Ideal.div (-(FloatOps.sitofp (F := Ideal) .f32 (BitVec.ofNat 32 j.val))) (Ideal.ofBits .f32 0x42000000#32))

/-- The angle of a position's grid row, -/
def angR (p : Fin 8192) (j : Fin 32) : EReal := FloatOps.sitofp (F := Ideal) .f32 (BitVec.ofNat 32 (p.val / 64)) * freq j
/-- and of its grid column. -/
def angC (p : Fin 8192) (j : Fin 32) : EReal := FloatOps.sitofp (F := Ideal) .f32 (BitVec.ofNat 32 (p.val % 64)) * freq j

/-- The cosine and the sine of an angle. -/
def cosE (a : EReal) : EReal := FloatOps.hostUnary (F := Ideal) (φ := .f32) .cos a
def sinE (a : EReal) : EReal := FloatOps.hostUnary (F := Ideal) (φ := .f32) .sin a

/-- A head of 128 lanes, turned by its position: lanes 0..63 by the angles of the grid row, lanes 64..127 by those of the
    grid column, each as pairs of lanes 32 apart. -/
def rope (q : Fin 128 → EReal) (p : Fin 8192) (l : Fin 128) : EReal :=
  if h0 : l.val < 32 then q l * cosE (angR p ⟨l.val, h0⟩) - q ⟨l.val + 32, by omega⟩ * sinE (angR p ⟨l.val, h0⟩)
  else if h1 : l.val < 64 then
    q ⟨l.val - 32, by omega⟩ * sinE (angR p ⟨l.val - 32, by omega⟩) + q l * cosE (angR p ⟨l.val - 32, by omega⟩)
  else if h2 : l.val < 96 then
    q l * cosE (angC p ⟨l.val - 64, by omega⟩) - q ⟨l.val + 32, by omega⟩ * sinE (angC p ⟨l.val - 64, by omega⟩)
  else q ⟨l.val - 32, by omega⟩ * sinE (angC p ⟨l.val - 96, by omega⟩) + q l * cosE (angC p ⟨l.val - 96, by omega⟩)

/-- The scale of the keys. -/
def scale : EReal := Ideal.ofBits .f32 0x3DB504F3#32

/-- The wide result at position `p` and column `n`, from the product `pj` of that row with every weight column. -/
def wide (pj : Fin 8224 → EReal) (p : Fin 8192) (n : Fin 8192) : EReal :=
  if h0 : n.val < 3072 then pj ⟨n.val, by omega⟩
  else if h1 : n.val < 3584 then
    rope (fun l => pj ⟨3104 + 128 * ((n.val - 3072) / 128) + l.val, by omega⟩) p ⟨(n.val - 3072) % 128, Nat.mod_lt _ (by decide)⟩
  else if h2 : n.val < 4096 then
    rope (fun l => pj ⟨3616 + 128 * ((n.val - 3584) / 128) + l.val, by omega⟩ * scale) p ⟨(n.val - 3584) % 128, Nat.mod_lt _ (by decide)⟩
  else pj ⟨n.val + 32, by omega⟩

/-- The narrow result: the thirty-two low-rank columns, then zeros. -/
def narrow (pj : Fin 8224 → EReal) (l : Fin 128) : EReal :=
  if h : l.val < 32 then pj ⟨3072 + l.val, by omega⟩ else 0

/-- The product of row `(b, p)` with the weight's column `n`. -/
def proj (x : Vec Ideal ⟨3, ![2, 8192, 1024]⟩ .f32) (sh sc : Vec Ideal ⟨3, ![2, 1, 1024]⟩ .f32) (g : Vec Ideal ⟨2, ![1, 1024]⟩ .f32)
    (w : Vec Ideal ⟨3, ![1, 1024, 8224]⟩ .f32) (b : Fin 2) (p : Fin 8192) (n : Fin 8224) : EReal :=
  dot1 (hcell (fun j => x (ix3 b p j)) (fun j => g (ix2 0 j)) (fun j => sc (ix3 b 0 j)) (fun j => sh (ix3 b 0 j)))
    (fun k => w (ix3 0 k n))

end Cert.Proj

end
-- ==== Proof.ValRef.lean ====
/-  The reference read entry by entry. -/
module

public import proofs.«01_k».proof.Proof.ValModel
public import proofs.«01_k».proof.Proof.Gen.Reference2Ideal.Run

@[expose] public section

set_option maxRecDepth 16384

noncomputable section

namespace Cert.Reference2Ideal.Entry

open Cert.Reference2Ideal Cert.Reference2Ideal.Gen Cert.Proj Idealize.ShloMosaic Idealize.ShloMosaic.TcCoe Idealize.SL.Sem

/-- The normalised, modulated rows. -/
def refH (x : FVec Ideal S2x8192x1024 .f32) (sh sc : FVec Ideal S2x1x1024 .f32) (g : FVec Ideal S1x1024 .f32) : FVec Ideal S2x8192x1024 .f32 :=
  addf (mulf (mulf (mulf x (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ g shapeCasts_S1x1024_S1024))))
    (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

/-- Their product with the whole weight. -/
def refP (x : FVec Ideal S2x8192x1024 .f32) (sh sc : FVec Ideal S2x1x1024 .f32) (g : FVec Ideal S1x1024 .f32) (w : FVec Ideal S1x1024x8224 .f32) :
    FVec Ideal S2x8192x8224 .f32 :=
  Host.dotGeneral dot_S2x8192x1024_S1024x8224_S2x8192x8224_2_0_01_1_n_n none (refH x sh sc g) (shapeCast _ w shapeCasts_S1x1024x8224_S1024x8224)

/-- The rotary frequencies. -/
def refFreq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The grid row of each position, -/
def refRows : FVec Ideal S8192 .f32 :=
  shapeCast _ (broadcastInDim S128x64 ![0] bcast_S128_S128x64_0 (sitofp .f32 (iotaInDim S128 32 0))) shapeCasts_S128x64_S8192
/-- and its grid column. -/
def refCols : FVec Ideal S8192 .f32 :=
  shapeCast _ (broadcastInDim S128x64 ![0, 1] bcast_S1x64_S128x64_0_1 (shapeCast S1x64 (sitofp .f32 (iotaInDim S64 32 0)) shapeCasts_S64_S1x64)) shapeCasts_S128x64_S8192

/-- The angles from the positions along one axis of the grid. -/
def refAng (pos : FVec Ideal S8192 .f32) : FVec Ideal S8192x32 .f32 :=
  mulf (broadcastInDim S8192x32 ![0, 1] bcast_S8192x1_S8192x32_0_1 (broadcastInDim S8192x1 ![0] bcast_S8192_S8192x1_0 pos))
    (broadcastInDim S8192x32 ![0, 1] bcast_S1x32_S8192x32_0_1 (broadcastInDim S1x32 ![1] bcast_S32_S1x32_1 refFreq))

/-- Half a head, turned by the given angles. -/
def refHalf (u : FVec Ideal S2x8192x4x64 .f32) (a : FVec Ideal S8192x32 .f32) : FVec Ideal S2x8192x4x64 .f32 :=
  concatenate S2x8192x4x64 3 [⟨S2x8192x4x32,
      subf (mulf (extractStridedSlice S2x8192x4x32 ![0, 0, 0, 0] u slices_S2x8192x4x64_S2x8192x4x32_0_0_0_0)
          (broadcastInDim S2x8192x4x32 ![0, 1, 2, 3] bcast_S1x8192x1x32_S2x8192x4x32_0_1_2_3 (broadcastInDim S1x8192x1x32 ![1, 3] bcast_S8192x32_S1x8192x1x32_1_3 (Host.cos a))))
        (mulf (extractStridedSlice S2x8192x4x32 ![0, 0, 0, 32] u slices_S2x8192x4x64_S2x8192x4x32_0_0_0_32)
          (broadcastInDim S2x8192x4x32 ![0, 1, 2, 3] bcast_S1x8192x1x32_S2x8192x4x32_0_1_2_3 (broadcastInDim S1x8192x1x32 ![1, 3] bcast_S8192x32_S1x8192x1x32_1_3 (Host.sin a))))⟩,
    ⟨S2x8192x4x32,
      addf (mulf (extractStridedSlice S2x8192x4x32 ![0, 0, 0, 0] u slices_S2x8192x4x64_S2x8192x4x32_0_0_0_0)
          (broadcastInDim S2x8192x4x32 ![0, 1, 2, 3] bcast_S1x8192x1x32_S2x8192x4x32_0_1_2_3 (broadcastInDim S1x8192x1x32 ![1, 3] bcast_S8192x32_S1x8192x1x32_1_3 (Host.sin a))))
        (mulf (extractStridedSlice S2x8192x4x32 ![0, 0, 0, 32] u slices_S2x8192x4x64_S2x8192x4x32_0_0_0_32)
          (broadcastInDim S2x8192x4x32 ![0, 1, 2, 3] bcast_S1x8192x1x32_S2x8192x4x32_0_1_2_3 (broadcastInDim S1x8192x1x32 ![1, 3] bcast_S8192x32_S1x8192x1x32_1_3 (Host.cos a))))⟩]
    concatenates_S2x8192x4x32_S2x8192x4x32_S2x8192x4x64_d3

/-- A head, turned half by half. -/
def refRope (t : FVec Ideal S2x8192x4x128 .f32) : FVec Ideal S2x8192x4x128 .f32 :=
  concatenate S2x8192x4x128 3 [⟨S2x8192x4x64, refHalf (extractStridedSlice S2x8192x4x64 ![0, 0, 0, 0] t slices_S2x8192x4x128_S2x8192x4x64_0_0_0_0) (refAng refRows)⟩,
    ⟨S2x8192x4x64, refHalf (extractStridedSlice S2x8192x4x64 ![0, 0, 0, 64] t slices_S2x8192x4x128_S2x8192x4x64_0_0_0_64) (refAng refCols)⟩]
    concatenates_S2x8192x4x64_S2x8192x4x64_S2x8192x4x128_d3

/-- The wide result from the product. -/
def refWide (q : FVec Ideal S2x8192x8224 .f32) : FVec Ideal S16384x8192 .bf16 :=
  truncf .bf16 (shapeCast S16384x8192 (concatenate S2x8192x8192 2
    [⟨S2x8192x3072, extractStridedSlice S2x8192x3072 ![0, 0, 0] q slices_S2x8192x8224_S2x8192x3072_0_0_0⟩,
     ⟨S2x8192x512, shapeCast S2x8192x512 (refRope (shapeCast S2x8192x4x128 (extractStridedSlice S2x8192x512 ![0, 0, 3104] q slices_S2x8192x8224_S2x8192x512_0_0_3104) shapeCasts_S2x8192x512_S2x8192x4x128)) shapeCasts_S2x8192x4x128_S2x8192x512⟩,
     ⟨S2x8192x512, shapeCast S2x8192x512 (refRope (mulf (shapeCast S2x8192x4x128 (extractStridedSlice S2x8192x512 ![0, 0, 3616] q slices_S2x8192x8224_S2x8192x512_0_0_3616) shapeCasts_S2x8192x512_S2x8192x4x128)
        (broadcastInDim S2x8192x4x128 ![] bcast_S_S2x8192x4x128 (constant S_ .f32 0x3DB504F3#32)))) shapeCasts_S2x8192x4x128_S2x8192x512⟩,
     ⟨S2x8192x4096, extractStridedSlice S2x8192x4096 ![0, 0, 4128] q slices_S2x8192x8224_S2x8192x4096_0_0_4128⟩]
    concatenates_S2x8192x3072_S2x8192x512_S2x8192x512_S2x8192x4096_S2x8192x8192_d2) shapeCasts_S2x8192x8192_S16384x8192) bitsLt_bf16_f32

/-- The narrow result from the product. -/
def refNarrow (q : FVec Ideal S2x8192x8224 .f32) : FVec Ideal S16384x128 .f32 :=
  shapeCast S16384x128 (concatenate S2x8192x128 2 [⟨S2x8192x32, extractStridedSlice S2x8192x32 ![0, 0, 3072] q slices_S2x8192x8224_S2x8192x32_0_0_3072⟩,
    ⟨S2x8192x96, broadcastInDim S2x8192x96 ![] bcast_S_S2x8192x96 (constant S_ .f32 0x00000000#32)⟩] concatenates_S2x8192x32_S2x8192x96_S2x8192x128_d2)
    shapeCasts_S2x8192x128_S16384x128

variable (m : (ℓ : Loc nD τ sig) → Buf (Elt Ideal) ℓ) (c : Dev nD)

/-- The product, from a memory's arguments. -/
abbrev refQ : FVec Ideal S2x8192x8224 .f32 :=
  refP (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's wide result is `refWide` of the product. -/
theorem wide_stages : Value.res_out0 m c = refWide (refQ m c) := by
  unfold Value.res_out0 Value.res_main_v151
  rfl

theorem refH_apply (x : FVec Ideal S2x8192x1024 .f32) (sh sc : FVec Ideal S2x1x1024 .f32) (g : FVec Ideal S1x1024 .f32) (b : Fin 2) (p : Fin 8192) (k : Fin 1024) :
    refH x sh sc g (ix3 b p k) = hcell (fun j => x (ix3 b p j)) (fun j => g (ix2 0 j)) (fun j => sc (ix3 b 0 j)) (fun j => sh (ix3 b 0 j)) k := by
  pointwise [refH, hcell, rsq]

/-- The product read at an index. -/
theorem refP_apply (x : FVec Ideal S2x8192x1024 .f32) (sh sc : FVec Ideal S2x1x1024 .f32) (g : FVec Ideal S1x1024 .f32) (w : FVec Ideal S1x1024x8224 .f32)
    (b : Fin 2) (p : Fin 8192) (n : Fin 8224) : refP x sh sc g w (ix3 b p n) = proj x sh sc g w b p n := by
  pointwise [refP, proj, dot1, refH_apply]

/-- The angles read at an index. -/
theorem rowAng_apply (p : Fin 8192) (j : Fin 32) : refAng refRows (ix2 p j) = angR p j := by
  pointwise [refAng, refRows, refFreq, angR, freq]

theorem colAng_apply (p : Fin 8192) (j : Fin 32) : refAng refCols (ix2 p j) = angC p j := by
  pointwise [refAng, refCols, refFreq, angC, freq]

/-- A turned head read at an index. -/
theorem refRope_apply (t : FVec Ideal S2x8192x4x128 .f32) (b : Fin 2) (p : Fin 8192) (a : Fin 4) (l : Fin 128) :
    refRope t (ix4 b p a l) = rope (fun l => t (ix4 b p a l)) p l := by
  pointwise [refRope, refHalf, rope, rowAng_apply, colAng_apply, cosE, sinE]
  by_cases h0 : l.val < 32
  · have h1 : l.val < 64 := by omega
    simp only [h0, h1, ↓reduceDIte, Nat.add_comm 32]
  by_cases h1 : l.val < 64
  · simp only [h0, h1, ↓reduceDIte, show 32 + (l.val - 32) = l.val from by omega]
  by_cases h2 : l.val < 96
  · have h3 : l.val - 64 < 32 := by omega
    simp only [h0, h1, h2, h3, ↓reduceDIte, show 64 + (l.val - 64) = l.val from by omega, show 64 + (32 + (l.val - 64)) = l.val + 32 from by omega]
  · have h3 : ¬ l.val - 64 < 32 := by omega
    simp only [h0, h1, h2, h3, ↓reduceDIte, show l.val - 64 - 32 = l.val - 96 from by omega,
      show 64 + (l.val - 96) = l.val - 32 from by omega, show 64 + (32 + (l.val - 96)) = l.val from by omega]

/-- The wide result read at an index. -/
theorem refWide_apply (q : FVec Ideal S2x8192x8224 .f32) (r : Fin 16384) (n : Fin 8192) :
    refWide q (ix2 r n) = wide (fun k => q (ix3 ⟨r.val / 8192, by omega⟩ ⟨r.val % 8192, by omega⟩ k)) ⟨r.val % 8192, by omega⟩ n := by
  pointwise [refWide, wide, refRope_apply, scale]
  by_cases h0 : n.val < 3072
  · simp only [h0, ↓reduceDIte]
  by_cases h1 : n.val < 3584
  · have h3 : n.val - 3072 < 512 := by omega
    simp only [h0, h1, h3, ↓reduceDIte, Nat.mul_comm _ 128, Nat.add_assoc]
  have h3 : ¬ n.val - 3072 < 512 := by omega
  by_cases h2 : n.val < 4096
  · have h4 : n.val - 3072 - 512 < 512 := by omega
    simp only [h0, h1, h2, h3, h4, ↓reduceDIte]
    simp only [Nat.mul_comm _ 128, Nat.add_assoc, Nat.sub_sub, Nat.reduceAdd]
  · have h4 : ¬ n.val - 3072 - 512 < 512 := by omega
    simp only [h0, h1, h2, h3, h4, ↓reduceDIte]
    simp only [Nat.sub_sub, Nat.reduceAdd, show 4128 + (n.val - 4096) = n.val + 32 from by omega]

/-- The narrow result read at an index. -/
theorem refNarrow_apply (q : FVec Ideal S2x8192x8224 .f32) (r : Fin 16384) (n : Fin 128) :
    refNarrow q (ix2 r n) = narrow (fun k => q (ix3 ⟨r.val / 8192, by omega⟩ ⟨r.val % 8192, by omega⟩ k)) n := by
  pointwise [refNarrow, narrow]

end Cert.Reference2Ideal.Entry

end
-- ==== Proof.ValBody.lean ====
/-  The projection call's body read entry by entry. -/
module

public import proofs.«01_k».proof.Proof.ValModel
public import proofs.«01_k».proof.Proof.ProjDefs
public import Idealize.ShloMosaic.Lib.Pipeline.ValueKit
public import Idealize.ShloMosaic.Lib.Pointwise

@[expose] public section

set_option maxRecDepth 16384

noncomputable section

namespace Cert.Kernel2Ideal.Proj

open Cert.Kernel2Ideal.Gen Cert.Proj
open Idealize.ShloMosaic Idealize.ShloMosaic.TcCoe Idealize.ShloMosaic.Tactic

/-! ## The payloads -/

/-- Each row group's payload is the normalised, modulated row. -/
theorem pay7_apply (x0 : Vec Ideal S256x1024 .f32) (x3 : Vec Ideal S1x1024 .f32) (x2 x1 : Vec Ideal S1x1x1024 .f32) (r : Fin 256) (k : Fin 1024) :
    k1_pay7 x0 x3 x2 x1 (ix2 r k)
      = hcell (fun j => x0 (ix2 r j)) (fun j => x3 (ix2 0 j)) (fun j => x2 (ix3 0 0 j)) (fun j => x1 (ix3 0 0 j)) k := by
  pointwise [k1_pay7, hcell, rsq]

theorem pay11_apply (x0 : Vec Ideal S256x1024 .f32) (x3 : Vec Ideal S1x1024 .f32) (x2 x1 : Vec Ideal S1x1x1024 .f32) (r : Fin 256) (k : Fin 1024) :
    k1_pay11 x0 x3 x2 x1 (ix2 r k)
      = hcell (fun j => x0 (ix2 r j)) (fun j => x3 (ix2 0 j)) (fun j => x2 (ix3 0 0 j)) (fun j => x1 (ix3 0 0 j)) k := by
  pointwise [k1_pay11, hcell, rsq]

theorem pay16_apply (x0 : Vec Ideal S256x1024 .f32) (x3 : Vec Ideal S1x1024 .f32) (x2 x1 : Vec Ideal S1x1x1024 .f32) (r : Fin 256) (k : Fin 1024) :
    k1_pay16 x0 x3 x2 x1 (ix2 r k)
      = hcell (fun j => x0 (ix2 r j)) (fun j => x3 (ix2 0 j)) (fun j => x2 (ix3 0 0 j)) (fun j => x1 (ix3 0 0 j)) k := by
  pointwise [k1_pay16, hcell, rsq]

theorem pay1_apply (x0 : Vec Ideal S256x1024 .f32) (x3 : Vec Ideal S1x1024 .f32) (x2 x1 : Vec Ideal S1x1x1024 .f32) (r : Fin 256) (k : Fin 1024) :
    k1_pay1 (k1_pay20 x0 x3 x2) x1 (ix2 r k)
      = hcell (fun j => x0 (ix2 r j)) (fun j => x3 (ix2 0 j)) (fun j => x2 (ix3 0 0 j)) (fun j => x1 (ix3 0 0 j)) k := by
  pointwise [k1_pay1, k1_pay20, hcell, rsq]

/-- The test by which the body picks a lane's partner: the lane's position in its half head is below 32. -/
theorem mask_bit : ∀ k : Fin 128,
    IntOp.cmpi CmpIPredicate.slt
      (Scalar.select
        (IntOp.andi
          (IntOp.xori
            (IntOp.cmpi CmpIPredicate.slt
              (IntOp.remsi ArithUnit.vector (BitVec.ofNat 32 k.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 k.val) (Scalar.select (Scalar.cmpi CmpIPredicate.eq 64#32 0#32) 1#32 64#32)) 0#32))
        (IntOp.addi
          (IntOp.remsi ArithUnit.vector (BitVec.ofNat 32 k.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 k.val) (Scalar.select (Scalar.cmpi CmpIPredicate.eq 64#32 0#32) 1#32 64#32)))
      32#32 = BitVec.ofBool (decide (k.val % 64 < 32)) := by
  decide +kernel

/-- A head turned by two tables: the lane's own entry by the cosines, its partner's by the signed sines. -/
def rot (q c s : Fin 128 → EReal) (l : Fin 128) : EReal :=
  q l * c l + (if l.val % 64 < 32 then q ⟨(l.val + 128 - 96) % 128, Nat.mod_lt _ (by decide)⟩
    else q ⟨(l.val + 128 - 32) % 128, Nat.mod_lt _ (by decide)⟩) * s l

theorem mask_select (k : Fin 128) (a b : EReal) :
    Scalar.select (α := EReal) (BitVec.ofBool (decide (k.val % 64 < 32))) a b = if k.val % 64 < 32 then a else b := by
  by_cases h : k.val % 64 < 32 <;> simp [h, Scalar.select]

/-! Each rotated block's payload is its columns of the product, scaled in the last four, turned head by head. -/

theorem block0_apply (v11 : Vec Ideal S1024x1024 .bf16) (w : Vec Ideal S256x1024 .bf16) (x6 x7 : Vec Ideal S1024x128 .f32) (r : Fin 1024) (l : Fin 128) :
    k1_pay24 v11 x6 x7 w (ix2 r l)
      = rot (fun l => dot1 (fun k => v11 (ix2 r k)) (fun k => w (ix2 ⟨l.val, by omega⟩ k))) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block1_apply (v11 : Vec Ideal S1024x1024 .bf16) (w : Vec Ideal S256x1024 .bf16) (x6 x7 : Vec Ideal S1024x128 .f32) (r : Fin 1024) (l : Fin 128) :
    k1_pay26 (k1_pay21 x6) (k1_pay22 x7) (k1_pay25 v11 w) (iota .tc S1024x128 32 [1] iota_S1024x128_d1_w32) 64#32 (ix2 r l)
      = rot (fun l => dot1 (fun k => v11 (ix2 r k)) (fun k => w (ix2 ⟨128 + l.val, by omega⟩ k))) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block2_apply (v11 : Vec Ideal S1024x1024 .bf16) (w : Vec Ideal S256x1024 .bf16) (x6 x7 : Vec Ideal S1024x128 .f32) (r : Fin 1024) (l : Fin 128) :
    k1_pay32 (k1_pay21 x6) (k1_pay22 x7) (k1_pay28 v11 w) (Scalar.select (Scalar.cmpi .eq 64#32 0#32) 1#32 64#32) k1_pay29 k1_pay30 k1_pay31 (Scalar.cmpi .slt (Scalar.select (Scalar.cmpi .eq 64#32 0#32) 1#32 64#32) 0#32) (ix2 r l)
      = rot (fun l => dot1 (fun k => v11 (ix2 r k)) (fun k => w (ix2 ⟨l.val, by omega⟩ k))) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block3_apply (v11 : Vec Ideal S1024x1024 .bf16) (w : Vec Ideal S256x1024 .bf16) (x6 x7 : Vec Ideal S1024x128 .f32) (r : Fin 1024) (l : Fin 128) :
    k1_pay33 (k1_pay21 x6) (k1_pay22 x7) (k1_pay27 v11 w) (ix2 r l)
      = rot (fun l => dot1 (fun k => v11 (ix2 r k)) (fun k => w (ix2 ⟨128 + l.val, by omega⟩ k))) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block4_apply (v11 : Vec Ideal S1024x1024 .bf16) (w : Vec Ideal S256x1024 .bf16) (x6 x7 : Vec Ideal S1024x128 .f32) (r : Fin 1024) (l : Fin 128) :
    k1_pay35 v11 (k1_pay21 x6) (k1_pay22 x7) w (ix2 r l)
      = rot (fun l => dot1 (fun k => v11 (ix2 r k)) (fun k => w (ix2 ⟨l.val, by omega⟩ k)) * scale) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block5_apply (v11 : Vec Ideal S1024x1024 .bf16) (w : Vec Ideal S256x1024 .bf16) (x6 x7 : Vec Ideal S1024x128 .f32) (r : Fin 1024) (l : Fin 128) :
    k1_pay38 (k1_pay21 x6) (k1_pay22 x7) (k1_pay36 v11 w) (iota .tc S1024x128 32 [1] iota_S1024x128_d1_w32) (Scalar.select (Scalar.cmpi .eq 64#32 0#32) 1#32 64#32) k1_pay37 (ix2 r l)
      = rot (fun l => dot1 (fun k => v11 (ix2 r k)) (fun k => w (ix2 ⟨128 + l.val, by omega⟩ k)) * scale) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block6_apply (v11 : Vec Ideal S1024x1024 .bf16) (w : Vec Ideal S256x1024 .bf16) (x6 x7 : Vec Ideal S1024x128 .f32) (r : Fin 1024) (l : Fin 128) :
    k1_pay45 (k1_pay21 x6) (k1_pay22 x7) (k1_pay40 v11 w) (Scalar.select (Scalar.cmpi .eq 64#32 0#32) 1#32 64#32) k1_pay41 k1_pay42 k1_pay43 k1_pay44 (ix2 r l)
      = rot (fun l => dot1 (fun k => v11 (ix2 r k)) (fun k => w (ix2 ⟨l.val, by omega⟩ k)) * scale) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

theorem block7_apply (v11 : Vec Ideal S1024x1024 .bf16) (w : Vec Ideal S256x1024 .bf16) (x6 x7 : Vec Ideal S1024x128 .f32) (r : Fin 1024) (l : Fin 128) :
    k1_pay46 (k1_pay21 x6) (k1_pay22 x7) (k1_pay39 v11 w) (ix2 r l)
      = rot (fun l => dot1 (fun k => v11 (ix2 r k)) (fun k => w (ix2 ⟨128 + l.val, by omega⟩ k)) * scale) (fun l => x6 (ix2 r l)) (fun l => x7 (ix2 r l)) l := by
  pointwise [k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46]
  rw [mask_bit]
  exact congrArg (fun z => _ + z * _) (mask_select l _ _)

/-! ## The blocks -/

/-- The kept rows. -/
theorem hA_apply (x0 : Vec Ideal S1024x1024 .f32) (x1 x2 : Vec Ideal S1x1x1024 .f32) (x3 : Vec Ideal S1x1024 .f32) (r k : Fin 1024) :
    hA x0 x1 x2 x3 (ix2 r k)
      = hcell (fun j => x0 (ix2 r j)) (fun j => x3 (ix2 0 j)) (fun j => x2 (ix3 0 0 j)) (fun j => x1 (ix3 0 0 j)) k := by
  unfold hA
  refine View.canon_apply_of_pieces (Val := Elt Ideal) (e := .bf16) (S := S1024x1024) (fun y => hcell (fun j => x0 (ix2 (y 0) j)) (fun j => x3 (ix2 0 j)) (fun j => x2 (ix3 0 0 j)) (fun j => x1 (ix3 0 0 j)) (y 1)) _ ?_ _ (cover_h _ _ _ _ _)
  intro p hp x
  rw [show p.1.emb x = p.1.idx x from rfl]
  simp only [List.mem_cons, List.not_mem_nil, or_false] at hp
  rcases hp with rfl | rfl | rfl | rfl
  all_goals
    obtain ⟨a, b, rfl⟩ : ∃ (a : Fin 256) (b : Fin 1024), x = ix2 a b := ⟨x 0, x 1, eq_ix2 x⟩
    pointwise [k1_pay2, k1_pay17, k1_pay12, k1_pay8, pay1_apply, pay16_apply, pay11_apply, pay7_apply]

/-- The narrow block: the kept rows times the narrow weights. -/
theorem lrA_apply (x0 : Vec Ideal S1024x1024 .f32) (x1 x2 : Vec Ideal S1x1x1024 .f32) (x3 : Vec Ideal S1x1024 .f32) (x5 : Vec Ideal S128x1024 .bf16) (r : Fin 1024) (l : Fin 128) :
    lrA x0 x1 x2 x3 x5 (ix2 r l) = dot1 (hcell (fun j => x0 (ix2 r j)) (fun j => x3 (ix2 0 j)) (fun j => x2 (ix3 0 0 j)) (fun j => x1 (ix3 0 0 j))) (fun k => x5 (ix2 l k)) := by
  unfold lrA
  refine View.canon_apply_of_pieces (Val := Elt Ideal) (e := .f32) (S := S1024x128) (fun y => dot1 (hcell (fun j => x0 (ix2 (y 0) j)) (fun j => x3 (ix2 0 j)) (fun j => x2 (ix3 0 0 j)) (fun j => x1 (ix3 0 0 j))) (fun k => x5 (ix2 (y 1) k))) _ ?_ _ (cover_lr _ _ _ _ _)
  intro p hp x
  rw [show p.1.emb x = p.1.idx x from rfl]
  simp only [List.mem_cons, List.not_mem_nil, or_false] at hp
  rcases hp with rfl | rfl | rfl | rfl
  all_goals
    obtain ⟨a, b, rfl⟩ : ∃ (a : Fin 256) (b : Fin 128), x = ix2 a b := ⟨x 0, x 1, eq_ix2 x⟩
    pointwise [k1_pay3, k1_pay18, k1_pay14, k1_pay13, k1_pay9, pay1_apply, pay16_apply, pay11_apply, pay7_apply, dot1]

/-- The wide block at a first column tile: the kept rows times the tile's weights. -/
theorem oA_apply (x0 : Vec Ideal S1024x1024 .f32) (x1 x2 : Vec Ideal S1x1x1024 .f32) (x3 : Vec Ideal S1x1024 .f32) (x4 : Vec Ideal S2048x1024 .bf16) (r : Fin 1024) (n : Fin 2048) :
    oA x0 x1 x2 x3 x4 (ix2 r n) = dot1 (hcell (fun j => x0 (ix2 r j)) (fun j => x3 (ix2 0 j)) (fun j => x2 (ix3 0 0 j)) (fun j => x1 (ix3 0 0 j))) (fun k => x4 (ix2 n k)) := by
  unfold oA
  refine View.canon_apply_of_pieces (Val := Elt Ideal) (e := .bf16) (S := S1024x2048) (fun y => dot1 (hcell (fun j => x0 (ix2 (y 0) j)) (fun j => x3 (ix2 0 j)) (fun j => x2 (ix3 0 0 j)) (fun j => x1 (ix3 0 0 j))) (fun k => x4 (ix2 (y 1) k))) _ ?_ _ (cover_oA _ _ _ _ _)
  intro p hp x
  rw [show p.1.emb x = p.1.idx x from rfl]
  simp only [List.mem_cons, List.not_mem_nil, or_false] at hp
  rcases hp with rfl | rfl | rfl | rfl
  all_goals
    obtain ⟨a, b, rfl⟩ : ∃ (a : Fin 256) (b : Fin 2048), x = ix2 a b := ⟨x 0, x 1, eq_ix2 x⟩
    pointwise [k1_pay4, k1_pay19, k1_pay15, k1_pay10, pay1_apply, pay16_apply, pay11_apply, pay7_apply, dot1]

/-- The wide block at a third or fourth column tile. -/
theorem oC_apply (h : Vec Ideal S1024x1024 .bf16) (x4 : Vec Ideal S2048x1024 .bf16) (r : Fin 1024) (n : Fin 2048) :
    oC h x4 (ix2 r n) = dot1 (fun k => h (ix2 r k)) (fun k => x4 (ix2 n k)) := by
  unfold oC
  refine (View.canon_apply_of_pieces (Val := Elt Ideal) (e := .bf16) (S := S1024x2048) (fun y => dot1 (fun k => h (ix2 (y 0) k)) (fun k => x4 (ix2 (y 1) k))) _ ?_ _ (cover_oC _ _))
  intro p hp x
  rw [show p.1.emb x = p.1.idx x from rfl]
  simp only [List.mem_cons, List.not_mem_nil, or_false] at hp
  subst hp
  obtain ⟨a, b, rfl⟩ : ∃ (a : Fin 1024) (b : Fin 2048), x = ix2 a b := ⟨x 0, x 1, eq_ix2 x⟩
  pointwise [k1_pay5, dot1]

/-- An entry of the rotated tile: a plain product below column 1024, then eight heads turned by the tables, the last
    four of them scaled. -/
def turned (q : Fin 2048 → EReal) (c s : Fin 128 → EReal) (n : Fin 2048) : EReal :=
  if h0 : n.val < 1024 then q n
  else if h1 : n.val < 1536 then
    rot (fun l => q ⟨1024 + 128 * ((n.val - 1024) / 128) + l.val, by omega⟩) c s ⟨(n.val - 1024) % 128, Nat.mod_lt _ (by decide)⟩
  else rot (fun l => q ⟨1024 + 128 * ((n.val - 1024) / 128) + l.val, by omega⟩ * scale) c s ⟨(n.val - 1024) % 128, Nat.mod_lt _ (by decide)⟩

/-! The columns of one head of the rotated tile. -/

theorem turned_plain (q : Fin 2048 → EReal) (c s : Fin 128 → EReal) (f : Fin 128 → Fin 2048) (j : Nat) (hj : j < 4)
    (hf : ∀ l, (f l).val = 1024 + 128 * j + l.val) (n : Fin 2048) (b : Fin 128) (hn : n.val = 1024 + 128 * j + b.val) :
    rot (fun l => q (f l)) c s b = turned q c s n := by
  have h0 : ¬ n.val < 1024 := by omega
  have h1 : n.val < 1536 := by omega
  unfold turned
  simp only [h0, h1, ↓reduceDIte]
  have e : (⟨(n.val - 1024) % 128, Nat.mod_lt _ (by decide)⟩ : Fin 128) = b := Fin.ext (by show (n.val - 1024) % 128 = b.val; omega)
  rw [e]
  refine congrArg (fun g => rot g c s b) (funext fun l => congrArg (fun m => q m) (Fin.ext ?_))
  rw [hf]
  show _ = 1024 + 128 * ((n.val - 1024) / 128) + l.val
  omega

theorem turned_scaled (q : Fin 2048 → EReal) (c s : Fin 128 → EReal) (f : Fin 128 → Fin 2048) (j : Nat) (hj : 4 ≤ j ∧ j < 8)
    (hf : ∀ l, (f l).val = 1024 + 128 * j + l.val) (n : Fin 2048) (b : Fin 128) (hn : n.val = 1024 + 128 * j + b.val) :
    rot (fun l => q (f l) * scale) c s b = turned q c s n := by
  have h0 : ¬ n.val < 1024 := by omega
  have h1 : ¬ n.val < 1536 := by omega
  unfold turned
  simp only [h0, h1, ↓reduceDIte]
  have e : (⟨(n.val - 1024) % 128, Nat.mod_lt _ (by decide)⟩ : Fin 128) = b := Fin.ext (by show (n.val - 1024) % 128 = b.val; omega)
  rw [e]
  refine congrArg (fun g => rot g c s b) (funext fun l => congrArg (fun m => q m * scale) (Fin.ext ?_))
  rw [hf]
  show _ = 1024 + 128 * ((n.val - 1024) / 128) + l.val
  omega

/-- The wide block at a second column tile. -/
theorem oB_apply (h : Vec Ideal S1024x1024 .bf16) (x4 : Vec Ideal S2048x1024 .bf16) (x6 x7 : Vec Ideal S1024x128 .f32) (r : Fin 1024) (n : Fin 2048) :
    oB h x4 x6 x7 (ix2 r n)
      = turned (fun n => dot1 (fun k => h (ix2 r k)) (fun k => x4 (ix2 n k))) (fun l => x6 (ix2 r l)) (fun l => x7 (ix2 r l)) n := by
  unfold oB
  refine (View.canon_apply_of_pieces (Val := Elt Ideal) (e := .bf16) (S := S1024x2048)
    (fun y => turned (fun n => dot1 (fun k => h (ix2 (y 0) k)) (fun k => x4 (ix2 n k))) (fun l => x6 (ix2 (y 0) l)) (fun l => x7 (ix2 (y 0) l)) (y 1)) _ ?_ _ (cover_oB _ _ _ _ _ _ _ _ _ _))
  intro p hp x
  rw [show p.1.emb x = p.1.idx x from rfl]
  simp only [List.mem_cons, List.not_mem_nil, or_false] at hp
  rcases hp with rfl | rfl | rfl | rfl | rfl | rfl | rfl | rfl | rfl
  · obtain ⟨a, b, rfl⟩ : ∃ (a : Fin 1024) (b : Fin 1024), x = ix2 a b := ⟨x 0, x 1, eq_ix2 x⟩
    pointwise [k1_pay6, dot1, turned]
  · obtain ⟨a, b, rfl⟩ : ∃ (a : Fin 1024) (b : Fin 128), x = ix2 a b := ⟨x 0, x 1, eq_ix2 x⟩
    refine (block7_apply _ _ _ _ a b).trans ?_
    pointwise
    exact turned_scaled (fun n => dot1 (fun k => h (ix2 a k)) (fun k => x4 (ix2 n k))) _ _ (fun l => ⟨1792 + (128 + l.val), by omega⟩) 7 (by omega)
      (fun l => by show 1792 + (128 + l.val) = _; omega) ⟨1920 + b.val, by omega⟩ b (by show 1920 + b.val = _; omega)
  · obtain ⟨a, b, rfl⟩ : ∃ (a : Fin 1024) (b : Fin 128), x = ix2 a b := ⟨x 0, x 1, eq_ix2 x⟩
    refine (block6_apply _ _ _ _ a b).trans ?_
    pointwise
    exact turned_scaled (fun n => dot1 (fun k => h (ix2 a k)) (fun k => x4 (ix2 n k))) _ _ (fun l => ⟨1792 + l.val, by omega⟩) 6 (by omega)
      (fun l => by show 1792 + l.val = _; omega) ⟨1792 + b.val, by omega⟩ b (by show 1792 + b.val = _; omega)
  · obtain ⟨a, b, rfl⟩ : ∃ (a : Fin 1024) (b : Fin 128), x = ix2 a b := ⟨x 0, x 1, eq_ix2 x⟩
    refine (block5_apply _ _ _ _ a b).trans ?_
    pointwise
    exact turned_scaled (fun n => dot1 (fun k => h (ix2 a k)) (fun k => x4 (ix2 n k))) _ _ (fun l => ⟨1536 + (128 + l.val), by omega⟩) 5 (by omega)
      (fun l => by show 1536 + (128 + l.val) = _; omega) ⟨1664 + b.val, by omega⟩ b (by show 1664 + b.val = _; omega)
  · obtain ⟨a, b, rfl⟩ : ∃ (a : Fin 1024) (b : Fin 128), x = ix2 a b := ⟨x 0, x 1, eq_ix2 x⟩
    refine (block4_apply _ _ _ _ a b).trans ?_
    pointwise
    exact turned_scaled (fun n => dot1 (fun k => h (ix2 a k)) (fun k => x4 (ix2 n k))) _ _ (fun l => ⟨1536 + l.val, by omega⟩) 4 (by omega)
      (fun l => by show 1536 + l.val = _; omega) ⟨1536 + b.val, by omega⟩ b (by show 1536 + b.val = _; omega)
  · obtain ⟨a, b, rfl⟩ : ∃ (a : Fin 1024) (b : Fin 128), x = ix2 a b := ⟨x 0, x 1, eq_ix2 x⟩
    refine (block3_apply _ _ _ _ a b).trans ?_
    pointwise
    exact turned_plain (fun n => dot1 (fun k => h (ix2 a k)) (fun k => x4 (ix2 n k))) _ _ (fun l => ⟨1280 + (128 + l.val), by omega⟩) 3 (by omega)
      (fun l => by show 1280 + (128 + l.val) = _; omega) ⟨1408 + b.val, by omega⟩ b (by show 1408 + b.val = _; omega)
  · obtain ⟨a, b, rfl⟩ : ∃ (a : Fin 1024) (b : Fin 128), x = ix2 a b := ⟨x 0, x 1, eq_ix2 x⟩
    refine (block2_apply _ _ _ _ a b).trans ?_
    pointwise
    exact turned_plain (fun n => dot1 (fun k => h (ix2 a k)) (fun k => x4 (ix2 n k))) _ _ (fun l => ⟨1280 + l.val, by omega⟩) 2 (by omega)
      (fun l => by show 1280 + l.val = _; omega) ⟨1280 + b.val, by omega⟩ b (by show 1280 + b.val = _; omega)
  · obtain ⟨a, b, rfl⟩ : ∃ (a : Fin 1024) (b : Fin 128), x = ix2 a b := ⟨x 0, x 1, eq_ix2 x⟩
    refine (block1_apply _ _ _ _ a b).trans ?_
    pointwise
    exact turned_plain (fun n => dot1 (fun k => h (ix2 a k)) (fun k => x4 (ix2 n k))) _ _ (fun l => ⟨1024 + (128 + l.val), by omega⟩) 1 (by omega)
      (fun l => by show 1024 + (128 + l.val) = _; omega) ⟨1152 + b.val, by omega⟩ b (by show 1152 + b.val = _; omega)
  · obtain ⟨a, b, rfl⟩ : ∃ (a : Fin 1024) (b : Fin 128), x = ix2 a b := ⟨x 0, x 1, eq_ix2 x⟩
    refine (block0_apply _ _ _ _ a b).trans ?_
    pointwise
    exact turned_plain (fun n => dot1 (fun k => h (ix2 a k)) (fun k => x4 (ix2 n k))) _ _ (fun l => ⟨1024 + l.val, by omega⟩) 0 (by omega)
      (fun l => by show 1024 + l.val = _; omega) ⟨1024 + b.val, by omega⟩ b (by show 1024 + b.val = _; omega)

end Cert.Kernel2Ideal.Proj

end
-- ==== Proof.ValEntry.lean ====
/-  The projection call's arrays when it is entered, read entry by entry. -/
module

public import proofs.«01_k».proof.Proof.ValModel
public import proofs.«01_k».proof.Proof.ValBody
public import proofs.«01_k».proof.Proof.Run

@[expose] public section

set_option maxRecDepth 16384

noncomputable section

namespace Cert.Kernel2Ideal.Proj

open Cert.Kernel2Ideal Cert.Kernel2Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- A buffer no call writes is read off the operations before the first call. -/
theorem prep_arg (b : Ref sig .tc) (h0 : b ≠ main_v2_0) (h1 : b ≠ main_v2_1) (h2 : b ∉ hostOps0_W) : afterPrep m c b = m ((c.tc : Thread nD τ).loc b) :=
  (afterPrep_of m c b h0 h1).trans (V1_of m c b h2)

theorem entry_g : beforeProj m c main_v4 = broadcastInDim S1x1024 ![1] bcast_S1024_S1x1024_1 (shapeCast S1024 (afterPrep m c main_arg3) shapeCasts_S1x1024_S1024) := by
  unfold beforeProj hostOps1
  after_results <;> rfl

theorem entry_x : beforeProj m c main_v5 = shapeCast S16384x1024 (afterPrep m c main_arg0) shapeCasts_S2x8192x1024_S16384x1024 := by
  unfold beforeProj hostOps1
  after_results <;> rfl

theorem entry_keep : beforeProj m c main_v2_0 = afterPrep m c main_v2_0 ∧ beforeProj m c main_v2_1 = afterPrep m c main_v2_1
    ∧ beforeProj m c main_arg1 = afterPrep m c main_arg1 ∧ beforeProj m c main_arg2 = afterPrep m c main_arg2 := by
  unfold beforeProj hostOps1
  refine ⟨?_, ?_, ?_, ?_⟩
  all_goals after_results <;> rfl

/-- The rotary frequencies, and the angles of the grid rows and columns. -/
def kFreq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))
def kAng (pos : IVec S8192 32) : FVec Ideal S8192x32 .f32 :=
  mulf (broadcastInDim S8192x32 ![0, 1] bcast_S8192x1_S8192x32_0_1 (broadcastInDim S8192x1 ![0] bcast_S8192_S8192x1_0 (sitofp .f32 pos)))
    (broadcastInDim S8192x32 ![0, 1] bcast_S1x32_S8192x32_0_1 (broadcastInDim S1x32 ![1] bcast_S32_S1x32_1 kFreq))
def kRow : IVec S8192 32 := Host.divsi (iotaInDim S8192 32 0) (broadcastInDim S8192 ![] bcast_S_S8192 (constantI S_ 32 64#32))
def kCol : IVec S8192 32 := Host.remsi (iotaInDim S8192 32 0) (broadcastInDim S8192 ![] bcast_S_S8192 (constantI S_ 32 64#32))
/-- Four tables of 32 columns side by side. -/
def kFour (u0 u1 u2 u3 : FVec Ideal S8192x32 .f32) : FVec Ideal S8192x128 .f32 :=
  concatenate S8192x128 1 [⟨S8192x32, u0⟩, ⟨S8192x32, u1⟩, ⟨S8192x32, u2⟩, ⟨S8192x32, u3⟩] concatenates_S8192x32_S8192x32_S8192x32_S8192x32_S8192x128_d1

theorem entry_cos : beforeProj m c main_v33 = kFour (Host.cos (kAng kRow)) (Host.cos (kAng kRow)) (Host.cos (kAng kCol)) (Host.cos (kAng kCol)) := by
  unfold beforeProj hostOps1
  after_results <;> rfl

theorem entry_sin : beforeProj m c main_v40 = kFour (Host.negf (Host.sin (kAng kRow))) (Host.sin (kAng kRow)) (Host.negf (Host.sin (kAng kCol))) (Host.sin (kAng kCol)) := by
  unfold beforeProj hostOps1
  after_results <;> rfl

theorem row_word : ∀ p : Fin 8192, IntOp.divsi .host (BitVec.ofNat 32 p.val) 64#32 = BitVec.ofNat 32 (p.val / 64) := by
  decide +kernel
theorem col_word : ∀ p : Fin 8192, IntOp.remsi .host (BitVec.ofNat 32 p.val) 64#32 = BitVec.ofNat 32 (p.val % 64) := by
  decide +kernel

theorem kAng_row (p : Fin 8192) (j : Fin 32) : kAng kRow (ix2 p j) = angR p j := by
  pointwise [kAng, kRow, kFreq, angR, freq]
  rw [row_word]
theorem kAng_col (p : Fin 8192) (j : Fin 32) : kAng kCol (ix2 p j) = angC p j := by
  pointwise [kAng, kCol, kFreq, angC, freq]
  rw [col_word]

/-- A head turned by the program's two tables is the head turned by its position. -/
theorem rot_rope (q : Fin 128 → EReal) (p : Fin 8192) (l : Fin 128) :
    rot q (fun l => beforeProj m c main_v33 (ix2 p l)) (fun l => beforeProj m c main_v40 (ix2 p l)) l = rope q p l := by
  rw [entry_cos, entry_sin]
  unfold rot rope
  pointwise [kFour, kAng_row, kAng_col, cosE, sinE]
  by_cases h0 : l.val < 32
  · have e : l.val % 64 < 32 := by omega
    simp only [h0, e, ↓reduceDIte, ↓reduceIte, show (l.val + 128 - 96) % 128 = l.val + 32 from by omega, sub_eq_add_neg, mul_neg]
  by_cases h1 : l.val < 64
  · have e : ¬ l.val % 64 < 32 := by omega
    have h3 : l.val - 32 < 32 := by omega
    simp only [h0, h1, h3, e, ↓reduceDIte, ↓reduceIte, show (l.val + 128 - 32) % 128 = l.val - 32 from by omega]
    exact add_comm _ _
  have h3 : ¬ l.val - 32 < 32 := by omega
  by_cases h2 : l.val < 96
  · have e : l.val % 64 < 32 := by omega
    have h4 : l.val - 32 - 32 < 32 := by omega
    have h5 : l.val - 64 < 32 := by omega
    simp only [h0, h1, h2, h3, h4, h5, e, ↓reduceDIte, ↓reduceIte, show (l.val + 128 - 96) % 128 = l.val + 32 from by omega, sub_eq_add_neg, mul_neg,
      show l.val - 32 - 32 = l.val - 64 from by omega]
  · have e : ¬ l.val % 64 < 32 := by omega
    have h4 : ¬ l.val - 32 - 32 < 32 := by omega
    simp only [h0, h1, h2, h3, h4, e, ↓reduceDIte, ↓reduceIte, show (l.val + 128 - 32) % 128 = l.val - 32 from by omega,
      show l.val - 32 - 32 - 32 = l.val - 96 from by omega]
    exact add_comm _ _

/-! ## The prepared weights -/

theorem outMain_apply (x : Vec Ideal S1024x1024 .f32) (r k : Fin 1024) : outMain x (ix2 r k) = x (ix2 r k) := by
  unfold outMain
  refine View.canon_apply_of_pieces (Val := Elt Ideal) (e := .bf16) (S := S1024x1024) (fun y => x (ix2 (y 0) (y 1))) _ ?_ _ (cover_main _ _)
  intro p hp y
  rw [show p.1.emb y = p.1.idx y from rfl]
  simp only [List.mem_cons, List.not_mem_nil, or_false] at hp
  subst hp
  obtain ⟨a, b, rfl⟩ : ∃ (a : Fin 1024) (b : Fin 1024), y = ix2 a b := ⟨y 0, y 1, eq_ix2 y⟩
  pointwise [k0_pay1]

theorem outNarrow_apply (x : Vec Ideal S32x1024 .f32) (r : Fin 128) (k : Fin 1024) :
    outNarrow x (ix2 r k) = if h : r.val < 32 then x (ix2 ⟨r.val, h⟩ k) else 0 := by
  unfold outNarrow
  refine View.canon_apply_of_pieces (Val := Elt Ideal) (e := .bf16) (S := S128x1024) (fun y => if h : (y 0).val < 32 then x (ix2 ⟨(y 0).val, h⟩ (y 1)) else 0) _ ?_ _ (cover_narrow _ _)
  intro p hp y
  rw [show p.1.emb y = p.1.idx y from rfl]
  simp only [List.mem_cons, List.not_mem_nil, or_false] at hp
  subst hp
  obtain ⟨a, b, rfl⟩ : ∃ (a : Fin 128) (b : Fin 1024), y = ix2 a b := ⟨y 0, y 1, eq_ix2 y⟩
  pointwise [k0_pay2]

/-- The weight column that row `n` of the wide weights holds: the thirty-two low-rank columns are passed over. -/
def src (n : Nat) : Nat := if n < 3072 then n else n + 32
theorem src_lt (n : Fin 8192) : src n.val < 8224 := by unfold src; split <;> omega

/-! ## The blocks the two calls are handed -/

theorem blk0_0 (V : Dev nD → Valuation τ sig (Elt Ideal)) (t : Fin cfg0.N) (a : Fin 1024) (b : Fin 1024) :
    blk0 V c 0 t (ix2 a b) = V c main_v1 (ix2 ⟨src (t.val * 1024) + a.val, by have : t.val < 8 := Nat.lt_of_lt_of_eq t.isLt N_0; unfold src; split <;> omega⟩ b) := by
  have e : ∀ t : Fin cfg0.N, win0_0.index t = ![src (t.val * 1024), 0] := (by decide +kernel : ∀ t : Fin grid0.N, _)
  refine congrArg (V c main_v1) (funext fun i => Fin.ext ?_)
  match i with
  | ⟨0, _⟩ =>
    refine (Pipeline.Window.rect_emb_val_off win0_0 t _ 0).trans ?_
    rw [e]
    rfl
  | ⟨1, _⟩ =>
    refine (Pipeline.Window.rect_emb_val_off win0_0 t _ 1).trans ?_
    rw [e]
    exact (show 0 * 1024 + b.val = b.val by omega)

theorem blk0_1 (V : Dev nD → Valuation τ sig (Elt Ideal)) (t : Fin cfg0.N) (a : Fin 32) (b : Fin 1024) :
    blk0 V c 1 t (ix2 a b) = V c main_v1 (ix2 ⟨3072 + a.val, by omega⟩ b) := by
  have e : ∀ t : Fin cfg0.N, win0_1.index t = ![3072, 0] := (by decide +kernel : ∀ t : Fin grid0.N, _)
  refine congrArg (V c main_v1) (funext fun i => Fin.ext ?_)
  match i with
  | ⟨0, _⟩ =>
    refine (Pipeline.Window.rect_emb_val_off win0_1 t _ 0).trans ?_
    rw [e]
    rfl
  | ⟨1, _⟩ =>
    refine (Pipeline.Window.rect_emb_val_off win0_1 t _ 1).trans ?_
    rw [e]
    exact (show 0 * 1024 + b.val = b.val by omega)

theorem blk1_0 (V : Dev nD → Valuation τ sig (Elt Ideal)) (t : Fin cfg1.N) (a : Fin 1024) (b : Fin 1024) :
    blk1 V c 0 t (ix2 a b) = V c main_v5 (ix2 ⟨t.val / 4 * 1024 + a.val, by have : t.val < 64 := Nat.lt_of_lt_of_eq t.isLt N_1; omega⟩ b) := by
  have e : ∀ t : Fin cfg1.N, win1_0.index t = ![t.val / 4, 0] := (by decide +kernel : ∀ t : Fin grid1.N, _)
  refine congrArg (V c main_v5) (funext fun i => Fin.ext ?_)
  match i with
  | ⟨0, _⟩ =>
    refine (Pipeline.Window.rect_emb_val_off win1_0 t _ 0).trans ?_
    rw [e]
    rfl
  | ⟨1, _⟩ =>
    refine (Pipeline.Window.rect_emb_val_off win1_0 t _ 1).trans ?_
    rw [e]
    exact (show 0 * 1024 + b.val = b.val by omega)

theorem blk1_1 (V : Dev nD → Valuation τ sig (Elt Ideal)) (t : Fin cfg1.N) (a : Fin 1) (b : Fin 1) (d : Fin 1024) :
    blk1 V c 1 t (ix3 a b d) = V c main_arg1 (ix3 ⟨t.val / 32, by have : t.val < 64 := Nat.lt_of_lt_of_eq t.isLt N_1; omega⟩ 0 d) := by
  have e : ∀ t : Fin cfg1.N, win1_1.index t = ![t.val / 32, 0, 0] := (by decide +kernel : ∀ t : Fin grid1.N, _)
  refine congrArg (V c main_arg1) (funext fun i => Fin.ext ?_)
  match i with
  | ⟨0, _⟩ =>
    refine (Pipeline.Window.rect_emb_val_off win1_1 t _ 0).trans ?_
    rw [e]
    exact (show t.val / 32 * 1 + a.val = t.val / 32 by omega)
  | ⟨1, _⟩ =>
    refine (Pipeline.Window.rect_emb_val_off win1_1 t _ 1).trans ?_
    rw [e]
    exact (show 0 * 1 + b.val = 0 by omega)
  | ⟨2, _⟩ =>
    refine (Pipeline.Window.rect_emb_val_off win1_1 t _ 2).trans ?_
    rw [e]
    exact (show 0 * 1024 + d.val = d.val by omega)

theorem blk1_2 (V : Dev nD → Valuation τ sig (Elt Ideal)) (t : Fin cfg1.N) (a : Fin 1) (b : Fin 1) (d : Fin 1024) :
    blk1 V c 2 t (ix3 a b d) = V c main_arg2 (ix3 ⟨t.val / 32, by have : t.val < 64 := Nat.lt_of_lt_of_eq t.isLt N_1; omega⟩ 0 d) := by
  have e : ∀ t : Fin cfg1.N, win1_2.index t = ![t.val / 32, 0, 0] := (by decide +kernel : ∀ t : Fin grid1.N, _)
  refine congrArg (V c main_arg2) (funext fun i => Fin.ext ?_)
  match i with
  | ⟨0, _⟩ =>
    refine (Pipeline.Window.rect_emb_val_off win1_2 t _ 0).trans ?_
    rw [e]
    exact (show t.val / 32 * 1 + a.val = t.val / 32 by omega)
  | ⟨1, _⟩ =>
    refine (Pipeline.Window.rect_emb_val_off win1_2 t _ 1).trans ?_
    rw [e]
    exact (show 0 * 1 + b.val = 0 by omega)
  | ⟨2, _⟩ =>
    refine (Pipeline.Window.rect_emb_val_off win1_2 t _ 2).trans ?_
    rw [e]
    exact (show 0 * 1024 + d.val = d.val by omega)

theorem blk1_3 (V : Dev nD → Valuation τ sig (Elt Ideal)) (t : Fin cfg1.N) (a : Fin 1) (b : Fin 1024) :
    blk1 V c 3 t (ix2 a b) = V c main_v4 (ix2 0 b) := by
  have e : ∀ t : Fin cfg1.N, win1_3.index t = ![0, 0] := (by decide +kernel : ∀ t : Fin grid1.N, _)
  refine congrArg (V c main_v4) (funext fun i => Fin.ext ?_)
  match i with
  | ⟨0, _⟩ =>
    refine (Pipeline.Window.rect_emb_val_off win1_3 t _ 0).trans ?_
    rw [e]
    exact (show 0 * 1 + a.val = 0 by omega)
  | ⟨1, _⟩ =>
    refine (Pipeline.Window.rect_emb_val_off win1_3 t _ 1).trans ?_
    rw [e]
    exact (show 0 * 1024 + b.val = b.val by omega)

theorem blk1_4 (V : Dev nD → Valuation τ sig (Elt Ideal)) (t : Fin cfg1.N) (a : Fin 2048) (b : Fin 1024) :
    blk1 V c 4 t (ix2 a b) = V c main_v2_0 (ix2 ⟨t.val % 4 * 2048 + a.val, by omega⟩ b) := by
  have e : ∀ t : Fin cfg1.N, win1_4.index t = ![t.val % 4, 0] := (by decide +kernel : ∀ t : Fin grid1.N, _)
  refine congrArg (V c main_v2_0) (funext fun i => Fin.ext ?_)
  match i with
  | ⟨0, _⟩ =>
    refine (Pipeline.Window.rect_emb_val_off win1_4 t _ 0).trans ?_
    rw [e]
    rfl
  | ⟨1, _⟩ =>
    refine (Pipeline.Window.rect_emb_val_off win1_4 t _ 1).trans ?_
    rw [e]
    exact (show 0 * 1024 + b.val = b.val by omega)

theorem blk1_5 (V : Dev nD → Valuation τ sig (Elt Ideal)) (t : Fin cfg1.N) (a : Fin 128) (b : Fin 1024) :
    blk1 V c 5 t (ix2 a b) = V c main_v2_1 (ix2 a b) := by
  have e : ∀ t : Fin cfg1.N, win1_5.index t = ![0, 0] := (by decide +kernel : ∀ t : Fin grid1.N, _)
  refine congrArg (V c main_v2_1) (funext fun i => Fin.ext ?_)
  match i with
  | ⟨0, _⟩ =>
    refine (Pipeline.Window.rect_emb_val_off win1_5 t _ 0).trans ?_
    rw [e]
    exact (show 0 * 128 + a.val = a.val by omega)
  | ⟨1, _⟩ =>
    refine (Pipeline.Window.rect_emb_val_off win1_5 t _ 1).trans ?_
    rw [e]
    exact (show 0 * 1024 + b.val = b.val by omega)

theorem blk1_6 (V : Dev nD → Valuation τ sig (Elt Ideal)) (t : Fin cfg1.N) (a : Fin 1024) (b : Fin 128) :
    blk1 V c 6 t (ix2 a b) = V c main_v33 (ix2 ⟨t.val / 4 % 8 * 1024 + a.val, by omega⟩ b) := by
  have e : ∀ t : Fin cfg1.N, win1_6.index t = ![t.val / 4 % 8, 0] := (by decide +kernel : ∀ t : Fin grid1.N, _)
  refine congrArg (V c main_v33) (funext fun i => Fin.ext ?_)
  match i with
  | ⟨0, _⟩ =>
    refine (Pipeline.Window.rect_emb_val_off win1_6 t _ 0).trans ?_
    rw [e]
    rfl
  | ⟨1, _⟩ =>
    refine (Pipeline.Window.rect_emb_val_off win1_6 t _ 1).trans ?_
    rw [e]
    exact (show 0 * 128 + b.val = b.val by omega)

theorem blk1_7 (V : Dev nD → Valuation τ sig (Elt Ideal)) (t : Fin cfg1.N) (a : Fin 1024) (b : Fin 128) :
    blk1 V c 7 t (ix2 a b) = V c main_v40 (ix2 ⟨t.val / 4 % 8 * 1024 + a.val, by omega⟩ b) := by
  have e : ∀ t : Fin cfg1.N, win1_7.index t = ![t.val / 4 % 8, 0] := (by decide +kernel : ∀ t : Fin grid1.N, _)
  refine congrArg (V c main_v40) (funext fun i => Fin.ext ?_)
  match i with
  | ⟨0, _⟩ =>
    refine (Pipeline.Window.rect_emb_val_off win1_7 t _ 0).trans ?_
    rw [e]
    rfl
  | ⟨1, _⟩ =>
    refine (Pipeline.Window.rect_emb_val_off win1_7 t _ 1).trans ?_
    rw [e]
    exact (show 0 * 128 + b.val = b.val by omega)

/-- The wide weights after the first call. -/
theorem main_weights (V : Dev nD → Valuation τ sig (Elt Ideal)) (n : Fin 8192) (k : Fin 1024) :
    (dat0 V c).arrAt 2 cfg0.N (ix2 n k) = V c main_v1 (ix2 ⟨src n.val, src_lt n⟩ k) := by
  refine congrFun ((dat0 V c).arrAt_eq_of_covers 2 (fun i : S8192x1024.Idx => (V c main_v1 : S8224x1024.Idx → EReal) (ix2 ⟨src (i 0).val, src_lt (i 0)⟩ (i 1))) (by decide +kernel) fun t hf y => ?_) (ix2 n k)
  have e : ∀ t : Fin cfg0.N, win0_2.index t = ![t.val, 0] := (by decide +kernel : ∀ t : Fin grid0.N, _)
  have ht : t.val < 8 := Nat.lt_of_lt_of_eq t.isLt N_0
  obtain ⟨a, b, rfl⟩ : ∃ (a : Fin 1024) (b : Fin 1024), y = ix2 a b := ⟨y 0, y 1, eq_ix2 y⟩
  have ho : (win0_2.rect t).emb (ix2 a b) = ix2 ⟨t.val * 1024 + a.val, by omega⟩ b := funext fun i => Fin.ext (by
    rw [Pipeline.Window.rect_emb_val_off win0_2 t _ i, e]
    match i with
    | ⟨0, _⟩ => rfl
    | ⟨1, _⟩ => exact (show 0 * 1024 + b.val = b.val by omega))
  refine (congrFun (after0_2 V c t) (ix2 a b)).trans ((outMain_apply _ a b).trans ((blk0_0 c V t a b).trans ?_))
  show _ = (fun i : S8192x1024.Idx => (V c main_v1 : S8224x1024.Idx → EReal) (ix2 ⟨src (i 0).val, src_lt (i 0)⟩ (i 1))) ((win0_2.rect t).emb (ix2 a b))
  rw [ho]
  refine congrArg (fun r => (V c main_v1 : S8224x1024.Idx → EReal) (ix2 r b)) (Fin.ext ?_)
  show src (t.val * 1024) + a.val = src (t.val * 1024 + a.val)
  unfold src
  split <;> split <;> omega

/-- The narrow weights after the first call. -/
theorem narrow_weights (V : Dev nD → Valuation τ sig (Elt Ideal)) (r : Fin 128) (k : Fin 1024) :
    (dat0 V c).arrAt 3 cfg0.N (ix2 r k) = if h : r.val < 32 then V c main_v1 (ix2 ⟨3072 + r.val, by omega⟩ k) else (0 : EReal) := by
  refine congrFun ((dat0 V c).arrAt_eq_of_covers 3 (fun i : S128x1024.Idx => if h : (i 0).val < 32 then (V c main_v1 : S8224x1024.Idx → EReal) (ix2 ⟨3072 + (i 0).val, by omega⟩ (i 1)) else (0 : EReal)) (by decide +kernel) fun t hf y => ?_) (ix2 r k)
  have e : ∀ t : Fin cfg0.N, win0_3.index t = ![0, 0] := (by decide +kernel : ∀ t : Fin grid0.N, _)
  obtain ⟨a, b, rfl⟩ : ∃ (a : Fin 128) (b : Fin 1024), y = ix2 a b := ⟨y 0, y 1, eq_ix2 y⟩
  have ho : (win0_3.rect t).emb (ix2 a b) = ix2 a b := funext fun i => Fin.ext (by
    rw [Pipeline.Window.rect_emb_val_off win0_3 t _ i, e]
    match i with
    | ⟨0, _⟩ => exact (show 0 * 128 + a.val = a.val by omega)
    | ⟨1, _⟩ => exact (show 0 * 1024 + b.val = b.val by omega))
  refine (congrFun (after0_3 V c t) (ix2 a b)).trans ((outNarrow_apply _ a b).trans ?_)
  show _ = (fun i : S128x1024.Idx => if h : (i 0).val < 32 then (V c main_v1 : S8224x1024.Idx → EReal) (ix2 ⟨3072 + (i 0).val, by omega⟩ (i 1)) else (0 : EReal)) ((win0_3.rect t).emb (ix2 a b))
  rw [ho]
  exact dite_congr rfl (fun h => blk0_1 c V t ⟨a.val, h⟩ b) (fun _ => rfl)

/-- The transposed weight at an index. -/
theorem wt_apply (w : S1x1024x8224.Idx → EReal) (n : Fin 8224) (k : Fin 1024) :
    transpose S8224x1024 [1, 0] (shapeCast S1024x8224 w shapeCasts_S1x1024x8224_S1024x8224) transposes_S1024x8224_S8224x1024_1_0 (ix2 n k) = w (ix3 0 k n) := by
  pointwise

/-- The transposed weight when the first call is entered. -/
theorem entry_wt (n : Fin 8224) (k : Fin 1024) : V1 m c main_v1 (ix2 n k) = m ((c.tc : Thread nD τ).loc main_arg4) (ix3 0 k n) := by
  have h : V1 m c main_v1 = transpose S8224x1024 [1, 0] (shapeCast S1024x8224 (m ((c.tc : Thread nD τ).loc main_arg4)) shapeCasts_S1x1024x8224_S1024x8224) transposes_S1024x8224_S8224x1024_1_0 := by
    unfold V1 hostOps0
    after_results <;> rfl
  exact (congrFun h _).trans (wt_apply _ n k)

end Cert.Kernel2Ideal.Proj

end
-- ==== Proof.ValProj.lean ====
/-  The two results of the projection call against the model. -/
module

public import proofs.«01_k».proof.Proof.ValEntry

@[expose] public section

set_option maxRecDepth 16384

noncomputable section

namespace Cert.Kernel2Ideal.Proj

open Cert.Kernel2Ideal Cert.Kernel2Ideal.Gen Cert.Proj
open Idealize.ShloMosaic Idealize.ShloMosaic.TcCoe Idealize.ShloMosaic.Tactic Idealize.SL.Sem

variable (m : (ℓ : Loc nD τ sig) → Buf (Elt Ideal) ℓ) (c : Dev nD)

/-- The row `(b, p)` the products are taken with, from the launch arguments. -/
def hrow (b : Fin 2) (p : Fin 8192) : Fin 1024 → EReal :=
  hcell (fun j => m ((c.tc : Thread nD τ).loc main_arg0) (ix3 b p j)) (fun j => m ((c.tc : Thread nD τ).loc main_arg3) (ix2 0 j))
    (fun j => m ((c.tc : Thread nD τ).loc main_arg2) (ix3 b 0 j)) (fun j => m ((c.tc : Thread nD τ).loc main_arg1) (ix3 b 0 j))

/-- Column `n` of the launch weight. -/
def wcol (n : Fin 8224) : Fin 1024 → EReal := fun k => m ((c.tc : Thread nD τ).loc main_arg4) (ix3 0 k n)

/-- The model's product at the launch arguments. -/
def projAt (b : Fin 2) (p : Fin 8192) (n : Fin 8224) : EReal :=
  proj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b p n

theorem projAt_eq (b : Fin 2) (p : Fin 8192) (n : Fin 8224) : projAt m c b p n = dot1 (hrow m c b p) (wcol m c n) := rfl

/-! ## What the second call finds, at an index -/

theorem flat_apply (x : S2x8192x1024.Idx → EReal) (r : Fin 16384) (k : Fin 1024) :
    shapeCast S16384x1024 x shapeCasts_S2x8192x1024_S16384x1024 (ix2 r k) = x (ix3 ⟨r.val / 8192, by omega⟩ ⟨r.val % 8192, by omega⟩ k) := by
  pointwise

theorem gain_apply (g : S1x1024.Idx → EReal) (k : Fin 1024) :
    broadcastInDim S1x1024 ![1] bcast_S1024_S1x1024_1 (shapeCast S1024 g shapeCasts_S1x1024_S1024) (ix2 0 k) = g (ix2 0 k) := by
  pointwise

theorem x_at (r : Fin 16384) (k : Fin 1024) : beforeProj m c main_v5 (ix2 r k)
    = m ((c.tc : Thread nD τ).loc main_arg0) (ix3 ⟨r.val / 8192, by omega⟩ ⟨r.val % 8192, by omega⟩ k) := by
  rw [entry_x, prep_arg m c main_arg0 (by decide) (by decide) (by decide)]
  exact flat_apply _ r k

theorem g_at (k : Fin 1024) : beforeProj m c main_v4 (ix2 0 k) = m ((c.tc : Thread nD τ).loc main_arg3) (ix2 0 k) := by
  rw [entry_g, prep_arg m c main_arg3 (by decide) (by decide) (by decide)]
  exact gain_apply _ k

theorem sh_at : beforeProj m c main_arg1 = m ((c.tc : Thread nD τ).loc main_arg1) :=
  (entry_keep m c).2.2.1.trans (prep_arg m c main_arg1 (by decide) (by decide) (by decide))

theorem sc_at : beforeProj m c main_arg2 = m ((c.tc : Thread nD τ).loc main_arg2) :=
  (entry_keep m c).2.2.2.trans (prep_arg m c main_arg2 (by decide) (by decide) (by decide))

theorem w_at (n : Fin 8192) (k : Fin 1024) : beforeProj m c main_v2_0 (ix2 n k) = wcol m c ⟨src n.val, src_lt n⟩ k := by
  rw [(entry_keep m c).1, afterPrep_main]
  exact (main_weights c (V1 m) n k).trans (entry_wt m c _ k)

theorem wl_at (r : Fin 128) (k : Fin 1024) : beforeProj m c main_v2_1 (ix2 r k)
    = if h : r.val < 32 then wcol m c ⟨3072 + r.val, by omega⟩ k else (0 : EReal) := by
  rw [(entry_keep m c).2.1, afterPrep_narrow]
  exact (narrow_weights c (V1 m) r k).trans (dite_congr rfl (fun h => entry_wt m c _ k) (fun _ => rfl))

/-! ## A grid point's blocks, at the launch arguments -/

/-- Row `a` of point `t`'s rows is row `r` of all. -/
theorem rows_at (t : Fin cfg1.N) (a : Fin 1024) (r : Fin 16384) (hr : r.val = t.val / 4 * 1024 + a.val) :
    hcell (fun j => blk1 (beforeProj m) c 0 t (ix2 a j)) (fun j => blk1 (beforeProj m) c 3 t (ix2 0 j))
      (fun j => blk1 (beforeProj m) c 2 t (ix3 0 0 j)) (fun j => blk1 (beforeProj m) c 1 t (ix3 0 0 j))
      = hrow m c ⟨r.val / 8192, by omega⟩ ⟨r.val % 8192, by omega⟩ := by
  have ht : t.val < 64 := Nat.lt_of_lt_of_eq t.isLt N_1
  have hq : (⟨t.val / 32, by omega⟩ : Fin 2) = ⟨r.val / 8192, by omega⟩ := Fin.ext (by show t.val / 32 = r.val / 8192; omega)
  have e0 : (fun j => blk1 (beforeProj m) c 0 t (ix2 a j)) = fun j => m ((c.tc : Thread nD τ).loc main_arg0) (ix3 ⟨r.val / 8192, by omega⟩ ⟨r.val % 8192, by omega⟩ j) :=
    funext fun j => (blk1_0 c (beforeProj m) t a j).trans ((congrArg (fun i : Fin 16384 => (beforeProj m c main_v5 : S16384x1024.Idx → EReal) (ix2 i j)) (Fin.ext hr.symm)).trans (x_at m c r j))
  have e3 : (fun j => blk1 (beforeProj m) c 3 t (ix2 0 j)) = fun j => m ((c.tc : Thread nD τ).loc main_arg3) (ix2 0 j) :=
    funext fun j => (blk1_3 c (beforeProj m) t 0 j).trans (g_at m c j)
  have e2 : (fun j => blk1 (beforeProj m) c 2 t (ix3 0 0 j)) = fun j => m ((c.tc : Thread nD τ).loc main_arg2) (ix3 ⟨r.val / 8192, by omega⟩ 0 j) :=
    funext fun j => (blk1_2 c (beforeProj m) t 0 0 j).trans ((congrFun (sc_at m c) _).trans (congrArg (fun i : Fin 2 => (m ((c.tc : Thread nD τ).loc main_arg2) : S2x1x1024.Idx → EReal) (ix3 i 0 j)) hq))
  have e1 : (fun j => blk1 (beforeProj m) c 1 t (ix3 0 0 j)) = fun j => m ((c.tc : Thread nD τ).loc main_arg1) (ix3 ⟨r.val / 8192, by omega⟩ 0 j) :=
    funext fun j => (blk1_1 c (beforeProj m) t 0 0 j).trans ((congrFun (sh_at m c) _).trans (congrArg (fun i : Fin 2 => (m ((c.tc : Thread nD τ).loc main_arg1) : S2x1x1024.Idx → EReal) (ix3 i 0 j)) hq))
  rw [e0, e1, e2, e3]
  rfl

/-- Row `n` of point `t`'s weights is a column of the launch weight. -/
theorem cols_at (t : Fin cfg1.N) (n : Fin 2048) :
    (fun k => blk1 (beforeProj m) c 4 t (ix2 n k)) = wcol m c ⟨src (t.val % 4 * 2048 + n.val), src_lt ⟨t.val % 4 * 2048 + n.val, by omega⟩⟩ :=
  funext fun k => (blk1_4 c (beforeProj m) t n k).trans (w_at m c _ k)

theorem base_val (t : Fin cfg1.N) : (base t).val / 4 = t.val / 4 := by show (t.val - t.val % 4) / 4 = t.val / 4; omega

/-- The rows kept for a row tile, at an index. -/
theorem kept_at (t : Fin cfg1.N) (a : Fin 1024) (r : Fin 16384) (hr : r.val = t.val / 4 * 1024 + a.val) :
    (fun k => hAt (beforeProj m) c t (ix2 a k)) = hrow m c ⟨r.val / 8192, by omega⟩ ⟨r.val % 8192, by omega⟩ :=
  funext fun k => (hA_apply _ _ _ _ a k).trans (congrFun (rows_at m c (base t) a r (by rw [base_val]; exact hr)) k)

/-! ## The wide result -/

/-- The second column tile against the model: columns 2048 to 3071 plain, then four heads turned, then four scaled and turned. -/
theorem turned_wide (pj : Fin 8224 → EReal) (p : Fin 8192) (q : Fin 2048 → EReal)
    (hq : ∀ n : Fin 2048, q n = pj ⟨src (2048 + n.val), src_lt ⟨2048 + n.val, by omega⟩⟩) (n : Fin 2048) :
    turned q (fun l => beforeProj m c main_v33 (ix2 p l)) (fun l => beforeProj m c main_v40 (ix2 p l)) n
      = wide pj p ⟨2048 + n.val, by omega⟩ := by
  unfold turned wide
  by_cases h0 : n.val < 1024
  · have g0 : 2048 + n.val < 3072 := by omega
    simp only [h0, g0, ↓reduceDIte]
    rw [hq]
    refine congrArg pj (Fin.ext ?_)
    show src (2048 + n.val) = 2048 + n.val
    unfold src; split <;> omega
  have g0 : ¬ 2048 + n.val < 3072 := by omega
  by_cases h1 : n.val < 1536
  · have g1 : 2048 + n.val < 3584 := by omega
    simp only [h0, h1, g0, g1, ↓reduceDIte]
    rw [rot_rope]
    refine congr (congrArg (fun f => rope f p) (funext fun l => ?_)) (Fin.ext ?_)
    · rw [hq]
      refine congrArg pj (Fin.ext ?_)
      show src (2048 + (1024 + 128 * ((n.val - 1024) / 128) + l.val)) = 3104 + 128 * ((2048 + n.val - 3072) / 128) + l.val
      unfold src; split <;> omega
    · show (n.val - 1024) % 128 = (2048 + n.val - 3072) % 128
      omega
  · have g1 : ¬ 2048 + n.val < 3584 := by omega
    have g2 : 2048 + n.val < 4096 := by omega
    simp only [h0, h1, g0, g1, g2, ↓reduceDIte]
    rw [rot_rope]
    refine congr (congrArg (fun f => rope f p) (funext fun l => ?_)) (Fin.ext ?_)
    · rw [hq]
      refine congrArg (fun i => pj i * scale) (Fin.ext ?_)
      show src (2048 + (1024 + 128 * ((n.val - 1024) / 128) + l.val)) = 3616 + 128 * ((2048 + n.val - 3584) / 128) + l.val
      unfold src; split <;> omega
    · show (n.val - 1024) % 128 = (2048 + n.val - 3584) % 128
      omega

/-- A grid point's wide block against the model. -/
theorem oAt_apply (t : Fin cfg1.N) (a : Fin 1024) (n : Fin 2048) (r : Fin 16384) (hr : r.val = t.val / 4 * 1024 + a.val)
    (N : Fin 8192) (hN : N.val = t.val % 4 * 2048 + n.val) :
    oAt (beforeProj m) c t (ix2 a n) = wide (projAt m c ⟨r.val / 8192, by omega⟩ ⟨r.val % 8192, by omega⟩) ⟨r.val % 8192, by omega⟩ N := by
  have hN' : N = ⟨t.val % 4 * 2048 + n.val, by omega⟩ := Fin.ext hN
  unfold oAt
  by_cases h0 : t.val % 4 = 0
  · rw [if_pos h0]
    refine (oA_apply _ _ _ _ _ a n).trans ?_
    rw [rows_at m c t a r hr, cols_at m c t n, ← projAt_eq]
    have g0 : N.val < 3072 := by omega
    unfold wide
    simp only [g0, ↓reduceDIte]
    refine congrArg (projAt m c _ _) (Fin.ext ?_)
    show src (t.val % 4 * 2048 + n.val) = N.val
    unfold src; split <;> omega
  rw [if_neg h0]
  by_cases h1 : t.val % 4 = 1
  · rw [if_pos h1]
    refine (oB_apply _ _ _ _ a n).trans ?_
    have hp : (⟨t.val / 4 % 8 * 1024 + a.val, by omega⟩ : Fin 8192) = ⟨r.val % 8192, by omega⟩ := Fin.ext (by show t.val / 4 % 8 * 1024 + a.val = r.val % 8192; omega)
    have e6 : (fun l => blk1 (beforeProj m) c 6 t (ix2 a l)) = fun l => beforeProj m c main_v33 (ix2 ⟨r.val % 8192, by omega⟩ l) :=
      funext fun l => (blk1_6 c (beforeProj m) t a l).trans (congrArg (fun i : Fin 8192 => (beforeProj m c main_v33 : S8192x128.Idx → EReal) (ix2 i l)) hp)
    have e7 : (fun l => blk1 (beforeProj m) c 7 t (ix2 a l)) = fun l => beforeProj m c main_v40 (ix2 ⟨r.val % 8192, by omega⟩ l) :=
      funext fun l => (blk1_7 c (beforeProj m) t a l).trans (congrArg (fun i : Fin 8192 => (beforeProj m c main_v40 : S8192x128.Idx → EReal) (ix2 i l)) hp)
    rw [e6, e7, kept_at m c t a r hr]
    refine (turned_wide m c (projAt m c ⟨r.val / 8192, by omega⟩ ⟨r.val % 8192, by omega⟩) ⟨r.val % 8192, by omega⟩ _ (fun n => ?_) n).trans
      (congrArg (wide _ _) (Fin.ext (show 2048 + n.val = N.val by omega)))
    rw [cols_at m c t n, ← projAt_eq]
    refine congrArg (projAt m c _ _) (Fin.ext ?_)
    show src (t.val % 4 * 2048 + n.val) = src (2048 + n.val)
    rw [h1]
  · rw [if_neg h1]
    refine (oC_apply _ _ a n).trans ?_
    rw [kept_at m c t a r hr, cols_at m c t n, ← projAt_eq]
    have h4 : t.val % 4 < 4 := Nat.mod_lt _ (by decide)
    have g0 : ¬ N.val < 3072 := by omega
    have g1 : ¬ N.val < 3584 := by omega
    have g2 : ¬ N.val < 4096 := by omega
    unfold wide
    simp only [g0, g1, g2, ↓reduceDIte]
    refine congrArg (projAt m c _ _) (Fin.ext ?_)
    show src (t.val % 4 * 2048 + n.val) = N.val + 32
    unfold src; split <;> omega

/-- The model's wide array. -/
def wideArr : S16384x8192.Idx → EReal := fun i =>
  wide (projAt m c ⟨(i 0).val / 8192, Nat.div_lt_of_lt_mul (i 0).isLt⟩ ⟨(i 0).val % 8192, Nat.mod_lt _ (by decide)⟩) ⟨(i 0).val % 8192, Nat.mod_lt _ (by decide)⟩ (i 1)

/-- The model's narrow array. -/
def narrowArr : S16384x128.Idx → EReal := fun i =>
  narrow (projAt m c ⟨(i 0).val / 8192, Nat.div_lt_of_lt_mul (i 0).isLt⟩ ⟨(i 0).val % 8192, Nat.mod_lt _ (by decide)⟩) (i 1)

/-- The wide result after the second call is the model's. -/
theorem wide_final : (dat1 (beforeProj m) c).arrAt 8 cfg1.N = wideArr m c := by
  refine (dat1 (beforeProj m) c).arrAt_eq_of_covers 8 (wideArr m c) (by decide +kernel) fun t hf y => ?_
  have e : ∀ t : Fin cfg1.N, win1_8.index t = ![t.val / 4, t.val % 4] := (by decide +kernel : ∀ t : Fin grid1.N, _)
  have ht : t.val < 64 := Nat.lt_of_lt_of_eq t.isLt N_1
  obtain ⟨a, b, rfl⟩ : ∃ (a : Fin 1024) (b : Fin 2048), y = ix2 a b := ⟨y 0, y 1, eq_ix2 y⟩
  have ho : (win1_8.rect t).emb (ix2 a b) = ix2 ⟨t.val / 4 * 1024 + a.val, by omega⟩ ⟨t.val % 4 * 2048 + b.val, by omega⟩ := funext fun i => Fin.ext (by
    rw [Pipeline.Window.rect_emb_val_off win1_8 t _ i, e]
    match i with
    | ⟨0, _⟩ => rfl
    | ⟨1, _⟩ => rfl)
  refine (congrFun (after1_8 (beforeProj m) c t) (ix2 a b)).trans ((oAt_apply m c t a b ⟨t.val / 4 * 1024 + a.val, by omega⟩ rfl ⟨t.val % 4 * 2048 + b.val, by omega⟩ rfl).trans ?_)
  show _ = wideArr m c ((win1_8.rect t).emb (ix2 a b))
  rw [ho]
  rfl

/-! ## The narrow result -/

theorem dot1_zero (h : Fin 1024 → EReal) : dot1 h (fun _ => 0) = 0 := by
  unfold dot1
  exact Finset.sum_eq_zero fun k _ => mul_zero (h k)

/-- A row tile's narrow block against the model. -/
theorem lrAt_apply (t : Fin cfg1.N) (a : Fin 1024) (l : Fin 128) (r : Fin 16384) (hr : r.val = t.val / 4 * 1024 + a.val) :
    lrAt (beforeProj m) c t (ix2 a l) = narrow (projAt m c ⟨r.val / 8192, by omega⟩ ⟨r.val % 8192, by omega⟩) l := by
  refine (lrA_apply _ _ _ _ _ a l).trans ?_
  rw [rows_at m c (base t) a r (by rw [base_val]; exact hr)]
  have e5 : (fun k => blk1 (beforeProj m) c 5 (base t) (ix2 l k)) = fun k => if h : l.val < 32 then wcol m c ⟨3072 + l.val, by omega⟩ k else (0 : EReal) :=
    funext fun k => (blk1_5 c (beforeProj m) (base t) l k).trans (wl_at m c l k)
  rw [e5]
  unfold narrow
  by_cases h : l.val < 32
  · simp only [h, ↓reduceDIte]
    rfl
  · simp only [h, ↓reduceDIte]
    exact dot1_zero _

/-- The narrow result after the second call is the model's. -/
theorem narrow_final : (dat1 (beforeProj m) c).arrAt 9 cfg1.N = narrowArr m c := by
  refine (dat1 (beforeProj m) c).arrAt_eq_of_covers 9 (narrowArr m c) (by decide +kernel) fun t hf y => ?_
  have e : ∀ t : Fin cfg1.N, win1_9.index t = ![t.val / 4, 0] := (by decide +kernel : ∀ t : Fin grid1.N, _)
  have ht : t.val < 64 := Nat.lt_of_lt_of_eq t.isLt N_1
  obtain ⟨a, b, rfl⟩ : ∃ (a : Fin 1024) (b : Fin 128), y = ix2 a b := ⟨y 0, y 1, eq_ix2 y⟩
  have ho : (win1_9.rect t).emb (ix2 a b) = ix2 ⟨t.val / 4 * 1024 + a.val, by omega⟩ b := funext fun i => Fin.ext (by
    rw [Pipeline.Window.rect_emb_val_off win1_9 t _ i, e]
    match i with
    | ⟨0, _⟩ => rfl
    | ⟨1, _⟩ => exact (show 0 * 128 + b.val = b.val by omega))
  refine (congrFun (after1_9 (beforeProj m) c t) (ix2 a b)).trans ((lrAt_apply m c t a b ⟨t.val / 4 * 1024 + a.val, by omega⟩ rfl).trans ?_)
  show _ = narrowArr m c ((win1_9.rect t).emb (ix2 a b))
  rw [ho]
  rfl

end Cert.Kernel2Ideal.Proj

end
-- ==== Proof.MergeDefs.lean ====
/-  The merge call: its condition, its buffers, and what its body is handed beside its windows. -/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Merge

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The region's entry, for a body with transfers of its own -/

variable (m : (ℓ : Loc nD τ sig) → Buf (Elt F) ℓ) (ρ : Dev nD → PrngReg)

set_option maxHeartbeats 800000 in
/-- @main is its host operations and then the region, over the resources that hold a body's own transfers. -/
theorem hmainD (𝒱₀ : Variants) : Pipeline.HMain (Ix := Unit) (Name := ℕ) (U := Pipeline.UD sig nD τ) (Lvl := ℕ)
    cfgs 0 defs₀ 𝒱₀ m (main (F := F)) (V m) :=
  Pipeline.hmain_prefix cfgs 0 defs₀ 𝒱₀ m main hostOps0 hostOps0_sub hostOps0_fresh main_chain

/-! ## The body's one condition -/

/-- The body's condition: the point is the first. -/
abbrev cond (i : grid0.Coords) : Prop :=
  (Scalar.cmpi .ne (Scalar.extui (Scalar.cmpi .eq (BitVec.ofNat 32 (i 0).val) 0#32)) 0#32) = 1#1

/-- It holds at the first point and at no other. -/
theorem hcond (t : Fin cfg0.N) : cond (grid0.coords t) ↔ t.val = 0 := by
  have ht : t.val < 32 := Nat.lt_of_lt_of_eq t.isLt N_0
  have e0 : (grid0.coords t 0).val = t.val / 1 % 32 := Pipeline.Grid.coords_val t 0 (by decide) rfl
  have hiff : cond (grid0.coords t) ↔ t.val % 32 = 0 := by
    simp only [cond, e0]
    word_cmp
  rw [hiff]; omega

/-! ## The buffers the body works in -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x256 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x512 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x1024 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S4096x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S8x512 .i32 := win0_18.stage (cfg0.slots t 18)
abbrev hs18 (t : Fin cfg0.N) : (ms18 t).IsWhole := hstage0_18 ((cfg0.slots t 18).cast nbuf0_18)
abbrev ms19 (t : Fin cfg0.N) : Memref sig .tc .vmem S8x512 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S32x128 .i32 := win0_20.stage (cfg0.slots t 20)
abbrev hs20 (t : Fin cfg0.N) : (ms20 t).IsWhole := hstage0_20 ((cfg0.slots t 20).cast nbuf0_20)
abbrev sc0 : Memref sig .tc .vmem S1024x1024 .bf16 := Memref.whole cc0_scratch0
abbrev sc1 : Memref sig .tc .vmem S1024x1024 .bf16 := Memref.whole cc0_scratch1
abbrev sc2 : Memref sig .tc .vmem S1024x1024 .bf16 := Memref.whole cc0_scratch2
abbrev sc3 : Memref sig .tc .vmem S1024x1024 .f32 := Memref.whole cc0_scratch3
/-- The three weights left outside the pipeline, which the body copies whole at the first point. -/
abbrev hbM0 : Memref sig .tc .hbm S1024x1024 .f32 := Memref.whole main_v35
abbrev hbM1 : Memref sig .tc .hbm S1024x1024 .f32 := Memref.whole main_v36
abbrev hbM2 : Memref sig .tc .hbm S1024x1024 .f32 := Memref.whole main_v37

/-- The contents of a memref's buffer on core `c`, and the buffer held whole at given contents. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own transfer semaphore. -/
abbrev osem : Fin 1 → SemLoc sig := fun j => (![SemLoc.dma 37] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 37) 0) := by
  rw [Pipeline.ownSems0_eq_of_list c osem [0] (by decide) (by decide)]; rfl

/-- The weights' references: unscoped, and no window's array. -/
def HW : Finset (Ref sig .tc) := {main_v35, main_v36, main_v37}
theorem HW_sub : HW ⊆ Pipeline.restRefs sig spec0 := by decide
theorem hbmPts_eq (c : Dev nD) :
    (bigSep HW (fun b => ((c : Thread nD τ).loc b) ↦{fullShare} V m c b) : sProp 𝕄)
      = iprop(hbPt c hbM0 (V m c main_v35) ∗ hbPt c hbM1 (V m c main_v36) ∗ hbPt c hbM2 (V m c main_v37)) := by
  rw [BI.bigSep_eq_bigSepL_of_eq [main_v35, main_v36, main_v37] (by decide) (by decide)]; rfl

/-- What the launch hands the body beside its windows: the scratch at anything, the generator register, the
    semaphore at zero, the weights at what the region finds in them. -/
theorem PhiD_eq (c : Dev nD) :
    (Pipeline.ΦD osem spec0 HW (V m) c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d))
        ∗ (∃ r, prngReg c r) ∗ iprop(semVal ((c : Thread nD τ), SemLoc.dma 37) 0)
        ∗ iprop(hbPt c hbM0 (V m c main_v35) ∗ hbPt c hbM1 (V m c main_v36) ∗ hbPt c hbM2 (V m c main_v37))) := by
  rw [Pipeline.ΦD_eq, scopedRest0_eq, ownSems_eq, hbmPts_eq]; simp only [sc0, sc1, sc2, sc3, owns_whole]; try rfl

end Cert.Kernel3Ideal.Merge

end
-- ==== Proof.MergeRunA.lean ====
/-  The merge call's body at the first point. -/
module

public import proofs.«01_k».proof.Proof.MergeDefs

@[expose] public section

set_option maxRecDepth 16384

noncomputable section

namespace Cert.Kernel3Ideal.Merge

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)
variable (arg1 : Memref sig .tc .vmem S512x1024 .bf16) (harg1 : arg1.IsWhole)
variable (arg2 : Memref sig .tc .vmem S512x1024 .bf16) (harg2 : arg2.IsWhole)
variable (arg3 : Memref sig .tc .vmem S512x1024 .bf16) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S512x1024 .bf16) (harg6 : arg6.IsWhole)
variable (arg7 : Memref sig .tc .vmem S512x1024 .bf16) (harg7 : arg7.IsWhole)
variable (arg8 : Memref sig .tc .vmem S512x1024 .bf16) (harg8 : arg8.IsWhole)
variable (arg9 : Memref sig .tc .vmem S512x1024 .f32) (harg9 : arg9.IsWhole)
variable (arg10 : Memref sig .tc .vmem S1x1x1024 .f32) (harg10 : arg10.IsWhole)
variable (arg11 : Memref sig .tc .vmem S1x1x1024 .f32) (harg11 : arg11.IsWhole)
variable (arg12 : Memref sig .tc .vmem S1x1x1024 .f32) (harg12 : arg12.IsWhole)
variable (arg13 : Memref sig .tc .vmem S1x1024 .f32) (harg13 : arg13.IsWhole)
variable (arg17 : Memref sig .tc .vmem S1024x256 .bf16) (harg17 : arg17.IsWhole)
variable (arg18 : Memref sig .tc .vmem S1x128 .f32) (harg18 : arg18.IsWhole)
variable (arg19 : Memref sig .tc .vmem S512x512 .bf16) (harg19 : arg19.IsWhole)
variable (arg20 : Memref sig .tc .vmem S512x1024 .f32) (harg20 : arg20.IsWhole)
variable (arg21 : Memref sig .tc .vmem S4096x128 .f32) (harg21 : arg21.IsWhole)
variable (arg22 : Memref sig .tc .vmem S8x512 .i32) (harg22 : arg22.IsWhole)
variable (arg23 : Memref sig .tc .vmem S8x512 .f32) (harg23 : arg23.IsWhole)
variable (arg24 : Memref sig .tc .vmem S32x128 .i32) (harg24 : arg24.IsWhole)
variable (arg25 : Memref sig .tc .vmem S1024x1024 .bf16) (harg25 : arg25.IsWhole)
variable (arg26 : Memref sig .tc .vmem S1024x1024 .bf16) (harg26 : arg26.IsWhole)
variable (arg27 : Memref sig .tc .vmem S1024x1024 .bf16) (harg27 : arg27.IsWhole)
variable (arg28 : Memref sig .tc .vmem S1024x1024 .f32) (harg28 : arg28.IsWhole)
variable (x0 : Vec F S512x1024 .bf16)
variable (x1 : Vec F S512x1024 .bf16)
variable (x2 : Vec F S512x1024 .bf16)
variable (x3 : Vec F S512x1024 .bf16)
variable (x4 : Vec F S512x1024 .bf16)
variable (x5 : Vec F S512x1024 .bf16)
variable (x6 : Vec F S512x1024 .bf16)
variable (x7 : Vec F S512x1024 .bf16)
variable (x8 : Vec F S512x1024 .f32)
variable (x9 : Vec F S1x1x1024 .f32)
variable (x10 : Vec F S1x1x1024 .f32)
variable (x11 : Vec F S1x1x1024 .f32)
variable (x12 : Vec F S1x1024 .f32)
variable (x13 : Vec F S1024x256 .bf16)
variable (x14 : Vec F S1x128 .f32)
variable (x15 : Vec F S512x512 .bf16)
variable (fh0 : HbBuf (F := F) c hbM0) (fh1 : HbBuf (F := F) c hbM1) (fh2 : HbBuf (F := F) c hbM2)

set_option maxHeartbeats 4000000 in
/-- The pieces the body's stores leave in each buffer it writes, at the first point, with the proof that it runs to them:
    from the windows' blocks it
    comes back with the inputs and the weights as they were, its semaphore at zero, and every buffer it stored
    into holding the pieces. -/
noncomputable def runA (hc : cond i) :
    Σ' (L16 : List (View.Piece (Elt F) S512x1024 .f32)),
    Σ' (L17 : List (View.Piece (Elt F) S4096x128 .f32)),
    Σ' (L18 : List (View.Piece (Elt F) S8x512 .i32)),
    Σ' (L19 : List (View.Piece (Elt F) S8x512 .f32)),
    Σ' (L20 : List (View.Piece (Elt F) S32x128 .i32)),
    Σ' (LS0 : List (View.Piece (Elt F) S1024x1024 .bf16)),
    Σ' (LS1 : List (View.Piece (Elt F) S1024x1024 .bf16)),
    Σ' (LS2 : List (View.Piece (Elt F) S1024x1024 .bf16)),
    { LS3 : List (View.Piece (Elt F) S1024x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare x8
          ∗ owns (c : Thread nD τ) arg10 fullShare x9 ∗ owns (c : Thread nD τ) arg11 fullShare x10 ∗ owns (c : Thread nD τ) arg12 fullShare x11
          ∗ owns (c : Thread nD τ) arg13 fullShare x12 ∗ owns (c : Thread nD τ) arg17 fullShare x13 ∗ owns (c : Thread nD τ) arg18 fullShare x14
          ∗ owns (c : Thread nD τ) arg19 fullShare x15 ∗ (∃ d, owns (c : Thread nD τ) arg20 fullShare d) ∗ (∃ d, owns (c : Thread nD τ) arg21 fullShare d)
          ∗ (∃ d, owns (c : Thread nD τ) arg22 fullShare d) ∗ (∃ d, owns (c : Thread nD τ) arg23 fullShare d) ∗ (∃ d, owns (c : Thread nD τ) arg24 fullShare d)
          ∗ (∃ d, owns (c : Thread nD τ) arg25 fullShare d) ∗ (∃ d, owns (c : Thread nD τ) arg26 fullShare d) ∗ (∃ d, owns (c : Thread nD τ) arg27 fullShare d)
          ∗ (∃ d, owns (c : Thread nD τ) arg28 fullShare d) ∗ semVal ((c : Thread nD τ), SemLoc.dma 37) 0 ∗ hbPt c hbM0 fh0
          ∗ hbPt c hbM1 fh1 ∗ hbPt c hbM2 fh2 ∗ owes (c : Thread nD τ) 0 W
            ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ owns (c : Thread nD τ) arg7 fullShare x6 ∗ owns (c : Thread nD τ) arg8 fullShare x7 ∗ owns (c : Thread nD τ) arg9 fullShare x8
              ∗ owns (c : Thread nD τ) arg10 fullShare x9 ∗ owns (c : Thread nD τ) arg11 fullShare x10 ∗ owns (c : Thread nD τ) arg12 fullShare x11
              ∗ owns (c : Thread nD τ) arg13 fullShare x12 ∗ owns (c : Thread nD τ) arg17 fullShare x13 ∗ owns (c : Thread nD τ) arg18 fullShare x14
              ∗ owns (c : Thread nD τ) arg19 fullShare x15 ∗ (∃ f, arg20.view.loc (c : Thread nD τ) ↦[arg20.view.set]{fullShare} arg20.view.writes (Elt F) f L16) ∗ (∃ f, arg21.view.loc (c : Thread nD τ) ↦[arg21.view.set]{fullShare} arg21.view.writes (Elt F) f L17)
              ∗ (∃ f, arg22.view.loc (c : Thread nD τ) ↦[arg22.view.set]{fullShare} arg22.view.writes (Elt F) f L18) ∗ (∃ f, arg23.view.loc (c : Thread nD τ) ↦[arg23.view.set]{fullShare} arg23.view.writes (Elt F) f L19) ∗ (∃ f, arg24.view.loc (c : Thread nD τ) ↦[arg24.view.set]{fullShare} arg24.view.writes (Elt F) f L20)
              ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2)
              ∗ (∃ f, arg28.view.loc (c : Thread nD τ) ↦[arg28.view.set]{fullShare} arg28.view.writes (Elt F) f LS3) ∗ semVal ((c : Thread nD τ), SemLoc.dma 37) 0 ∗ hbPt c hbM0 fh0
              ∗ hbPt c hbM1 fh1 ∗ hbPt c hbM2 fh2 ∗ (∃ W', owes (c : Thread nD τ) 0 W')) -∗ K ⟨⟩))
          ⊢ wp frame (wpE (defs₀ (F := F)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13
          (Memref.whole main_v35) (Memref.isWhole_whole _) (Memref.whole main_v36) (Memref.isWhole_whole _) (Memref.whole main_v37) (Memref.isWhole_whole _)
          arg17 harg17 arg18 harg18 arg19 harg19 arg20 harg20 arg21 harg21 arg22 harg22 arg23 harg23 arg24 harg24 arg25 harg25 arg26 harg26 arg27 harg27 arg28 harg28 cc0_scratch4) K } := by
  refine ⟨?_, ?_, ?_, ?_, ?_, ?_, ?_, ?_, ?_, fun W K => ?run⟩
  case run =>
    simp only [cc0_merge_eq_skeleton]; unfold cc0_merge_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%d16, %f16, -, H16⟩, ⟨%d17, %f17, -, H17⟩,
      ⟨%d18, %f18, -, H18⟩, ⟨%d19, %f19, -, H19⟩, ⟨%d20, %f20, -, H20⟩, ⟨%ds0, %fs0, -, Hs0⟩, ⟨%ds1, %fs1, -, Hs1⟩, ⟨%ds2, %fs2, -, Hs2⟩,
      ⟨%ds3, %fs3, -, Hs3⟩, Hq, Hh0, Hh1, Hh2, HW,
      Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg17.eq_unread hf13; obtain rfl := harg18.eq_unread hf14; obtain rfl := harg19.eq_unread hf15
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg17.read_unread _
      iexact H13
    isplitl [H14]
    · iexists _; isplitr; · ipureintro; exact harg18.read_unread _
      iexact H14
    isplitl [H15]
    · iexists _; isplitr; · ipureintro; exact harg19.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0]; · iexists _; iexact Hs0
    isplitl [Hs1]; · iexists _; iexact Hs1
    isplitl [Hs2]; · iexists _; iexact Hs2
    isplitl [Hs3]; · iexists _; iexact Hs3
    isplitl [Hq]; · iexact Hq
    isplitl [Hh0]; · iexact Hh0
    isplitl [Hh1]; · iexact Hh1
    isplitl [Hh2]; · iexact Hh2
    iexists _; iexact HW

end Cert.Kernel3Ideal.Merge

end
-- ==== Proof.MergeRunB.lean ====
/-  The merge call's body at a point that is not the first. -/
module

public import proofs.«01_k».proof.Proof.MergeDefs

@[expose] public section

set_option maxRecDepth 16384

noncomputable section

namespace Cert.Kernel3Ideal.Merge

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords)
variable (arg1 : Memref sig .tc .vmem S512x1024 .bf16) (harg1 : arg1.IsWhole)
variable (arg2 : Memref sig .tc .vmem S512x1024 .bf16) (harg2 : arg2.IsWhole)
variable (arg3 : Memref sig .tc .vmem S512x1024 .bf16) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S512x1024 .bf16) (harg6 : arg6.IsWhole)
variable (arg7 : Memref sig .tc .vmem S512x1024 .bf16) (harg7 : arg7.IsWhole)
variable (arg8 : Memref sig .tc .vmem S512x1024 .bf16) (harg8 : arg8.IsWhole)
variable (arg9 : Memref sig .tc .vmem S512x1024 .f32) (harg9 : arg9.IsWhole)
variable (arg10 : Memref sig .tc .vmem S1x1x1024 .f32) (harg10 : arg10.IsWhole)
variable (arg11 : Memref sig .tc .vmem S1x1x1024 .f32) (harg11 : arg11.IsWhole)
variable (arg12 : Memref sig .tc .vmem S1x1x1024 .f32) (harg12 : arg12.IsWhole)
variable (arg13 : Memref sig .tc .vmem S1x1024 .f32) (harg13 : arg13.IsWhole)
variable (arg17 : Memref sig .tc .vmem S1024x256 .bf16) (harg17 : arg17.IsWhole)
variable (arg18 : Memref sig .tc .vmem S1x128 .f32) (harg18 : arg18.IsWhole)
variable (arg19 : Memref sig .tc .vmem S512x512 .bf16) (harg19 : arg19.IsWhole)
variable (arg20 : Memref sig .tc .vmem S512x1024 .f32) (harg20 : arg20.IsWhole)
variable (arg21 : Memref sig .tc .vmem S4096x128 .f32) (harg21 : arg21.IsWhole)
variable (arg22 : Memref sig .tc .vmem S8x512 .i32) (harg22 : arg22.IsWhole)
variable (arg23 : Memref sig .tc .vmem S8x512 .f32) (harg23 : arg23.IsWhole)
variable (arg24 : Memref sig .tc .vmem S32x128 .i32) (harg24 : arg24.IsWhole)
variable (arg25 : Memref sig .tc .vmem S1024x1024 .bf16) (harg25 : arg25.IsWhole)
variable (arg26 : Memref sig .tc .vmem S1024x1024 .bf16) (harg26 : arg26.IsWhole)
variable (arg27 : Memref sig .tc .vmem S1024x1024 .bf16) (harg27 : arg27.IsWhole)
variable (arg28 : Memref sig .tc .vmem S1024x1024 .f32) (harg28 : arg28.IsWhole)
variable (x0 : Vec F S512x1024 .bf16)
variable (x1 : Vec F S512x1024 .bf16)
variable (x2 : Vec F S512x1024 .bf16)
variable (x3 : Vec F S512x1024 .bf16)
variable (x4 : Vec F S512x1024 .bf16)
variable (x5 : Vec F S512x1024 .bf16)
variable (x6 : Vec F S512x1024 .bf16)
variable (x7 : Vec F S512x1024 .bf16)
variable (x8 : Vec F S512x1024 .f32)
variable (x9 : Vec F S1x1x1024 .f32)
variable (x10 : Vec F S1x1x1024 .f32)
variable (x11 : Vec F S1x1x1024 .f32)
variable (x12 : Vec F S1x1024 .f32)
variable (x13 : Vec F S1024x256 .bf16)
variable (x14 : Vec F S1x128 .f32)
variable (x15 : Vec F S512x512 .bf16)
variable (fh0 : HbBuf (F := F) c hbM0) (fh1 : HbBuf (F := F) c hbM1) (fh2 : HbBuf (F := F) c hbM2)
variable (xc : Vec F S32x128 .i32) (xs0 : Vec F S1024x1024 .bf16) (xs1 : Vec F S1024x1024 .bf16) (xs2 : Vec F S1024x1024 .bf16)

set_option maxHeartbeats 4000000 in
/-- The pieces the body's stores leave in each buffer it writes, at a point that is not the first, with the proof that it runs to them:
    from the windows' blocks, the counts and the weights copied before it
    comes back with the inputs and the weights as they were, its semaphore at zero, and every buffer it stored
    into holding the pieces. -/
noncomputable def runB (hc : ¬cond i) :
    Σ' (L16 : List (View.Piece (Elt F) S512x1024 .f32)),
    Σ' (L17 : List (View.Piece (Elt F) S4096x128 .f32)),
    Σ' (L18 : List (View.Piece (Elt F) S8x512 .i32)),
    Σ' (L19 : List (View.Piece (Elt F) S8x512 .f32)),
    { L20 : List (View.Piece (Elt F) S32x128 .i32) //
      ∀ (W : Waits sig Unit) (K : PUnit → sProp 𝕄),
        iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare x8
          ∗ owns (c : Thread nD τ) arg10 fullShare x9 ∗ owns (c : Thread nD τ) arg11 fullShare x10 ∗ owns (c : Thread nD τ) arg12 fullShare x11
          ∗ owns (c : Thread nD τ) arg13 fullShare x12 ∗ owns (c : Thread nD τ) arg17 fullShare x13 ∗ owns (c : Thread nD τ) arg18 fullShare x14
          ∗ owns (c : Thread nD τ) arg19 fullShare x15 ∗ (∃ d, owns (c : Thread nD τ) arg20 fullShare d) ∗ (∃ d, owns (c : Thread nD τ) arg21 fullShare d)
          ∗ (∃ d, owns (c : Thread nD τ) arg22 fullShare d) ∗ (∃ d, owns (c : Thread nD τ) arg23 fullShare d) ∗ owns (c : Thread nD τ) arg24 fullShare xc
          ∗ owns (c : Thread nD τ) arg25 fullShare xs0 ∗ owns (c : Thread nD τ) arg26 fullShare xs1 ∗ owns (c : Thread nD τ) arg27 fullShare xs2
          ∗ (∃ d, owns (c : Thread nD τ) arg28 fullShare d) ∗ semVal ((c : Thread nD τ), SemLoc.dma 37) 0 ∗ hbPt c hbM0 fh0
          ∗ hbPt c hbM1 fh1 ∗ hbPt c hbM2 fh2 ∗ owes (c : Thread nD τ) 0 W
            ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ owns (c : Thread nD τ) arg7 fullShare x6 ∗ owns (c : Thread nD τ) arg8 fullShare x7 ∗ owns (c : Thread nD τ) arg9 fullShare x8
              ∗ owns (c : Thread nD τ) arg10 fullShare x9 ∗ owns (c : Thread nD τ) arg11 fullShare x10 ∗ owns (c : Thread nD τ) arg12 fullShare x11
              ∗ owns (c : Thread nD τ) arg13 fullShare x12 ∗ owns (c : Thread nD τ) arg17 fullShare x13 ∗ owns (c : Thread nD τ) arg18 fullShare x14
              ∗ owns (c : Thread nD τ) arg19 fullShare x15 ∗ (∃ f, arg20.view.loc (c : Thread nD τ) ↦[arg20.view.set]{fullShare} arg20.view.writes (Elt F) f L16) ∗ (∃ f, arg21.view.loc (c : Thread nD τ) ↦[arg21.view.set]{fullShare} arg21.view.writes (Elt F) f L17)
              ∗ (∃ f, arg22.view.loc (c : Thread nD τ) ↦[arg22.view.set]{fullShare} arg22.view.writes (Elt F) f L18) ∗ (∃ f, arg23.view.loc (c : Thread nD τ) ↦[arg23.view.set]{fullShare} arg23.view.writes (Elt F) f L19) ∗ (∃ f, arg24.view.loc (c : Thread nD τ) ↦[arg24.view.set]{fullShare} arg24.view.writes (Elt F) f L20)
              ∗ owns (c : Thread nD τ) arg25 fullShare xs0 ∗ owns (c : Thread nD τ) arg26 fullShare xs1 ∗ owns (c : Thread nD τ) arg27 fullShare xs2
              ∗ (∃ d, owns (c : Thread nD τ) arg28 fullShare d) ∗ semVal ((c : Thread nD τ), SemLoc.dma 37) 0 ∗ hbPt c hbM0 fh0
              ∗ hbPt c hbM1 fh1 ∗ hbPt c hbM2 fh2 ∗ (∃ W', owes (c : Thread nD τ) 0 W')) -∗ K ⟨⟩))
          ⊢ wp frame (wpE (defs₀ (F := F)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13
          (Memref.whole main_v35) (Memref.isWhole_whole _) (Memref.whole main_v36) (Memref.isWhole_whole _) (Memref.whole main_v37) (Memref.isWhole_whole _)
          arg17 harg17 arg18 harg18 arg19 harg19 arg20 harg20 arg21 harg21 arg22 harg22 arg23 harg23 arg24 harg24 arg25 harg25 arg26 harg26 arg27 harg27 arg28 harg28 cc0_scratch4) K } := by
  refine ⟨?_, ?_, ?_, ?_, ?_, fun W K => ?run⟩
  case run =>
    simp only [cc0_merge_eq_skeleton]; unfold cc0_merge_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%d16, %f16, -, H16⟩, ⟨%d17, %f17, -, H17⟩,
      ⟨%d18, %f18, -, H18⟩, ⟨%d19, %f19, -, H19⟩, ⟨%f20, %hf20, H20⟩, ⟨%fs0, %hfs0, Hs0⟩, ⟨%fs1, %hfs1, Hs1⟩, ⟨%fs2, %hfs2, Hs2⟩,
      ⟨%ds3, %fs3, -, Hs3⟩, Hq, Hh0, Hh1, Hh2, HW,
      Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg17.eq_unread hf13; obtain rfl := harg18.eq_unread hf14; obtain rfl := harg19.eq_unread hf15
    obtain rfl := harg24.eq_unread hf20; obtain rfl := harg25.eq_unread hfs0; obtain rfl := harg26.eq_unread hfs1; obtain rfl := harg27.eq_unread hfs2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg17.read_unread _
      iexact H13
    isplitl [H14]
    · iexists _; isplitr; · ipureintro; exact harg18.read_unread _
      iexact H14
    isplitl [H15]
    · iexists _; isplitr; · ipureintro; exact harg19.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [Hs0]
    · iexists _; isplitr; · ipureintro; exact harg25.read_unread _
      iexact Hs0
    isplitl [Hs1]
    · iexists _; isplitr; · ipureintro; exact harg26.read_unread _
      iexact Hs1
    isplitl [Hs2]
    · iexists _; isplitr; · ipureintro; exact harg27.read_unread _
      iexact Hs2
    isplitl [Hs3]
    · iexists _, _; isplitr; swap; · iexact Hs3
      ipureintro; rfl
    isplitl [Hq]; · iexact Hq
    isplitl [Hh0]; · iexact Hh0
    isplitl [Hh1]; · iexact Hh1
    isplitl [Hh2]; · iexact Hh2
    iexists _; iexact HW

end Cert.Kernel3Ideal.Merge

end
-- ==== Proof.RegMerge.lean ====
/-  The merge call: what its buffers hold after every point. -/
module

public import proofs.«01_k».proof.Proof.MergeRunA
public import proofs.«01_k».proof.Proof.MergeRunB

@[expose] public section

set_option maxRecDepth 16384

noncomputable section

namespace Cert.Kernel3Ideal.Merge

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The token-tiled rows cover their block -/

/-- The rows of a half block that one strided store writes: every eighth, from `o`. -/
abbrev strip (b o : ℕ) (hb : ∀ a, (![b, 0] : Fin 2 → ℕ) a + S2048x128.size a ≤ S4096x128.size a)
    (ho : ∀ a, (![256, 128] : Fin 2 → ℕ) a = 0 ∨ (![o, 0] : Fin 2 → ℕ) a + (![8, 1] : Fin 2 → ℕ) a * ((![256, 128] : Fin 2 → ℕ) a - 1) < S2048x128.size a) :
    Rect S4096x128 :=
  (Rect.unit (s := S4096x128) ![b, 0] S2048x128.size hb).within
    { off := ![o, 0], size := ![256, 128], stride := ![8, 1], inb := ho, stride_pos := spos_8_1 } (fun _ => rfl)

/-- The sixteen of a block, the last stored first. -/
abbrev strips : List (Rect S4096x128) :=
  [strip 2048 7 inb_S4096x128_S2048x128_2048_0 inb_S2048x128_S256x128_7_0_s_8_1,
   strip 2048 6 inb_S4096x128_S2048x128_2048_0 inb_S2048x128_S256x128_6_0_s_8_1,
   strip 2048 5 inb_S4096x128_S2048x128_2048_0 inb_S2048x128_S256x128_5_0_s_8_1,
   strip 2048 4 inb_S4096x128_S2048x128_2048_0 inb_S2048x128_S256x128_4_0_s_8_1,
   strip 2048 3 inb_S4096x128_S2048x128_2048_0 inb_S2048x128_S256x128_3_0_s_8_1,
   strip 2048 2 inb_S4096x128_S2048x128_2048_0 inb_S2048x128_S256x128_2_0_s_8_1,
   strip 2048 1 inb_S4096x128_S2048x128_2048_0 inb_S2048x128_S256x128_1_0_s_8_1,
   strip 2048 0 inb_S4096x128_S2048x128_2048_0 inb_S2048x128_S256x128_0_0_s_8_1,
   strip 0 7 inb_S4096x128_S2048x128_0_0 inb_S2048x128_S256x128_7_0_s_8_1,
   strip 0 6 inb_S4096x128_S2048x128_0_0 inb_S2048x128_S256x128_6_0_s_8_1,
   strip 0 5 inb_S4096x128_S2048x128_0_0 inb_S2048x128_S256x128_5_0_s_8_1,
   strip 0 4 inb_S4096x128_S2048x128_0_0 inb_S2048x128_S256x128_4_0_s_8_1,
   strip 0 3 inb_S4096x128_S2048x128_0_0 inb_S2048x128_S256x128_3_0_s_8_1,
   strip 0 2 inb_S4096x128_S2048x128_0_0 inb_S2048x128_S256x128_2_0_s_8_1,
   strip 0 1 inb_S4096x128_S2048x128_0_0 inb_S2048x128_S256x128_1_0_s_8_1,
   strip 0 0 inb_S4096x128_S2048x128_0_0 inb_S2048x128_S256x128_0_0_s_8_1]

theorem mem_strip (b o : ℕ) (hb) (ho) (y : S4096x128.Idx) (h1 : b ≤ (y 0).val) (h2 : (y 0).val < b + 2048)
    (h3 : (y 0).val % 8 = (b + o) % 8) (h4 : o < 8) (h5 : b % 8 = 0) : y ∈ (strip b o hb ho).set := by
  refine LoadRect.mem_set _ |>.mpr fun a => ?_
  match a with
  | ⟨0, _⟩ =>
    refine ⟨((y 0).val - b) / 8, ?_, ?_⟩
    · show ((y 0).val - b) / 8 < 256; omega
    · show (y 0).val = b + o + 8 * (((y 0).val - b) / 8); omega
  | ⟨1, _⟩ =>
    refine ⟨(y 1).val, (y 1).isLt, ?_⟩
    show (y 1).val = 0 + 0 + 1 * (y 1).val; omega

theorem cover_strips (y : S4096x128.Idx) : ∃ r ∈ strips, y ∈ r.set := by
  have hy : (y 0).val < 4096 := (y 0).isLt
  have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  by_cases h : (y 0).val < 2048
  · rcases h8 with h8 | h8 | h8 | h8 | h8 | h8 | h8 | h8
    · exact ⟨strips[15], List.getElem_mem _, mem_strip _ _ _ _ y (by omega) (by omega) (by omega) (by omega) (by omega)⟩
    · exact ⟨strips[14], List.getElem_mem _, mem_strip _ _ _ _ y (by omega) (by omega) (by omega) (by omega) (by omega)⟩
    · exact ⟨strips[13], List.getElem_mem _, mem_strip _ _ _ _ y (by omega) (by omega) (by omega) (by omega) (by omega)⟩
    · exact ⟨strips[12], List.getElem_mem _, mem_strip _ _ _ _ y (by omega) (by omega) (by omega) (by omega) (by omega)⟩
    · exact ⟨strips[11], List.getElem_mem _, mem_strip _ _ _ _ y (by omega) (by omega) (by omega) (by omega) (by omega)⟩
    · exact ⟨strips[10], List.getElem_mem _, mem_strip _ _ _ _ y (by omega) (by omega) (by omega) (by omega) (by omega)⟩
    · exact ⟨strips[9], List.getElem_mem _, mem_strip _ _ _ _ y (by omega) (by omega) (by omega) (by omega) (by omega)⟩
    · exact ⟨strips[8], List.getElem_mem _, mem_strip _ _ _ _ y (by omega) (by omega) (by omega) (by omega) (by omega)⟩
  · rcases h8 with h8 | h8 | h8 | h8 | h8 | h8 | h8 | h8
    · exact ⟨strips[7], List.getElem_mem _, mem_strip _ _ _ _ y (by omega) (by omega) (by omega) (by omega) (by omega)⟩
    · exact ⟨strips[6], List.getElem_mem _, mem_strip _ _ _ _ y (by omega) (by omega) (by omega) (by omega) (by omega)⟩
    · exact ⟨strips[5], List.getElem_mem _, mem_strip _ _ _ _ y (by omega) (by omega) (by omega) (by omega) (by omega)⟩
    · exact ⟨strips[4], List.getElem_mem _, mem_strip _ _ _ _ y (by omega) (by omega) (by omega) (by omega) (by omega)⟩
    · exact ⟨strips[3], List.getElem_mem _, mem_strip _ _ _ _ y (by omega) (by omega) (by omega) (by omega) (by omega)⟩
    · exact ⟨strips[2], List.getElem_mem _, mem_strip _ _ _ _ y (by omega) (by omega) (by omega) (by omega) (by omega)⟩
    · exact ⟨strips[1], List.getElem_mem _, mem_strip _ _ _ _ y (by omega) (by omega) (by omega) (by omega) (by omega)⟩
    · exact ⟨strips[0], List.getElem_mem _, mem_strip _ _ _ _ y (by omega) (by omega) (by omega) (by omega) (by omega)⟩

/-- Pieces on those rectangles cover the block. -/
theorem cover_of_strips (L : List (View.Piece (Elt F) S4096x128 .f32)) (h : L.map (fun p => p.1) = strips) (y : S4096x128.Idx) :
    ∃ p ∈ L, y ∈ p.1.set := by
  obtain ⟨r, hr, hy⟩ := cover_strips y
  rw [← h] at hr
  obtain ⟨p, hp, rfl⟩ := List.mem_map.mp hr
  exact ⟨p, hp, hy⟩

/-! ## The body at a point of the grid -/

/-- The run at the first point, on that point's buffers and blocks. -/
def resA (c : Dev nD) (t : Fin cfg0.N) (h : t.val = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) sc0 (Memref.isWhole_whole _) sc1 (Memref.isWhole_whole _) sc2 (Memref.isWhole_whole _) sc3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (V m c main_v35) (V m c main_v36) (V m c main_v37) ((hcond t).mpr h)

/-- The run at another point, the counts before it at `xc` and the kept weights at `w0`, `w1`, `w2`. -/
def resB (c : Dev nD) (t : Fin cfg0.N) (h : t.val ≠ 0) (xc : Vec F S32x128 .i32) (w0 w1 w2 : Vec F S1024x1024 .bf16) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) sc0 (Memref.isWhole_whole _) sc1 (Memref.isWhole_whole _) sc2 (Memref.isWhole_whole _) sc3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (V m c main_v35) (V m c main_v36) (V m c main_v37) xc w0 w1 w2 (fun hc => h ((hcond t).mp hc))

theorem coverA_16 (c : Dev nD) (t : Fin cfg0.N) (h : t.val = 0) : ∀ y, ∃ p ∈ (resA m c t h).1, y ∈ p.1.set :=
  View.cover_of_tiledL _ S256x1024.size (by sl_kernel_rfl)
theorem coverA_17 (c : Dev nD) (t : Fin cfg0.N) (h : t.val = 0) : ∀ y, ∃ p ∈ (resA m c t h).2.1, y ∈ p.1.set :=
  cover_of_strips _ rfl
theorem coverA_18 (c : Dev nD) (t : Fin cfg0.N) (h : t.val = 0) : ∀ y, ∃ p ∈ (resA m c t h).2.2.1, y ∈ p.1.set :=
  View.cover_of_tiledL _ S8x512.size (by sl_kernel_rfl)
theorem coverA_19 (c : Dev nD) (t : Fin cfg0.N) (h : t.val = 0) : ∀ y, ∃ p ∈ (resA m c t h).2.2.2.1, y ∈ p.1.set :=
  View.cover_of_tiledL _ S8x512.size (by sl_kernel_rfl)
theorem coverA_20 (c : Dev nD) (t : Fin cfg0.N) (h : t.val = 0) : ∀ y, ∃ p ∈ (resA m c t h).2.2.2.2.1, y ∈ p.1.set :=
  View.cover_of_tiledL _ S32x128.size (by sl_kernel_rfl)
theorem coverA_S0 (c : Dev nD) (t : Fin cfg0.N) (h : t.val = 0) : ∀ y, ∃ p ∈ (resA m c t h).2.2.2.2.2.1, y ∈ p.1.set :=
  View.cover_of_tiledL _ S1024x1024.size (by sl_kernel_rfl)
theorem coverA_S1 (c : Dev nD) (t : Fin cfg0.N) (h : t.val = 0) : ∀ y, ∃ p ∈ (resA m c t h).2.2.2.2.2.2.1, y ∈ p.1.set :=
  View.cover_of_tiledL _ S1024x1024.size (by sl_kernel_rfl)
theorem coverA_S2 (c : Dev nD) (t : Fin cfg0.N) (h : t.val = 0) : ∀ y, ∃ p ∈ (resA m c t h).2.2.2.2.2.2.2.1, y ∈ p.1.set :=
  View.cover_of_tiledL _ S1024x1024.size (by sl_kernel_rfl)
theorem coverB_16 (c : Dev nD) (t : Fin cfg0.N) (h : t.val ≠ 0) (xc : Vec F S32x128 .i32) (w0 w1 w2 : Vec F S1024x1024 .bf16) : ∀ y, ∃ p ∈ (resB m c t h xc w0 w1 w2).1, y ∈ p.1.set :=
  View.cover_of_tiledL _ S256x1024.size (by sl_kernel_rfl)
theorem coverB_17 (c : Dev nD) (t : Fin cfg0.N) (h : t.val ≠ 0) (xc : Vec F S32x128 .i32) (w0 w1 w2 : Vec F S1024x1024 .bf16) : ∀ y, ∃ p ∈ (resB m c t h xc w0 w1 w2).2.1, y ∈ p.1.set :=
  cover_of_strips _ rfl
theorem coverB_18 (c : Dev nD) (t : Fin cfg0.N) (h : t.val ≠ 0) (xc : Vec F S32x128 .i32) (w0 w1 w2 : Vec F S1024x1024 .bf16) : ∀ y, ∃ p ∈ (resB m c t h xc w0 w1 w2).2.2.1, y ∈ p.1.set :=
  View.cover_of_tiledL _ S8x512.size (by sl_kernel_rfl)
theorem coverB_19 (c : Dev nD) (t : Fin cfg0.N) (h : t.val ≠ 0) (xc : Vec F S32x128 .i32) (w0 w1 w2 : Vec F S1024x1024 .bf16) : ∀ y, ∃ p ∈ (resB m c t h xc w0 w1 w2).2.2.2.1, y ∈ p.1.set :=
  View.cover_of_tiledL _ S8x512.size (by sl_kernel_rfl)
theorem coverB_20 (c : Dev nD) (t : Fin cfg0.N) (h : t.val ≠ 0) (xc : Vec F S32x128 .i32) (w0 w1 w2 : Vec F S1024x1024 .bf16) : ∀ y, ∃ p ∈ (resB m c t h xc w0 w1 w2).2.2.2.2.1, y ∈ p.1.set :=
  View.cover_of_tiledL _ S32x128.size (by sl_kernel_rfl)

/-- The first point. -/
abbrev t0 : Fin cfg0.N := ⟨0, by rw [show cfg0.N = 32 from N_0]; decide⟩

/-- The three weights as the first point leaves them in scratch. -/
def wk0 (c : Dev nD) : Vec F S1024x1024 .bf16 := View.canon (resA m c t0 rfl).2.2.2.2.2.1
def wk1 (c : Dev nD) : Vec F S1024x1024 .bf16 := View.canon (resA m c t0 rfl).2.2.2.2.2.2.1
def wk2 (c : Dev nD) : Vec F S1024x1024 .bf16 := View.canon (resA m c t0 rfl).2.2.2.2.2.2.2.1

/-- The counts after the first point, and after another over those before it. -/
def cntFirst (c : Dev nD) : Vec F S32x128 .i32 := View.canon (resA m c t0 rfl).2.2.2.2.1
def cntNext (c : Dev nD) (t : Fin cfg0.N) (h : t.val ≠ 0) (xc : Vec F S32x128 .i32) : Vec F S32x128 .i32 :=
  View.canon (resB m c t h xc (wk0 m c) (wk1 m c) (wk2 m c)).2.2.2.2.1

/-- The counts after point `n`. -/
def cntAt (c : Dev nD) : (n : ℕ) → n < cfg0.N → Vec F S32x128 .i32
  | 0, _ => cntFirst m c
  | n + 1, hn => cntNext m c ⟨n + 1, hn⟩ (Nat.succ_ne_zero n) (cntAt c n (Nat.lt_of_succ_lt hn))

/-- The counts before point `t`. -/
def cntBefore (c : Dev nD) (t : Fin cfg0.N) : Vec F S32x128 .i32 := cntAt m c (t.val - 1) (Nat.lt_of_le_of_lt (Nat.sub_le _ _) t.isLt)

theorem cntAt_succ (c : Dev nD) (t : Fin cfg0.N) (h : t.val ≠ 0) :
    cntAt m c t.val t.isLt = View.canon (resB m c t h (cntBefore m c t) (wk0 m c) (wk1 m c) (wk2 m c)).2.2.2.2.1 := by
  obtain ⟨n, hn⟩ := t
  cases n with
  | zero => exact absurd rfl h
  | succ n => rfl

/-- What the body leaves at point `t` in the buffers of the results: the merged rows, the normalised rows tiled by
    token, the experts, their weights. -/
def out16 (c : Dev nD) (t : Fin cfg0.N) : Vec F S512x1024 .f32 :=
  if h : t.val = 0 then View.canon (resA m c t h).1
  else View.canon (resB m c t h (cntBefore m c t) (wk0 m c) (wk1 m c) (wk2 m c)).1
def out17 (c : Dev nD) (t : Fin cfg0.N) : Vec F S4096x128 .f32 :=
  if h : t.val = 0 then View.canon (resA m c t h).2.1
  else View.canon (resB m c t h (cntBefore m c t) (wk0 m c) (wk1 m c) (wk2 m c)).2.1
def out18 (c : Dev nD) (t : Fin cfg0.N) : Vec F S8x512 .i32 :=
  if h : t.val = 0 then View.canon (resA m c t h).2.2.1
  else View.canon (resB m c t h (cntBefore m c t) (wk0 m c) (wk1 m c) (wk2 m c)).2.2.1
def out19 (c : Dev nD) (t : Fin cfg0.N) : Vec F S8x512 .f32 :=
  if h : t.val = 0 then View.canon (resA m c t h).2.2.2.1
  else View.canon (resB m c t h (cntBefore m c t) (wk0 m c) (wk1 m c) (wk2 m c)).2.2.2.1

/-! ## The region's proof data -/

/-- What the body holds beside its windows past the first point: the weights kept in scratch, the rest as launched. -/
def kept (c : Dev nD) : sProp 𝕄 :=
  iprop(iprop(owns (c : Thread nD τ) sc0 fullShare (wk0 m c) ∗ owns (c : Thread nD τ) sc1 fullShare (wk1 m c)
      ∗ owns (c : Thread nD τ) sc2 fullShare (wk2 m c) ∗ (∃ d, owns (c : Thread nD τ) sc3 fullShare d))
    ∗ (∃ r, prngReg c r) ∗ iprop(semVal ((c : Thread nD τ), SemLoc.dma 37) 0)
    ∗ iprop(hbPt c hbM0 (V m c main_v35) ∗ hbPt c hbM1 (V m c main_v36) ∗ hbPt c hbM2 (V m c main_v37)))

/-- The invariant before point `n`. -/
def inv (c : Dev nD) (n : ℕ) : sProp 𝕄 := if n = 0 then Pipeline.ΦD osem spec0 HW (V m) c else kept m c

/-- What the region's proof states of core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 m c t
    | ⟨17, _⟩ => out17 m c t
    | ⟨18, _⟩ => out18 m c t
    | ⟨19, _⟩ => out19 m c t
    | ⟨20, _⟩ => cntAt m c t.val t.isLt
    | ⟨_ + 21, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by dsimp only [dats]
theorem Φ_eq (c : Dev nD) (t : Fin (cfg0.N + 1)) : (dats m 0 c).Φ t = inv m c t.val := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 m c t := by dsimp only [dats]
theorem after17 (c : Dev nD) (t : Fin cfg0.N) : (dats m 0 c).after 17 t = out17 m c t := by dsimp only [dats]
theorem after18 (c : Dev nD) (t : Fin cfg0.N) : (dats m 0 c).after 18 t = out18 m c t := by dsimp only [dats]
theorem after19 (c : Dev nD) (t : Fin cfg0.N) : (dats m 0 c).after 19 t = out19 m c t := by dsimp only [dats]
theorem after20 (c : Dev nD) (t : Fin cfg0.N) : (dats m 0 c).after 20 t = cntAt m c t.val t.isLt := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
/-- Past the first point the counts' buffer holds what the point before left. -/
theorem before20 (c : Dev nD) (t : Fin cfg0.N) (h : t.val ≠ 0) (d) : (dats m 0 c).before 20 t d = cntBefore m c t := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats, cntBefore]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t)
    ∗ owns (c : Thread nD τ) (ms20 t) fullShare ((dats m 0 c).after 20 t))

theorem inv_first (c : Dev nD) : inv m c 0 = Pipeline.ΦD osem spec0 HW (V m) c := if_pos rfl
theorem inv_later (c : Dev nD) (n : ℕ) (h : n ≠ 0) : inv m c n = kept m c := if_neg h

end Cert.Kernel3Ideal.Merge

end
-- ==== Proof.MergeRun.lean ====
/-  The merge call: its body at every point, and the launch. -/
module

public import proofs.«01_k».proof.Proof.RegMerge

@[expose] public section

set_option maxRecDepth 16384

noncomputable section

namespace Cert.Kernel3Ideal.Merge

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the first point. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [Φ_eq, Φ_eq, show t.castSucc.val = t.val from rfl, show t.succ.val = t.val + 1 from rfl, inv_later m c _ (Nat.succ_ne_zero _),
    show inv m c t.val = inv m c 0 from congrArg _ h, inv_first, PhiD_eq, after0, after1, after2, after3, after4, after5, after6, after7, after8, after9, after10, after11, after12, after13, after14, after15, after16, after17, after18, after19, after20]
  unfold Dat.owesAt Pipeline.owesWithin
  rw [show (dats m 0 c).owed t.castSucc = 0 from rfl, show (dats m 0 c).owed t.succ = 0 from rfl]
  obtain rfl : t = t0 := Fin.ext h
  rw [show cntAt m c t0.val t0.isLt = View.canon (resA m c t0 h).2.2.2.2.1 from rfl]
  unfold out16 out17 out18 out19 kept wk0 wk1 wk2
  simp only [dif_pos h]
  iintro ⟨⟨⟨HS0, HS1, HS2, HS3⟩, Hg, Hq, ⟨Hh0, Hh1, Hh2⟩⟩, ⟨%W, -, HW⟩, ⟨%d0, H0⟩, ⟨%d1, H1⟩, ⟨%d2, H2⟩, ⟨%d3, H3⟩,
    ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩⟩
  iapply ((resA m c t0 h).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [Hq]; · iexact Hq
  isplitl [Hh0]; · iexact Hh0
  isplitl [Hh1]; · iexact Hh1
  isplitl [Hh2]; · iexact Hh2
  isplitl [HW]; · iexact HW
  iintro ⟨H0, H1, H2, H3, H4, H5, H6, H7,
    H8, H9, H10, H11, H12, H13, H14, H15,
    ⟨%e16, H16⟩, ⟨%e17, H17⟩, ⟨%e18, H18⟩, ⟨%e19, H19⟩, ⟨%e20, H20⟩, ⟨%es0, HS0⟩, ⟨%es1, HS1⟩, ⟨%es2, HS2⟩,
    ⟨%es3, HS3⟩, Hq, Hh0, Hh1, Hh2, ⟨%W', HW⟩⟩
  isplitl [HS0 HS1 HS2 HS3 Hg Hq Hh0 Hh1 Hh2]
  · isplitl [HS0 HS1 HS2 HS3]
    · isplitl [HS0]
      · unfold owns; iexists _; isplitr
        swap; · iexact HS0
        ipureintro; exact View.read_writes_eq_canon _ _ _ (coverA_S0 m c t0 h)
      isplitl [HS1]
      · unfold owns; iexists _; isplitr
        swap; · iexact HS1
        ipureintro; exact View.read_writes_eq_canon _ _ _ (coverA_S1 m c t0 h)
      isplitl [HS2]
      · unfold owns; iexists _; isplitr
        swap; · iexact HS2
        ipureintro; exact View.read_writes_eq_canon _ _ _ (coverA_S2 m c t0 h)
      iexists _; unfold owns; iexists _; isplitr
      swap; · iexact HS3
      ipureintro; rfl
    isplitl [Hg]; · iexact Hg
    isplitl [Hq]; · iexact Hq
    isplitl [Hh0]; · iexact Hh0
    isplitl [Hh1]; · iexact Hh1
    iexact Hh2
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_eq_canon _ _ _ (coverA_16 m c t0 h)
  isplitl [H17]
  · unfold owns; iexists _; isplitr
    swap; · iexact H17
    ipureintro; exact View.read_writes_eq_canon _ _ _ (coverA_17 m c t0 h)
  isplitl [H18]
  · unfold owns; iexists _; isplitr
    swap; · iexact H18
    ipureintro; exact View.read_writes_eq_canon _ _ _ (coverA_18 m c t0 h)
  isplitl [H19]
  · unfold owns; iexists _; isplitr
    swap; · iexact H19
    ipureintro; exact View.read_writes_eq_canon _ _ _ (coverA_19 m c t0 h)
  unfold owns; iexists _; isplitr
  swap; · iexact H20
  ipureintro; exact View.read_writes_eq_canon _ _ _ (coverA_20 m c t0 h)

set_option maxHeartbeats 4000000 in
/-- The body at another point. -/
theorem soundB (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before20 m c t h]
  rw [Φ_eq, Φ_eq, show t.castSucc.val = t.val from rfl, show t.succ.val = t.val + 1 from rfl, inv_later m c _ (Nat.succ_ne_zero _),
    inv_later m c _ h, after0, after1, after2, after3, after4, after5, after6, after7, after8, after9, after10, after11, after12, after13, after14, after15, after16, after17, after18, after19, after20]
  unfold Dat.owesAt Pipeline.owesWithin
  rw [show (dats m 0 c).owed t.castSucc = 0 from rfl, show (dats m 0 c).owed t.succ = 0 from rfl]
  rw [cntAt_succ m c t h]
  unfold out16 out17 out18 out19 kept
  simp only [dif_neg h]
  iintro ⟨⟨⟨HS0, HS1, HS2, HS3⟩, Hg, Hq, ⟨Hh0, Hh1, Hh2⟩⟩, ⟨%W, -, HW⟩, ⟨%d0, H0⟩, ⟨%d1, H1⟩, ⟨%d2, H2⟩, ⟨%d3, H3⟩,
    ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩⟩
  iapply ((resB m c t h (cntBefore m c t) (wk0 m c) (wk1 m c) (wk2 m c)).2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexact H20
  isplitl [HS0]; · iexact HS0
  isplitl [HS1]; · iexact HS1
  isplitl [HS2]; · iexact HS2
  isplitl [HS3]; · iexact HS3
  isplitl [Hq]; · iexact Hq
  isplitl [Hh0]; · iexact Hh0
  isplitl [Hh1]; · iexact Hh1
  isplitl [Hh2]; · iexact Hh2
  isplitl [HW]; · iexact HW
  iintro ⟨H0, H1, H2, H3, H4, H5, H6, H7,
    H8, H9, H10, H11, H12, H13, H14, H15,
    ⟨%e16, H16⟩, ⟨%e17, H17⟩, ⟨%e18, H18⟩, ⟨%e19, H19⟩, ⟨%e20, H20⟩, HS0, HS1, HS2,
    HS3, Hq, Hh0, Hh1, Hh2, ⟨%W', HW⟩⟩
  isplitl [HS0 HS1 HS2 HS3 Hg Hq Hh0 Hh1 Hh2]
  · isplitl [HS0 HS1 HS2 HS3]
    · isplitl [HS0]; · iexact HS0
      isplitl [HS1]; · iexact HS1
      isplitl [HS2]; · iexact HS2
      iexact HS3
    isplitl [Hg]; · iexact Hg
    isplitl [Hq]; · iexact Hq
    isplitl [Hh0]; · iexact Hh0
    isplitl [Hh1]; · iexact Hh1
    iexact Hh2
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_eq_canon _ _ _ (coverB_16 m c t h (cntBefore m c t) (wk0 m c) (wk1 m c) (wk2 m c))
  isplitl [H17]
  · unfold owns; iexists _; isplitr
    swap; · iexact H17
    ipureintro; exact View.read_writes_eq_canon _ _ _ (coverB_17 m c t h (cntBefore m c t) (wk0 m c) (wk1 m c) (wk2 m c))
  isplitl [H18]
  · unfold owns; iexists _; isplitr
    swap; · iexact H18
    ipureintro; exact View.read_writes_eq_canon _ _ _ (coverB_18 m c t h (cntBefore m c t) (wk0 m c) (wk1 m c) (wk2 m c))
  isplitl [H19]
  · unfold owns; iexists _; isplitr
    swap; · iexact H19
    ipureintro; exact View.read_writes_eq_canon _ _ _ (coverB_19 m c t h (cntBefore m c t) (wk0 m c) (wk1 m c) (wk2 m c))
  unfold owns; iexists _; isplitr
  swap; · iexact H20
  ipureintro; exact View.read_writes_eq_canon _ _ _ (coverB_20 m c t h (cntBefore m c t) (wk0 m c) (wk1 m c) (wk2 m c))

theorem sound (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · exact soundB m c t h

/-- The body's row of the table at a point's buffers is the body there. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

/-! ## The launch -/

/-- What the launch hands over is the invariant before the first point, -/
theorem hin (c : Dev nD) : Pipeline.ΦD osem spec0 HW (V m) c ⊢ (dats m 0 c).Φ 0 := by
  rw [Φ_eq, show ((0 : Fin (cfg0.N + 1)).val) = 0 from rfl, inv_first]
  try exact Idealize.SL.BI.Entails.refl _

/-- and the invariant after the last gives it back. -/
theorem hout (c : Dev nD) : (dats m 0 c).Φ (Fin.last cfg0.N) ⊢ Pipeline.ΦD osem spec0 HW (V m) c := by
  rw [Φ_eq, inv_later m c _ (by rw [Fin.val_last, show cfg0.N = 32 from N_0]; decide), PhiD_eq]
  unfold kept
  iintro ⟨⟨HS0, HS1, HS2, HS3⟩, Hg, Hq, ⟨Hh0, Hh1, Hh2⟩⟩
  isplitl [HS0 HS1 HS2 HS3]
  · isplitl [HS0]
    · iexists _; iexact HS0
    isplitl [HS1]
    · iexists _; iexact HS1
    isplitl [HS2]
    · iexists _; iexact HS2
    iexact HS3
  isplitl [Hg]; · iexact Hg
  isplitl [Hq]; · iexact Hq
  isplitl [Hh0]; · iexact Hh0
  isplitl [Hh1]; · iexact Hh1
  iexact Hh2

set_option backward.isDefEq.respectTransparency.types false in
/-- Every weakly fair execution ends, with every array of the pipeline at what the proof data gives it, every other
    buffer as the region found it, and every semaphore counter at zero. -/
theorem run_merge : θ_run defs (onTc (τ := τ) (main (F := F))) (s₀ m ρ)
    (fun r => (Pipeline.FramePost cfgs (dats m) 0 (V m)) r ∧ r.2.sem = fun _ => 0) :=
  Pipeline.θ_run_frame_dma_shared (Q' := _) cfgs (dats m) (0 : Fin 1) launch₀0 osem defs₀ Variants.none ownSemFacts HW HW_sub m ρ main
    (hbody := fun c => (body_obligation m c).loose) (hq := fun _ _ _ => rfl)
    (howed := fun _ _ => rfl) (V := V m) (hmain := hmainD m Variants.none) (hA := A_eq m)
    (hin := hin m) (hout := hout m)

set_option maxHeartbeats 1600000 in
/-- Every execution ends with the two results at what the points wrote, the arguments unchanged and every counter at zero. -/
theorem run : θ_run defs (onTc (τ := τ) (main (F := F))) ⟨m, fun _ => 0, ρ⟩ (fun r => (∀ c : Dev nD,
      r.2.mem ((c.tc : Thread nD τ).loc main_v42_0) = (dats m 0 c).arrAt 16 cfg0.N
      ∧ r.2.mem ((c.tc : Thread nD τ).loc main_v42_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(h.1 c).1 16, (h.1 c).1 17, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 7).trans (((dats m 0 c).arrAt_in 7 rfl _).trans ((A_eq m c 7).trans (V_main_arg4 m c))),
      ((h.1 c).2 main_arg5 (Pipeline.mem_restRefs_of main_arg5 (by decide) (by decide))).trans (V_main_arg5 m c),
      ((h.1 c).1 9).trans (((dats m 0 c).arrAt_in 9 rfl _).trans ((A_eq m c 9).trans (V_main_arg6 m c))),
      ((h.1 c).1 10).trans (((dats m 0 c).arrAt_in 10 rfl _).trans ((A_eq m c 10).trans (V_main_arg7 m c))),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩) (run_merge m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => (h.1 c).2.2, h.2⟩) (run m ρ)

end Cert.Kernel3Ideal.Merge

end
-- ==== Proof.MergeModel.lean ====
/-  What the merge call computes, row by row, over the extended reals. -/
module

public import proofs.«01_k».proof.Proof.ValModel

@[expose] public section

noncomputable section

namespace Cert.Merge

open Idealize.ShloMosaic Idealize.ShloMosaic.TcCoe Cert.Proj

/-- The mean of a head's 256 lanes, from their sum. -/
def mean256 (s : EReal) : EReal := Ideal.div s (Ideal.ofBits .f32 0x43800000#32)

/-- The reciprocal root of a head's mean square, from its sum of squares. -/
def rsq256 (s : EReal) : EReal :=
  FloatOps.rsqrt (F := Ideal) (φ := .f32) (mean256 s + Ideal.ofBits .f32 0x358637BD#32)

/-- One lane of a head over the root of its mean square. -/
def rmsHead (s : Fin 256 → EReal) (j : Fin 256) : EReal := s j * rsq256 (∑ k : Fin 256, s k * s k)

/-- One lane of a head, its mean taken off and over the root of its variance. -/
def normHead (s : Fin 256 → EReal) (j : Fin 256) : EReal :=
  (s j - mean256 (∑ k : Fin 256, s k))
    * rsq256 (∑ k : Fin 256, (s k - mean256 (∑ k : Fin 256, s k)) * (s k - mean256 (∑ k : Fin 256, s k)))

/-- The head of 256 lanes column `i` lies in, and the column's lane. -/
def headOf (o : Fin 1024 → EReal) (i : Fin 1024) : Fin 256 → EReal := fun k => o ⟨i.val / 256 * 256 + k.val, by omega⟩
def laneOf (i : Fin 1024) : Fin 256 := ⟨i.val % 256, Nat.mod_lt _ (by decide)⟩

/-- The logistic function, as one over one plus the exponential of the negative. -/
def sigm (g : EReal) : EReal := Ideal.div 1 (1 + FloatOps.exp (F := Ideal) (φ := .f32) (-g))

/-- The first branch's row: its heads over their root mean squares, scaled and gated. -/
def glaRow (o gn g : Fin 1024 → EReal) (i : Fin 1024) : EReal := rmsHead (headOf o i) (laneOf i) * gn i * (g i * sigm (g i))

/-- The second branch's row: its heads normalised and gated. -/
def retRow (o g : Fin 1024 → EReal) (i : Fin 1024) : EReal := normHead (headOf o i) (laneOf i) * (g i * sigm (g i))

/-- The two branches, each through its weights, mixed by their gates. -/
def mixRow (og or mg mr : Fin 1024 → EReal) (wg wr : Fin 1024 → Fin 1024 → EReal) (i : Fin 1024) : EReal :=
  sigm (mg i) * dot1 og (fun k => wg k i) + sigm (mr i) * dot1 or (fun k => wr k i)

/-- The residual row. -/
def resRow (x g1 y : Fin 1024 → EReal) (wo : Fin 1024 → Fin 1024 → EReal) (i : Fin 1024) : EReal :=
  x i + g1 i * dot1 y (fun k => wo k i)

/-- The residual row over its root mean square, scaled and shifted. -/
def featRow (h a sh : Fin 1024 → EReal) (i : Fin 1024) : EReal := h i * rsq (∑ j : Fin 1024, h j * h j) * a i + sh i

/-- The residual row from everything it is made of. -/
def mergeRow (o gn gg r rg mg mr x g1 : Fin 1024 → EReal) (wg wr wo : Fin 1024 → Fin 1024 → EReal) : Fin 1024 → EReal :=
  resRow x g1 (mixRow (glaRow o gn gg) (retRow r rg) mg mr wg wr) wo

end Cert.Merge

end
-- ==== Proof.MergePay.lean ====
/-  The merge call's row groups read entry by entry: each half of a point's 512 rows is the model's rows. -/
module

public import proofs.«01_k».proof.Proof.MergeModel
public import proofs.«01_k».proof.Proof.Gen.Kernel3Ideal.Skeleton
public import Idealize.ShloMosaic.Lib.Pipeline.ValueKit
public import Idealize.ShloMosaic.Lib.Pointwise

@[expose] public section

set_option maxRecDepth 16384

noncomputable section

namespace Cert.Kernel3Ideal.Merge

open Cert.Kernel3Ideal.Gen Cert.Merge Cert.Proj
open Idealize.ShloMosaic Idealize.ShloMosaic.TcCoe Idealize.ShloMosaic.Tactic

/-! ## One head -/

theorem pay13_apply (s : FVec Ideal S256x256 .f32) (r j : Fin 256) : k0_pay13 s (ix2 r j) = rmsHead (fun k => s (ix2 r k)) j := by
  pointwise [k0_pay13, rmsHead, rsq256, mean256]

theorem pay10_apply (a b : Vec Ideal S256x1024 .bf16) (r j : Fin 256) :
    k0_pay10 a b (ix2 r j) = rmsHead (fun k => a (ix2 r ⟨k.val, by omega⟩) + b (ix2 r ⟨k.val, by omega⟩)) j := by
  pointwise [k0_pay10, k0_pay8, rmsHead, rsq256, mean256]

theorem pay12_apply (a b : Vec Ideal S256x1024 .bf16) (r j : Fin 256) :
    k0_pay12 a b (ix2 r j) = a (ix2 r ⟨256 + j.val, by omega⟩) + b (ix2 r ⟨256 + j.val, by omega⟩) := by
  pointwise [k0_pay12, k0_pay8]

theorem pay15_apply (v : FVec Ideal S256x1024 .f32) (r j : Fin 256) :
    k0_pay15 v (ix2 r j) = rmsHead (fun k => v (ix2 r ⟨512 + k.val, by omega⟩)) j := by
  pointwise [k0_pay15, rmsHead, rsq256, mean256]

theorem pay11_apply (a b : Vec Ideal S256x1024 .bf16) (r j : Fin 256) :
    k0_pay11 a b (ix2 r j) = normHead (fun k => a (ix2 r ⟨k.val, by omega⟩) + b (ix2 r ⟨k.val, by omega⟩)) j := by
  pointwise [k0_pay11, k0_pay9, normHead, rsq256, mean256]

theorem pay14_apply (v : FVec Ideal S256x1024 .f32) (r j : Fin 256) :
    k0_pay14 v (ix2 r j) = normHead (fun k => v (ix2 r ⟨256 + k.val, by omega⟩)) j := by
  pointwise [k0_pay14, normHead, rsq256, mean256]

theorem pay18_apply (v : FVec Ideal S256x1024 .f32) (r j : Fin 256) :
    k0_pay18 (k0_pay16 v) (k0_pay17 v) (ix2 r j) = normHead (fun k => v (ix2 r ⟨512 + k.val, by omega⟩)) j := by
  pointwise [k0_pay18, k0_pay16, k0_pay17, normHead, rsq256, mean256]

theorem pay19_apply (v : FVec Ideal S256x1024 .f32) (r j : Fin 256) :
    k0_pay19 v (ix2 r j) = normHead (fun k => v (ix2 r ⟨768 + k.val, by omega⟩)) j := by
  pointwise [k0_pay19, normHead, rsq256, mean256]

theorem pay8_apply (a b : Vec Ideal S256x1024 .bf16) (r : Fin 256) (i : Fin 1024) : k0_pay8 a b (ix2 r i) = a (ix2 r i) + b (ix2 r i) := by
  pointwise [k0_pay8]

theorem pay9_apply (a b : Vec Ideal S256x1024 .bf16) (r : Fin 256) (i : Fin 1024) : k0_pay9 a b (ix2 r i) = a (ix2 r i) + b (ix2 r i) := by
  pointwise [k0_pay9]

/-- Four heads side by side are the head and lane of each column. -/
theorem heads_ladder (H : (Fin 256 → EReal) → Fin 256 → EReal) (o : Fin 1024 → EReal) (i : Fin 1024) :
    (if h0 : i.val < 256 then H (fun k => o ⟨k.val, by omega⟩) ⟨i.val, h0⟩
      else if h1 : i.val - 256 < 256 then H (fun k => o ⟨256 + k.val, by omega⟩) ⟨i.val - 256, h1⟩
      else if h2 : i.val - 256 - 256 < 256 then H (fun k => o ⟨512 + k.val, by omega⟩) ⟨i.val - 256 - 256, h2⟩
      else H (fun k => o ⟨768 + k.val, by omega⟩) ⟨i.val - 256 - 256 - 256, by omega⟩) = H (headOf o i) (laneOf i) := by
  unfold headOf laneOf
  by_cases h0 : i.val < 256
  · simp only [h0, ↓reduceDIte, show i.val / 256 = 0 from by omega, show i.val % 256 = i.val from by omega, Nat.zero_mul, Nat.zero_add]
  by_cases h1 : i.val - 256 < 256
  · simp only [h0, h1, ↓reduceDIte, show i.val / 256 = 1 from by omega, show i.val % 256 = i.val - 256 from by omega, Nat.one_mul]
  by_cases h2 : i.val - 256 - 256 < 256
  · simp only [h0, h1, h2, ↓reduceDIte, show i.val / 256 = 2 from by omega, show i.val % 256 = i.val - 256 - 256 from by omega, Nat.reduceMul]
  · simp only [h0, h1, h2, ↓reduceDIte, show i.val / 256 = 3 from by omega, show i.val % 256 = i.val - 256 - 256 - 256 from by omega, Nat.reduceMul]

/-! ## The first half's branches -/

/-- The first branch's heads, scaled. -/
def glaHeads (gf gb : Vec Ideal S256x1024 .bf16) (gn : Vec Ideal S1x1024 .f32) : FVec Ideal S256x1024 .bf16 :=
  k0_pay20 (k0_pay8 gf gb) (k0_pay10 gf gb) (k0_pay13 (k0_pay12 gf gb)) (k0_pay15 (k0_pay8 gf gb)) gn

theorem glaHeads_apply (gf gb : Vec Ideal S256x1024 .bf16) (gn : Vec Ideal S1x1024 .f32) (r : Fin 256) (i : Fin 1024) :
    glaHeads gf gb gn (ix2 r i) = rmsHead (headOf (fun j => gf (ix2 r j) + gb (ix2 r j)) i) (laneOf i) * gn (ix2 0 i) := by
  refine Eq.trans ?_ (congrArg (· * gn (ix2 0 i)) (heads_ladder rmsHead (fun j => gf (ix2 r j) + gb (ix2 r j)) i))
  pointwise [glaHeads, k0_pay20, pay10_apply, pay12_apply, pay13_apply, pay15_apply, pay8_apply, rmsHead, rsq256, mean256]

/-- The first branch through its weights. -/
def glaOut (gf gb gg : Vec Ideal S256x1024 .bf16) (gn : Vec Ideal S1x1024 .f32) (wg : Vec Ideal S1024x1024 .bf16) : FVec Ideal S256x1024 .f32 :=
  k0_pay22 (glaHeads gf gb gn) gg k0_pay21 wg

theorem glaOut_apply (gf gb gg : Vec Ideal S256x1024 .bf16) (gn : Vec Ideal S1x1024 .f32) (wg : Vec Ideal S1024x1024 .bf16) (r : Fin 256) (i : Fin 1024) :
    glaOut gf gb gg gn wg (ix2 r i)
      = dot1 (glaRow (fun j => gf (ix2 r j) + gb (ix2 r j)) (fun j => gn (ix2 0 j)) (fun j => gg (ix2 r j))) (fun k => wg (ix2 k i)) := by
  pointwise [glaOut, k0_pay22, k0_pay21, glaHeads_apply, glaRow, dot1, sigm]
  simp only [sub_eq_add_neg, zero_add]

/-- The second branch through its weights. -/
def retOut (rf rb rg : Vec Ideal S256x1024 .bf16) (wr : Vec Ideal S1024x1024 .bf16) : FVec Ideal S256x1024 .f32 :=
  k0_pay23 (k0_pay11 rf rb) (k0_pay14 (k0_pay9 rf rb)) (k0_pay18 (k0_pay16 (k0_pay9 rf rb)) (k0_pay17 (k0_pay9 rf rb))) (k0_pay19 (k0_pay9 rf rb)) rg wr

theorem retOut_apply (rf rb rg : Vec Ideal S256x1024 .bf16) (wr : Vec Ideal S1024x1024 .bf16) (r : Fin 256) (i : Fin 1024) :
    retOut rf rb rg wr (ix2 r i)
      = dot1 (retRow (fun j => rf (ix2 r j) + rb (ix2 r j)) (fun j => rg (ix2 r j))) (fun k => wr (ix2 k i)) := by
  pointwise [retOut, k0_pay23, pay11_apply, pay14_apply, pay18_apply, pay19_apply, pay9_apply, retRow, dot1, sigm]
  simp only [← heads_ladder, sub_eq_add_neg, zero_add]

/-- The residual rows of the first half. -/
def resHalf (gf gb rf rb gg rg mg mr : Vec Ideal S256x1024 .bf16) (gn : Vec Ideal S1x1024 .f32) (wg wr wo : Vec Ideal S1024x1024 .bf16)
    (x : Vec Ideal S256x1024 .f32) (g1 : Vec Ideal S1x1x1024 .f32) : FVec Ideal S256x1024 .f32 :=
  k0_pay46 (k0_pay43 (glaOut gf gb gg gn wg) (retOut rf rb rg wr) mg mr wo) x g1

theorem resHalf_apply (gf gb rf rb gg rg mg mr : Vec Ideal S256x1024 .bf16) (gn : Vec Ideal S1x1024 .f32) (wg wr wo : Vec Ideal S1024x1024 .bf16)
    (x : Vec Ideal S256x1024 .f32) (g1 : Vec Ideal S1x1x1024 .f32) (r : Fin 256) (i : Fin 1024) :
    resHalf gf gb rf rb gg rg mg mr gn wg wr wo x g1 (ix2 r i)
      = mergeRow (fun j => gf (ix2 r j) + gb (ix2 r j)) (fun j => gn (ix2 0 j)) (fun j => gg (ix2 r j)) (fun j => rf (ix2 r j) + rb (ix2 r j)) (fun j => rg (ix2 r j))
          (fun j => mg (ix2 r j)) (fun j => mr (ix2 r j)) (fun j => x (ix2 r j)) (fun j => g1 (ix3 0 0 j))
          (fun k i => wg (ix2 k i)) (fun k i => wr (ix2 k i)) (fun k i => wo (ix2 k i)) i := by
  pointwise [resHalf, k0_pay46, k0_pay43, glaOut_apply, retOut_apply, mergeRow, resRow, mixRow, dot1, sigm]
  simp only [sub_eq_add_neg, zero_add]

/-- The features of the first half, from its residual rows. -/
theorem feat0_apply (v329 : FVec Ideal S256x1024 .f32) (x : Vec Ideal S256x1024 .f32) (g1 a sh : Vec Ideal S1x1x1024 .f32) (r : Fin 256) (i : Fin 1024) :
    k0_pay49 (k0_pay47 v329 x g1 a) (k0_pay48 sh) (ix2 r i)
      = featRow (fun j => k0_pay46 v329 x g1 (ix2 r j)) (fun j => a (ix3 0 0 j)) (fun j => sh (ix3 0 0 j)) i := by
  pointwise [k0_pay49, k0_pay47, k0_pay48, k0_pay46, featRow, rsq]

/-- and of the second. -/
theorem feat1_apply (v352 : FVec Ideal S256x1024 .f32) (x : Vec Ideal S256x1024 .f32) (g1 a sh : Vec Ideal S1x1x1024 .f32) (r : Fin 256) (i : Fin 1024) :
    k0_pay63 (k0_pay62 v352 x g1 a) sh (ix2 r i)
      = featRow (fun j => k0_pay61 v352 x g1 (ix2 r j)) (fun j => a (ix3 0 0 j)) (fun j => sh (ix3 0 0 j)) i := by
  pointwise [k0_pay63, k0_pay62, k0_pay61, featRow, rsq]

/-- The second half's rows are computed as the first's are, cut at other places. -/
theorem half1_eq (gf gb rf rb gg rg mg mr : Vec Ideal S256x1024 .bf16) (gn : Vec Ideal S1x1024 .f32) (wg wr wo : Vec Ideal S1024x1024 .bf16)
    (x : Vec Ideal S256x1024 .f32) (g1 : Vec Ideal S1x1x1024 .f32) :
    k0_pay61 (k0_pay45
      (k0_pay42 (k0_pay41 (k0_pay30 (k0_pay25 rf rb)) (k0_pay34 (k0_pay32 (k0_pay25 rf rb)) (k0_pay33 (k0_pay25 rf rb)) (Scalar.ofBits .f32 0x358637BD#32))
        (k0_pay36 (k0_pay25 rf rb)) (k0_pay38 (k0_pay25 rf rb)) (k0_pay39 (k0_pay25 rf rb)) (Scalar.ofBits .f32 0x43800000#32) rg) wr)
      (k0_pay44 (k0_pay40 (k0_pay29 (k0_pay26 gf gb) (k0_pay27 gf gb) k0_pay28) (k0_pay31 (k0_pay24 gf gb)) (k0_pay35 (k0_pay24 gf gb)) (k0_pay37 (k0_pay24 gf gb)) gn gg) wg mg)
      mr wo) x g1 = resHalf gf gb rf rb gg rg mg mr gn wg wr wo x g1 := rfl

end Cert.Kernel3Ideal.Merge

end
-- ==== Proof.MergeLists.lean ====
/-  The merge call's piece lists and loads, entry by entry. -/
module

public import proofs.«01_k».proof.Proof.RegMerge
public import proofs.«01_k».proof.Proof.MergePay
public import Idealize.ShloMosaic.Lib.WholeRead

@[expose] public section

set_option maxRecDepth 16384

noncomputable section

namespace Cert.Kernel3Ideal.Merge

open Cert.Kernel3Ideal.Gen Cert.Merge Cert.Proj
open Idealize.ShloMosaic Idealize.ShloMosaic.TcCoe Idealize.ShloMosaic.Tactic

/-! ## Piece lists at an index -/

/-- Two halves of a block of rows, the second stored last. -/
def halves (h0 h1 : FVec Ideal S256x1024 .f32) : List (View.Piece (Elt Ideal) S512x1024 .f32) :=
  [⟨Rect.unit (s := S512x1024) ![256, 0] S256x1024.size inb_S512x1024_S256x1024_256_0, h1⟩,
   ⟨Rect.unit (s := S512x1024) ![0, 0] S256x1024.size inb_S512x1024_S256x1024_0_0, h0⟩]

theorem cover_halves (h0 h1 : FVec Ideal S256x1024 .f32) : ∀ y, ∃ p ∈ halves h0 h1, y ∈ p.1.set :=
  View.cover_of_tiledL _ S256x1024.size (by sl_kernel_rfl)

theorem halves_apply (h0 h1 : FVec Ideal S256x1024 .f32) (H : Fin 512 → Fin 1024 → EReal)
    (e0 : ∀ (r : Fin 256) (i : Fin 1024), h0 (ix2 r i) = H ⟨r.val, by omega⟩ i)
    (e1 : ∀ (r : Fin 256) (i : Fin 1024), h1 (ix2 r i) = H ⟨256 + r.val, by omega⟩ i) (a : Fin 512) (i : Fin 1024) :
    View.canon (halves h0 h1) (ix2 a i) = H a i := by
  refine View.canon_apply_of_pieces (Val := Elt Ideal) (e := .f32) (S := S512x1024) (fun y => H (y 0) (y 1)) _ ?_ _ (cover_halves _ _ _)
  intro p hp x
  rw [show p.1.emb x = p.1.idx x from rfl]
  simp only [halves, List.mem_cons, List.not_mem_nil, or_false] at hp
  rcases hp with rfl | rfl
  all_goals
    obtain ⟨a, b, rfl⟩ : ∃ (a : Fin 256) (b : Fin 1024), x = ix2 a b := ⟨x 0, x 1, eq_ix2 x⟩
  · refine (e1 a b).trans (congrArg₂ H (Fin.ext ?_) (Fin.ext ?_))
    · show 256 + a.val = 256 + 1 * a.val; omega
    · show b.val = 0 + 1 * b.val; omega
  · refine (e0 a b).trans (congrArg₂ H (Fin.ext ?_) (Fin.ext ?_))
    · show a.val = 0 + 1 * a.val; omega
    · show b.val = 0 + 1 * b.val; omega

/-- The sixteen strips of a block's two halves of features, as the body stores them. -/
def featStrips (f0 f1 : FVec Ideal S256x1024 .f32) : List (View.Piece (Elt Ideal) S4096x128 .f32) :=
  [⟨strip 2048 7 inb_S4096x128_S2048x128_2048_0 inb_S2048x128_S256x128_7_0_s_8_1, extractStridedSlice S256x128 ![0, 896] f1 slices_S256x1024_o0_896_S256x128⟩,
   ⟨strip 2048 6 inb_S4096x128_S2048x128_2048_0 inb_S2048x128_S256x128_6_0_s_8_1, extractStridedSlice S256x128 ![0, 768] f1 slices_S256x1024_o0_768_S256x128⟩,
   ⟨strip 2048 5 inb_S4096x128_S2048x128_2048_0 inb_S2048x128_S256x128_5_0_s_8_1, extractStridedSlice S256x128 ![0, 640] f1 slices_S256x1024_o0_640_S256x128⟩,
   ⟨strip 2048 4 inb_S4096x128_S2048x128_2048_0 inb_S2048x128_S256x128_4_0_s_8_1, extractStridedSlice S256x128 ![0, 512] f1 slices_S256x1024_o0_512_S256x128⟩,
   ⟨strip 2048 3 inb_S4096x128_S2048x128_2048_0 inb_S2048x128_S256x128_3_0_s_8_1, extractStridedSlice S256x128 ![0, 384] f1 slices_S256x1024_o0_384_S256x128⟩,
   ⟨strip 2048 2 inb_S4096x128_S2048x128_2048_0 inb_S2048x128_S256x128_2_0_s_8_1, extractStridedSlice S256x128 ![0, 256] f1 slices_S256x1024_o0_256_S256x128⟩,
   ⟨strip 2048 1 inb_S4096x128_S2048x128_2048_0 inb_S2048x128_S256x128_1_0_s_8_1, extractStridedSlice S256x128 ![0, 128] f1 slices_S256x1024_o0_128_S256x128⟩,
   ⟨strip 2048 0 inb_S4096x128_S2048x128_2048_0 inb_S2048x128_S256x128_0_0_s_8_1, extractStridedSlice S256x128 ![0, 0] f1 slices_S256x1024_o0_0_S256x128⟩,
   ⟨strip 0 7 inb_S4096x128_S2048x128_0_0 inb_S2048x128_S256x128_7_0_s_8_1, extractStridedSlice S256x128 ![0, 896] f0 slices_S256x1024_o0_896_S256x128⟩,
   ⟨strip 0 6 inb_S4096x128_S2048x128_0_0 inb_S2048x128_S256x128_6_0_s_8_1, extractStridedSlice S256x128 ![0, 768] f0 slices_S256x1024_o0_768_S256x128⟩,
   ⟨strip 0 5 inb_S4096x128_S2048x128_0_0 inb_S2048x128_S256x128_5_0_s_8_1, extractStridedSlice S256x128 ![0, 640] f0 slices_S256x1024_o0_640_S256x128⟩,
   ⟨strip 0 4 inb_S4096x128_S2048x128_0_0 inb_S2048x128_S256x128_4_0_s_8_1, extractStridedSlice S256x128 ![0, 512] f0 slices_S256x1024_o0_512_S256x128⟩,
   ⟨strip 0 3 inb_S4096x128_S2048x128_0_0 inb_S2048x128_S256x128_3_0_s_8_1, extractStridedSlice S256x128 ![0, 384] f0 slices_S256x1024_o0_384_S256x128⟩,
   ⟨strip 0 2 inb_S4096x128_S2048x128_0_0 inb_S2048x128_S256x128_2_0_s_8_1, extractStridedSlice S256x128 ![0, 256] f0 slices_S256x1024_o0_256_S256x128⟩,
   ⟨strip 0 1 inb_S4096x128_S2048x128_0_0 inb_S2048x128_S256x128_1_0_s_8_1, extractStridedSlice S256x128 ![0, 128] f0 slices_S256x1024_o0_128_S256x128⟩,
   ⟨strip 0 0 inb_S4096x128_S2048x128_0_0 inb_S2048x128_S256x128_0_0_s_8_1, extractStridedSlice S256x128 ![0, 0] f0 slices_S256x1024_o0_0_S256x128⟩]

/-- Row `R` of a block of features is strip `R % 8` of token `R / 8`. -/
abbrev featAt (H : Fin 512 → Fin 1024 → EReal) (R : Fin 4096) (l : Fin 128) : EReal :=
  H ⟨R.val / 8, by omega⟩ ⟨R.val % 8 * 128 + l.val, by omega⟩

theorem strip_apply (f : FVec Ideal S256x1024 .f32) (H : Fin 512 → Fin 1024 → EReal) (q o : ℕ) (hq : q ≤ 256) (h8 : o < 8) (hb) (ho)
    (hs : S256x1024.Slices ![0, o * 128] S256x128)
    (e : ∀ (r : Fin 256) (i : Fin 1024), f (ix2 r i) = H ⟨q + r.val, by omega⟩ i) (x : (strip (8 * q) o hb ho).shape.Idx) :
    extractStridedSlice S256x128 ![0, o * 128] f hs x
      = featAt H ((strip (8 * q) o hb ho).idx x 0) ((strip (8 * q) o hb ho).idx x 1) := by
  obtain ⟨a, b, rfl⟩ : ∃ (a : Fin 256) (b : Fin 128), x = ix2 a b := ⟨x 0, x 1, eq_ix2 x⟩
  have e0 : ((strip (8 * q) o hb ho).idx (ix2 a b) 0).val = 8 * q + o + 8 * a.val := by
    show 8 * q + o + 8 * a.val = _; rfl
  have e1 : ((strip (8 * q) o hb ho).idx (ix2 a b) 1).val = b.val := by
    show 0 + 0 + 1 * b.val = _; omega
  refine Eq.trans ?_ ((e a ⟨o * 128 + b.val, by omega⟩).trans (congrArg₂ H (Fin.ext ?_) (Fin.ext ?_)))
  · refine congrArg f (funext fun k => Fin.ext ?_)
    match k with
    | ⟨0, _⟩ => show 0 + a.val = a.val; omega
    | ⟨1, _⟩ => rfl
  · show q + a.val = _ / 8; rw [e0]; omega
  · show o * 128 + b.val = _ % 8 * 128 + _; rw [e0, e1]; omega

theorem featStrips_apply (f0 f1 : FVec Ideal S256x1024 .f32) (H : Fin 512 → Fin 1024 → EReal)
    (e0 : ∀ (r : Fin 256) (i : Fin 1024), f0 (ix2 r i) = H ⟨r.val, by omega⟩ i)
    (e1 : ∀ (r : Fin 256) (i : Fin 1024), f1 (ix2 r i) = H ⟨256 + r.val, by omega⟩ i) (R : Fin 4096) (l : Fin 128) :
    View.canon (featStrips f0 f1) (ix2 R l) = featAt H R l := by
  refine View.canon_apply_of_pieces (Val := Elt Ideal) (e := .f32) (S := S4096x128) (fun y => featAt H (y 0) (y 1)) _ ?_ _
    (cover_of_strips _ rfl _)
  intro p hp x
  rw [show p.1.emb x = p.1.idx x from rfl]
  have e0' : ∀ (r : Fin 256) (i : Fin 1024), f0 (ix2 r i) = H ⟨0 + r.val, by omega⟩ i :=
    fun r i => (e0 r i).trans (congrArg (fun z => H z i) (Fin.ext (Nat.zero_add _).symm))
  simp only [featStrips, List.mem_cons, List.not_mem_nil, or_false] at hp
  rcases hp with rfl | rfl | rfl | rfl | rfl | rfl | rfl | rfl | rfl | rfl | rfl | rfl | rfl | rfl | rfl | rfl
  · exact strip_apply f1 H 256 7 (by omega) (by omega) _ _ slices_S256x1024_o0_896_S256x128 e1 x
  · exact strip_apply f1 H 256 6 (by omega) (by omega) _ _ slices_S256x1024_o0_768_S256x128 e1 x
  · exact strip_apply f1 H 256 5 (by omega) (by omega) _ _ slices_S256x1024_o0_640_S256x128 e1 x
  · exact strip_apply f1 H 256 4 (by omega) (by omega) _ _ slices_S256x1024_o0_512_S256x128 e1 x
  · exact strip_apply f1 H 256 3 (by omega) (by omega) _ _ slices_S256x1024_o0_384_S256x128 e1 x
  · exact strip_apply f1 H 256 2 (by omega) (by omega) _ _ slices_S256x1024_o0_256_S256x128 e1 x
  · exact strip_apply f1 H 256 1 (by omega) (by omega) _ _ slices_S256x1024_o0_128_S256x128 e1 x
  · exact strip_apply f1 H 256 0 (by omega) (by omega) _ _ slices_S256x1024_o0_0_S256x128 e1 x
  · exact strip_apply f0 H 0 7 (by omega) (by omega) _ _ slices_S256x1024_o0_896_S256x128 e0' x
  · exact strip_apply f0 H 0 6 (by omega) (by omega) _ _ slices_S256x1024_o0_768_S256x128 e0' x
  · exact strip_apply f0 H 0 5 (by omega) (by omega) _ _ slices_S256x1024_o0_640_S256x128 e0' x
  · exact strip_apply f0 H 0 4 (by omega) (by omega) _ _ slices_S256x1024_o0_512_S256x128 e0' x
  · exact strip_apply f0 H 0 3 (by omega) (by omega) _ _ slices_S256x1024_o0_384_S256x128 e0' x
  · exact strip_apply f0 H 0 2 (by omega) (by omega) _ _ slices_S256x1024_o0_256_S256x128 e0' x
  · exact strip_apply f0 H 0 1 (by omega) (by omega) _ _ slices_S256x1024_o0_128_S256x128 e0' x
  · exact strip_apply f0 H 0 0 (by omega) (by omega) _ _ slices_S256x1024_o0_0_S256x128 e0' x

/-! ## Loads -/

/-- A half of a block's rows as the body loads it. -/
def half {e : EltTy} (o : ℕ) (inb : ∀ a, (![o, 0] : Fin 2 → ℕ) a + S256x1024.size a ≤ S512x1024.size a) (M : Memref sig .tc .vmem S512x1024 e) (hM : M.IsWhole)
    (x : Vec Ideal S512x1024 e) : Vec Ideal S256x1024 e :=
  View.readAt (Elt Ideal) M.view (Rect.unit (s := S512x1024) ![o, 0] S256x1024.size inb).toLoadRect (hM.unread x)

theorem half_apply {e : EltTy} (o : ℕ) (inb) (M : Memref sig .tc .vmem S512x1024 e) (hM : M.IsWhole)
    (x : Vec Ideal S512x1024 e) (ho : o ≤ 256) (r : Fin 256) (j : Fin 1024) : half o inb M hM x (ix2 r j) = x (ix2 ⟨o + r.val, by omega⟩ j) := by
  refine (hM.readAt_unread x (Rect.unit (s := S512x1024) ![o, 0] S256x1024.size inb).toLoadRect (ix2 r j)).trans (congrArg x (funext fun a => Fin.ext ?_))
  match a with
  | ⟨0, _⟩ => show o + 1 * r.val = o + r.val; omega
  | ⟨1, _⟩ => show 0 + 1 * j.val = j.val; omega

/-- A row with two unit axes, and one with one, as the body loads them. -/
def row3 (M : Memref sig .tc .vmem S1x1x1024 .f32) (hM : M.IsWhole) (x : Vec Ideal S1x1x1024 .f32) : Vec Ideal S1x1x1024 .f32 :=
  View.readAt (Elt Ideal) M.view (Rect.unit (s := S1x1x1024) ![0, 0, 0] S1x1x1024.size inb_S1x1x1024_S1x1x1024_0_0_0).toLoadRect (hM.unread x)
def row2 (M : Memref sig .tc .vmem S1x1024 .f32) (hM : M.IsWhole) (x : Vec Ideal S1x1024 .f32) : Vec Ideal S1x1024 .f32 :=
  View.readAt (Elt Ideal) M.view (Rect.unit (s := S1x1024) ![0, 0] S1x1024.size inb_S1x1024_S1x1024_0_0).toLoadRect (hM.unread x)

theorem row3_apply (M : Memref sig .tc .vmem S1x1x1024 .f32) (hM : M.IsWhole) (x : Vec Ideal S1x1x1024 .f32) (j : Fin 1024) :
    row3 M hM x (ix3 0 0 j) = x (ix3 0 0 j) := by
  refine (hM.readAt_unread x (Rect.unit (s := S1x1x1024) ![0, 0, 0] S1x1x1024.size inb_S1x1x1024_S1x1x1024_0_0_0).toLoadRect (ix3 0 0 j)).trans (congrArg x (funext fun a => Fin.ext ?_))
  match a with
  | ⟨0, _⟩ => rfl
  | ⟨1, _⟩ => rfl
  | ⟨2, _⟩ => show 0 + 1 * j.val = j.val; omega
theorem row2_apply (M : Memref sig .tc .vmem S1x1024 .f32) (hM : M.IsWhole) (x : Vec Ideal S1x1024 .f32) (j : Fin 1024) :
    row2 M hM x (ix2 0 j) = x (ix2 0 j) := by
  refine (hM.readAt_unread x (Rect.unit (s := S1x1024) ![0, 0] S1x1024.size inb_S1x1024_S1x1024_0_0).toLoadRect (ix2 0 j)).trans (congrArg x (funext fun a => Fin.ext ?_))
  match a with
  | ⟨0, _⟩ => rfl
  | ⟨1, _⟩ => show 0 + 1 * j.val = j.val; omega

/-- The whole of a square of weights. -/
abbrev sq : Rect S1024x1024 := Rect.unit (s := S1024x1024) ![0, 0] S1024x1024.size inb_S1024x1024_S1024x1024_0_0

theorem sq_idx (k i : Fin 1024) : sq.toLoadRect.idx (ix2 k i) = ix2 k i := by
  refine funext fun a => Fin.ext ?_
  match a with
  | ⟨0, _⟩ => show 0 + 1 * k.val = k.val; omega
  | ⟨1, _⟩ => show 0 + 1 * i.val = i.val; omega

/-- A square loaded after stores is what they left. -/
theorem readCov_sq {e : EltTy} (M : Memref sig .tc .vmem S1024x1024 e) (L : List (View.Piece (Elt Ideal) S1024x1024 e)) (k i : Fin 1024) :
    M.view.readCov L sq.toLoadRect (ix2 k i) = View.canon L (ix2 k i) :=
  (congrFun (View.readCov_eq_canon' M.view L sq.toLoadRect) (ix2 k i)).trans (congrArg (View.canon L) (sq_idx k i))

/-! ## The weights in scratch -/

/-- A square copied in, rounded and kept is the square. -/
theorem kept_apply (P : Vec Ideal S1024x1024 .f32 → Vec Ideal S1024x1024 .bf16) (hP : ∀ a k i, P a (ix2 k i) = a (ix2 k i))
    (w : Vec Ideal S1024x1024 .f32) (L : List (View.Piece (Elt Ideal) S1024x1024 .f32)) (k i : Fin 1024) :
    View.canon [(⟨sq, P (sc3.view.readCov (⟨Rect.whole S1024x1024, w⟩ :: L) sq.toLoadRect)⟩ : View.Piece (Elt Ideal) S1024x1024 .bf16)] (ix2 k i) = w (ix2 k i) := by
  have h1 := View.canon_cons_emb (Val := Elt Ideal) sq (P (sc3.view.readCov (⟨Rect.whole S1024x1024, w⟩ :: L) sq.toLoadRect)) [] (ix2 k i)
  rw [show sq.emb (ix2 k i) = ix2 k i from sq_idx k i] at h1
  refine h1.trans ((hP _ k i).trans ?_)
  rw [View.readCov_eq_canon']
  have h2 := View.canon_cons_emb (Val := Elt Ideal) (Rect.whole S1024x1024) w L (ix2 k i)
  have h3 : (Rect.whole S1024x1024).emb (ix2 k i) = ix2 k i := by
    refine funext fun a => Fin.ext ?_
    match a with
    | ⟨0, _⟩ => show 0 + 1 * k.val = k.val; omega
    | ⟨1, _⟩ => show 0 + 1 * i.val = i.val; omega
  rw [h3] at h2
  show View.canon _ (sq.toLoadRect.idx (ix2 k i)) = _
  rw [sq_idx]
  exact h2

/-- The weights as a later point loads them. -/
def reload (M : Memref sig .tc .vmem S1024x1024 .bf16) (hM : M.IsWhole) (w : Vec Ideal S1024x1024 .bf16) : Vec Ideal S1024x1024 .bf16 :=
  View.readAt (Elt Ideal) M.view sq.toLoadRect (hM.unread w)
theorem reload_at (M : Memref sig .tc .vmem S1024x1024 .bf16) (hM : M.IsWhole) (w : Vec Ideal S1024x1024 .bf16) (k i : Fin 1024) :
    reload M hM w (ix2 k i) = w (ix2 k i) := (hM.readAt_unread w sq.toLoadRect (ix2 k i)).trans (congrArg w (sq_idx k i))

end Cert.Kernel3Ideal.Merge

end
-- ==== Proof.MergeVal.lean ====
/-  The merge call's residual rows and features, point by point: what the body leaves in their buffers is the model's
    rows of the point's blocks. -/
module

public import proofs.«01_k».proof.Proof.MergeLists

@[expose] public section

set_option maxRecDepth 16384

noncomputable section

namespace Cert.Kernel3Ideal.Merge

open Cert.Kernel3Ideal.Gen Cert.Merge Cert.Proj
open Idealize.ShloMosaic Idealize.ShloMosaic.TcCoe Idealize.ShloMosaic.Tactic

variable (m : (ℓ : Loc nD τ sig) → Buf (Elt Ideal) ℓ) (c : Dev nD)

/-! ## A point's blocks and the weights, as vectors -/

abbrev b0 (t : Fin cfg0.N) : Vec Ideal S512x1024 .bf16 := iblk m c 0 t
abbrev b1 (t : Fin cfg0.N) : Vec Ideal S512x1024 .bf16 := iblk m c 1 t
abbrev b2 (t : Fin cfg0.N) : Vec Ideal S512x1024 .bf16 := iblk m c 2 t
abbrev b3 (t : Fin cfg0.N) : Vec Ideal S512x1024 .bf16 := iblk m c 3 t
abbrev b4 (t : Fin cfg0.N) : Vec Ideal S512x1024 .bf16 := iblk m c 4 t
abbrev b5 (t : Fin cfg0.N) : Vec Ideal S512x1024 .bf16 := iblk m c 5 t
abbrev b6 (t : Fin cfg0.N) : Vec Ideal S512x1024 .bf16 := iblk m c 6 t
abbrev b7 (t : Fin cfg0.N) : Vec Ideal S512x1024 .bf16 := iblk m c 7 t
abbrev b8 (t : Fin cfg0.N) : Vec Ideal S512x1024 .f32 := iblk m c 8 t
abbrev b9 (t : Fin cfg0.N) : Vec Ideal S1x1x1024 .f32 := iblk m c 9 t
abbrev b10 (t : Fin cfg0.N) : Vec Ideal S1x1x1024 .f32 := iblk m c 10 t
abbrev b11 (t : Fin cfg0.N) : Vec Ideal S1x1x1024 .f32 := iblk m c 11 t
abbrev b12 (t : Fin cfg0.N) : Vec Ideal S1x1024 .f32 := iblk m c 12 t
abbrev w0 : Vec Ideal S1024x1024 .f32 := V m c main_v35
abbrev w1 : Vec Ideal S1024x1024 .f32 := V m c main_v36
abbrev w2 : Vec Ideal S1024x1024 .f32 := V m c main_v37

/-! ## The weights in scratch -/

theorem wk0_apply (k i : Fin 1024) : wk0 m c (ix2 k i) = w0 m c (ix2 k i) := by
  unfold wk0
  dsimp only [resA, runA]
  exact kept_apply k0_pay5 (fun a k i => by pointwise [k0_pay5]) (w0 m c) [] k i
theorem wk1_apply (k i : Fin 1024) : wk1 m c (ix2 k i) = w1 m c (ix2 k i) := by
  unfold wk1
  dsimp only [resA, runA]
  exact kept_apply k0_pay6 (fun a k i => by pointwise [k0_pay6]) (w1 m c) _ k i
theorem wk2_apply (k i : Fin 1024) : wk2 m c (ix2 k i) = w2 m c (ix2 k i) := by
  unfold wk2
  dsimp only [resA, runA]
  exact kept_apply k0_pay7 (fun a k i => by pointwise [k0_pay7]) (w2 m c) _ k i

/-! ## The rows of a point -/

/-- The branches of a half, mixed and through the last weights; and its residual rows. -/
def mixHalf (o : ℕ) (inb : ∀ a, (![o, 0] : Fin 2 → ℕ) a + S256x1024.size a ≤ S512x1024.size a) (wg wr wo : Vec Ideal S1024x1024 .bf16) (t : Fin cfg0.N) : FVec Ideal S256x1024 .f32 :=
  k0_pay43 (glaOut (half o inb (ms0 t) (hs0 t) (b0 m c t)) (half o inb (ms1 t) (hs1 t) (b1 m c t)) (half o inb (ms4 t) (hs4 t) (b4 m c t)) (row2 (ms12 t) (hs12 t) (b12 m c t)) wg)
    (retOut (half o inb (ms2 t) (hs2 t) (b2 m c t)) (half o inb (ms3 t) (hs3 t) (b3 m c t)) (half o inb (ms5 t) (hs5 t) (b5 m c t)) wr)
    (half o inb (ms6 t) (hs6 t) (b6 m c t)) (half o inb (ms7 t) (hs7 t) (b7 m c t)) wo

def resHalfAt (o : ℕ) (inb : ∀ a, (![o, 0] : Fin 2 → ℕ) a + S256x1024.size a ≤ S512x1024.size a) (wg wr wo : Vec Ideal S1024x1024 .bf16) (t : Fin cfg0.N) : FVec Ideal S256x1024 .f32 :=
  k0_pay46 (mixHalf m c o inb wg wr wo t) (half o inb (ms8 t) (hs8 t) (b8 m c t)) (row3 (ms9 t) (hs9 t) (b9 m c t))

/-- and the features of the residual rows. -/
def featHalfAt (o : ℕ) (inb : ∀ a, (![o, 0] : Fin 2 → ℕ) a + S256x1024.size a ≤ S512x1024.size a) (wg wr wo : Vec Ideal S1024x1024 .bf16) (t : Fin cfg0.N) : FVec Ideal S256x1024 .f32 :=
  k0_pay49 (k0_pay47 (mixHalf m c o inb wg wr wo t) (half o inb (ms8 t) (hs8 t) (b8 m c t)) (row3 (ms9 t) (hs9 t) (b9 m c t)) (row3 (ms11 t) (hs11 t) (b11 m c t)))
    (k0_pay48 (row3 (ms10 t) (hs10 t) (b10 m c t)))

/-- The weights at the first point, as it reads them back. -/
abbrev wA0 (t : Fin cfg0.N) (h : t.val = 0) : Vec Ideal S1024x1024 .bf16 := sc0.view.readCov (resA m c t h).2.2.2.2.2.1 sq.toLoadRect
abbrev wA1 (t : Fin cfg0.N) (h : t.val = 0) : Vec Ideal S1024x1024 .bf16 := sc1.view.readCov (resA m c t h).2.2.2.2.2.2.1 sq.toLoadRect
abbrev wA2 (t : Fin cfg0.N) (h : t.val = 0) : Vec Ideal S1024x1024 .bf16 := sc2.view.readCov (resA m c t h).2.2.2.2.2.2.2.1 sq.toLoadRect

theorem resA_16 (t : Fin cfg0.N) (h : t.val = 0) : (resA m c t h).1
    = halves (resHalfAt m c 0 inb_S512x1024_S256x1024_0_0 (wA0 m c t h) (wA1 m c t h) (wA2 m c t h) t)
        (resHalfAt m c 256 inb_S512x1024_S256x1024_256_0 (wA0 m c t h) (wA1 m c t h) (wA2 m c t h) t) := by
  dsimp only [resA, runA]
  rfl

theorem resA_17 (t : Fin cfg0.N) (h : t.val = 0) : (resA m c t h).2.1
    = featStrips (featHalfAt m c 0 inb_S512x1024_S256x1024_0_0 (wA0 m c t h) (wA1 m c t h) (wA2 m c t h) t)
        (featHalfAt m c 256 inb_S512x1024_S256x1024_256_0 (wA0 m c t h) (wA1 m c t h) (wA2 m c t h) t) := by
  dsimp only [resA, runA]
  rfl

theorem resB_16 (t : Fin cfg0.N) (h : t.val ≠ 0) (xc : Vec Ideal S32x128 .i32) (w0 w1 w2 : Vec Ideal S1024x1024 .bf16) : (resB m c t h xc w0 w1 w2).1
    = halves (resHalfAt m c 0 inb_S512x1024_S256x1024_0_0 (reload sc0 (Memref.isWhole_whole _) w0) (reload sc1 (Memref.isWhole_whole _) w1) (reload sc2 (Memref.isWhole_whole _) w2) t)
        (resHalfAt m c 256 inb_S512x1024_S256x1024_256_0 (reload sc0 (Memref.isWhole_whole _) w0) (reload sc1 (Memref.isWhole_whole _) w1) (reload sc2 (Memref.isWhole_whole _) w2) t) := by
  dsimp only [resB, runB]
  rfl

theorem resB_17 (t : Fin cfg0.N) (h : t.val ≠ 0) (xc : Vec Ideal S32x128 .i32) (w0 w1 w2 : Vec Ideal S1024x1024 .bf16) : (resB m c t h xc w0 w1 w2).2.1
    = featStrips (featHalfAt m c 0 inb_S512x1024_S256x1024_0_0 (reload sc0 (Memref.isWhole_whole _) w0) (reload sc1 (Memref.isWhole_whole _) w1) (reload sc2 (Memref.isWhole_whole _) w2) t)
        (featHalfAt m c 256 inb_S512x1024_S256x1024_256_0 (reload sc0 (Memref.isWhole_whole _) w0) (reload sc1 (Memref.isWhole_whole _) w1) (reload sc2 (Memref.isWhole_whole _) w2) t) := by
  dsimp only [resB, runB]
  rfl

/-- The residual row of a token of a point's blocks, and its features. -/
def blockRow (t : Fin cfg0.N) (a : Fin 512) : Fin 1024 → EReal :=
  mergeRow (fun j => b0 m c t (ix2 a j) + b1 m c t (ix2 a j)) (fun j => b12 m c t (ix2 0 j))
    (fun j => b4 m c t (ix2 a j))
    (fun j => b2 m c t (ix2 a j) + b3 m c t (ix2 a j)) (fun j => b5 m c t (ix2 a j))
    (fun j => b6 m c t (ix2 a j)) (fun j => b7 m c t (ix2 a j))
    (fun j => b8 m c t (ix2 a j)) (fun j => b9 m c t (ix3 0 0 j))
    (fun k i => w0 m c (ix2 k i)) (fun k i => w1 m c (ix2 k i)) (fun k i => w2 m c (ix2 k i))
def blockFeat (t : Fin cfg0.N) (a : Fin 512) : Fin 1024 → EReal :=
  featRow (blockRow m c t a) (fun j => b11 m c t (ix3 0 0 j)) (fun j => b10 m c t (ix3 0 0 j))

theorem mergeRow_congr {o o' gn gn' gg gg' r r' rg rg' mg mg' mr mr' x x' g1 g1' : Fin 1024 → EReal} {wg wg' wr wr' wo wo' : Fin 1024 → Fin 1024 → EReal}
    (h0 : o = o') (h1 : gn = gn') (h2 : gg = gg') (h3 : r = r') (h4 : rg = rg') (h5 : mg = mg') (h6 : mr = mr') (h7 : x = x') (h8 : g1 = g1')
    (h9 : wg = wg') (h10 : wr = wr') (h11 : wo = wo') : mergeRow o gn gg r rg mg mr x g1 wg wr wo = mergeRow o' gn' gg' r' rg' mg' mr' x' g1' wg' wr' wo' := by
  subst h0 h1 h2 h3 h4 h5 h6 h7 h8 h9 h10 h11; rfl

section
variable (wg wr wo : Vec Ideal S1024x1024 .bf16)
  (hg : ∀ k i : Fin 1024, wg (ix2 k i) = w0 m c (ix2 k i)) (hr : ∀ k i : Fin 1024, wr (ix2 k i) = w1 m c (ix2 k i))
  (ho : ∀ k i : Fin 1024, wo (ix2 k i) = w2 m c (ix2 k i))
include hg hr ho

theorem resHalfAt_apply (o : ℕ) (inb : ∀ a, (![o, 0] : Fin 2 → ℕ) a + S256x1024.size a ≤ S512x1024.size a) (h : o ≤ 256) (t : Fin cfg0.N) (r : Fin 256) (i : Fin 1024) :
    resHalfAt m c o inb wg wr wo t (ix2 r i) = blockRow m c t ⟨o + r.val, by omega⟩ i := by
  refine (resHalf_apply _ _ _ _ _ _ _ _ _ _ _ _ _ _ r i).trans (congrFun (mergeRow_congr
    (funext fun j => congrArg₂ (· + ·) (half_apply o inb _ _ _ h r j) (half_apply o inb _ _ _ h r j)) (funext fun j => row2_apply _ _ _ j)
    (funext fun j => half_apply o inb _ _ _ h r j)
    (funext fun j => congrArg₂ (· + ·) (half_apply o inb _ _ _ h r j) (half_apply o inb _ _ _ h r j)) (funext fun j => half_apply o inb _ _ _ h r j)
    (funext fun j => half_apply o inb _ _ _ h r j) (funext fun j => half_apply o inb _ _ _ h r j) (funext fun j => half_apply o inb _ _ _ h r j)
    (funext fun j => row3_apply _ _ _ j) (funext fun k => funext fun i => hg k i) (funext fun k => funext fun i => hr k i)
    (funext fun k => funext fun i => ho k i)) i)

theorem featHalfAt_apply (o : ℕ) (inb : ∀ a, (![o, 0] : Fin 2 → ℕ) a + S256x1024.size a ≤ S512x1024.size a) (h : o ≤ 256) (t : Fin cfg0.N) (r : Fin 256) (i : Fin 1024) :
    featHalfAt m c o inb wg wr wo t (ix2 r i) = blockFeat m c t ⟨o + r.val, by omega⟩ i := by
  refine (feat0_apply _ _ _ _ _ r i).trans ?_
  have e : (fun j => k0_pay46 (mixHalf m c o inb wg wr wo t) (half o inb (ms8 t) (hs8 t) (b8 m c t)) (row3 (ms9 t) (hs9 t) (b9 m c t)) (ix2 r j))
      = blockRow m c t ⟨o + r.val, by omega⟩ := funext fun j => resHalfAt_apply m c wg wr wo hg hr ho o inb h t r j
  unfold blockFeat
  rw [← e]
  exact congrFun (congrArg₂ (featRow _) (funext fun j => row3_apply _ _ _ j) (funext fun j => row3_apply _ _ _ j)) i

theorem halvesAt_apply (t : Fin cfg0.N) (a : Fin 512) (i : Fin 1024) :
    View.canon (halves (resHalfAt m c 0 inb_S512x1024_S256x1024_0_0 wg wr wo t) (resHalfAt m c 256 inb_S512x1024_S256x1024_256_0 wg wr wo t)) (ix2 a i)
      = blockRow m c t a i :=
  halves_apply _ _ (blockRow m c t)
    (fun r i => (resHalfAt_apply m c wg wr wo hg hr ho 0 _ (by omega) t r i).trans (congrArg (fun z => blockRow m c t z i) (Fin.ext (Nat.zero_add _))))
    (fun r i => resHalfAt_apply m c wg wr wo hg hr ho 256 _ (by omega) t r i) a i

theorem stripsAt_apply (t : Fin cfg0.N) (R : Fin 4096) (l : Fin 128) :
    View.canon (featStrips (featHalfAt m c 0 inb_S512x1024_S256x1024_0_0 wg wr wo t) (featHalfAt m c 256 inb_S512x1024_S256x1024_256_0 wg wr wo t)) (ix2 R l)
      = featAt (blockFeat m c t) R l :=
  featStrips_apply _ _ (blockFeat m c t)
    (fun r i => (featHalfAt_apply m c wg wr wo hg hr ho 0 _ (by omega) t r i).trans (congrArg (fun z => blockFeat m c t z i) (Fin.ext (Nat.zero_add _))))
    (fun r i => featHalfAt_apply m c wg wr wo hg hr ho 256 _ (by omega) t r i) R l
end

theorem wA0_apply (t : Fin cfg0.N) (h : t.val = 0) (k i : Fin 1024) : wA0 m c t h (ix2 k i) = w0 m c (ix2 k i) := by
  obtain rfl : t = t0 := Fin.ext h
  exact (readCov_sq sc0 _ k i).trans (wk0_apply m c k i)
theorem wA1_apply (t : Fin cfg0.N) (h : t.val = 0) (k i : Fin 1024) : wA1 m c t h (ix2 k i) = w1 m c (ix2 k i) := by
  obtain rfl : t = t0 := Fin.ext h
  exact (readCov_sq sc1 _ k i).trans (wk1_apply m c k i)
theorem wA2_apply (t : Fin cfg0.N) (h : t.val = 0) (k i : Fin 1024) : wA2 m c t h (ix2 k i) = w2 m c (ix2 k i) := by
  obtain rfl : t = t0 := Fin.ext h
  exact (readCov_sq sc2 _ k i).trans (wk2_apply m c k i)

/-- The residual rows a point leaves are the model's. -/
theorem out16_apply (t : Fin cfg0.N) (a : Fin 512) (i : Fin 1024) : out16 m c t (ix2 a i) = blockRow m c t a i := by
  unfold out16
  split
  · next h => rw [resA_16]; exact halvesAt_apply m c _ _ _ (wA0_apply m c t h) (wA1_apply m c t h) (wA2_apply m c t h) t a i
  · next h =>
    rw [resB_16]
    exact halvesAt_apply m c _ _ _ (fun k i => (reload_at _ _ _ k i).trans (wk0_apply m c k i)) (fun k i => (reload_at _ _ _ k i).trans (wk1_apply m c k i))
      (fun k i => (reload_at _ _ _ k i).trans (wk2_apply m c k i)) t a i

/-- So are the features, one token's in eight rows. -/
theorem out17_apply (t : Fin cfg0.N) (R : Fin 4096) (l : Fin 128) : out17 m c t (ix2 R l) = featAt (blockFeat m c t) R l := by
  unfold out17
  split
  · next h => rw [resA_17]; exact stripsAt_apply m c _ _ _ (wA0_apply m c t h) (wA1_apply m c t h) (wA2_apply m c t h) t R l
  · next h =>
    rw [resB_17]
    exact stripsAt_apply m c _ _ _ (fun k i => (reload_at _ _ _ k i).trans (wk0_apply m c k i)) (fun k i => (reload_at _ _ _ k i).trans (wk1_apply m c k i))
      (fun k i => (reload_at _ _ _ k i).trans (wk2_apply m c k i)) t R l

end Cert.Kernel3Ideal.Merge

end
-- ==== Proof.MergeEntry.lean ====
/-  The merge call's arrays when it is entered, and a grid point's blocks of them, read entry by entry. -/
module

public import proofs.«01_k».proof.Proof.MergeVal

@[expose] public section

set_option maxRecDepth 16384

noncomputable section

namespace Cert.Kernel3Ideal.Merge

open Cert.Kernel3Ideal Cert.Kernel3Ideal.Gen Cert.Merge Cert.Proj
open Idealize.ShloMosaic Idealize.ShloMosaic.TcCoe Idealize.ShloMosaic.Tactic Idealize.SL.Sem

variable (m : (ℓ : Loc nD τ sig) → Buf (Elt Ideal) ℓ) (c : Dev nD)

/-! ## The arrays the host operations make -/

theorem flat_apply (x : S2x8192x1024.Idx → EReal) (r : Fin 16384) (k : Fin 1024) :
    shapeCast S16384x1024 x shapeCasts_S2x8192x1024_S16384x1024 (ix2 r k) = x (ix3 ⟨r.val / 8192, by omega⟩ ⟨r.val % 8192, by omega⟩ k) := by
  pointwise

theorem square_apply (w : S1x1024x1024.Idx → EReal) (k i : Fin 1024) :
    shapeCast S1024x1024 w shapeCasts_S1x1024x1024_S1024x1024 (ix2 k i) = w (ix3 0 k i) := by
  pointwise

/-- The feature scale: the gain times one more than the shift of scale. -/
def hostScale (nf : FVec Ideal S1x1024 .f32) (sc : FVec Ideal S2x1x1024 .f32) : FVec Ideal S2x1x1024 .f32 :=
  mulf (broadcastInDim S2x1x1024 ![0, 1, 2] bcast_S1x1x1024_S2x1x1024_0_1_2 (broadcastInDim S1x1x1024 ![2] bcast_S1024_S1x1x1024_2 (shapeCast S1024 nf shapeCasts_S1x1024_S1024)))
    (addf (broadcastInDim S2x1x1024 ![] bcast_S_S2x1x1024 (constant S_ .f32 0x3F800000#32)) sc)

theorem hostScale_apply (nf : FVec Ideal S1x1024 .f32) (sc : FVec Ideal S2x1x1024 .f32) (b : Fin 2) (j : Fin 1024) :
    hostScale nf sc (ix3 b 0 j) = nf (ix2 0 j) * (1 + sc (ix3 b 0 j)) := by
  pointwise [hostScale]

/-- The head gain, once for each head. -/
def hostGain (gn : FVec Ideal S1x256 .f32) : FVec Ideal S1x1024 .f32 :=
  broadcastInDim S1x1024 ![1] bcast_S1024_S1x1024_1 (shapeCast S1024 (broadcastInDim S4x256 ![0, 1] bcast_S1x256_S4x256_0_1
    (shapeCast S1x256 (shapeCast S256 gn shapeCasts_S1x256_S256) shapeCasts_S256_S1x256)) shapeCasts_S4x256_S1024)

theorem hostGain_apply (gn : FVec Ideal S1x256 .f32) (j : Fin 1024) : hostGain gn (ix2 0 j) = gn (ix2 0 (laneOf j)) := by
  pointwise [hostGain, laneOf]

theorem entry_x : V m c main_v0 = shapeCast S16384x1024 (m ((c.tc : Thread nD τ).loc main_arg5)) shapeCasts_S2x8192x1024_S16384x1024 := by
  unfold V hostOps0
  after_results <;> rfl

theorem entry_scale : V m c main_v29 = hostScale (m ((c.tc : Thread nD τ).loc main_arg9)) (m ((c.tc : Thread nD τ).loc main_arg8)) := by
  unfold V hostOps0
  after_results <;> rfl

theorem entry_gain : V m c main_v34 = hostGain (m ((c.tc : Thread nD τ).loc main_arg10)) := by
  unfold V hostOps0
  after_results <;> rfl

theorem entry_wg : V m c main_v35 = shapeCast S1024x1024 (m ((c.tc : Thread nD τ).loc main_arg11)) shapeCasts_S1x1024x1024_S1024x1024 := by
  unfold V hostOps0
  after_results <;> rfl

theorem entry_wr : V m c main_v36 = shapeCast S1024x1024 (m ((c.tc : Thread nD τ).loc main_arg12)) shapeCasts_S1x1024x1024_S1024x1024 := by
  unfold V hostOps0
  after_results <;> rfl

theorem entry_wo : V m c main_v37 = shapeCast S1024x1024 (m ((c.tc : Thread nD τ).loc main_arg13)) shapeCasts_S1x1024x1024_S1024x1024 := by
  unfold V hostOps0
  after_results <;> rfl

/-! ## A point's blocks of the arrays -/

theorem b0_at (t : Fin cfg0.N) (a : Fin 512) (j : Fin 1024) :
    b0 m c t (ix2 a j) = V m c main_arg0 (ix2 ⟨t.val * 512 + a.val, by have : t.val < 32 := Nat.lt_of_lt_of_eq t.isLt N_0; omega⟩ j) := by
  have e : ∀ t : Fin cfg0.N, win0_0.index t = ![t.val, 0] := (by decide +kernel : ∀ t : Fin grid0.N, _)
  refine congrArg (V m c main_arg0) (funext fun i => Fin.ext ?_)
  match i with
  | ⟨0, _⟩ =>
    refine (Pipeline.Window.rect_emb_val_off win0_0 t _ 0).trans ?_
    rw [e]
    rfl
  | ⟨1, _⟩ =>
    refine (Pipeline.Window.rect_emb_val_off win0_0 t _ 1).trans ?_
    rw [e]
    exact (show 0 * 1024 + j.val = j.val by omega)

theorem b1_at (t : Fin cfg0.N) (a : Fin 512) (j : Fin 1024) :
    b1 m c t (ix2 a j) = V m c main_arg1 (ix2 ⟨t.val * 512 + a.val, by have : t.val < 32 := Nat.lt_of_lt_of_eq t.isLt N_0; omega⟩ j) := by
  have e : ∀ t : Fin cfg0.N, win0_1.index t = ![t.val, 0] := (by decide +kernel : ∀ t : Fin grid0.N, _)
  refine congrArg (V m c main_arg1) (funext fun i => Fin.ext ?_)
  match i with
  | ⟨0, _⟩ =>
    refine (Pipeline.Window.rect_emb_val_off win0_1 t _ 0).trans ?_
    rw [e]
    rfl
  | ⟨1, _⟩ =>
    refine (Pipeline.Window.rect_emb_val_off win0_1 t _ 1).trans ?_
    rw [e]
    exact (show 0 * 1024 + j.val = j.val by omega)

theorem b2_at (t : Fin cfg0.N) (a : Fin 512) (j : Fin 1024) :
    b2 m c t (ix2 a j) = V m c main_arg2 (ix2 ⟨t.val * 512 + a.val, by have : t.val < 32 := Nat.lt_of_lt_of_eq t.isLt N_0; omega⟩ j) := by
  have e : ∀ t : Fin cfg0.N, win0_2.index t = ![t.val, 0] := (by decide +kernel : ∀ t : Fin grid0.N, _)
  refine congrArg (V m c main_arg2) (funext fun i => Fin.ext ?_)
  match i with
  | ⟨0, _⟩ =>
    refine (Pipeline.Window.rect_emb_val_off win0_2 t _ 0).trans ?_
    rw [e]
    rfl
  | ⟨1, _⟩ =>
    refine (Pipeline.Window.rect_emb_val_off win0_2 t _ 1).trans ?_
    rw [e]
    exact (show 0 * 1024 + j.val = j.val by omega)

theorem b3_at (t : Fin cfg0.N) (a : Fin 512) (j : Fin 1024) :
    b3 m c t (ix2 a j) = V m c main_arg3 (ix2 ⟨t.val * 512 + a.val, by have : t.val < 32 := Nat.lt_of_lt_of_eq t.isLt N_0; omega⟩ j) := by
  have e : ∀ t : Fin cfg0.N, win0_3.index t = ![t.val, 0] := (by decide +kernel : ∀ t : Fin grid0.N, _)
  refine congrArg (V m c main_arg3) (funext fun i => Fin.ext ?_)
  match i with
  | ⟨0, _⟩ =>
    refine (Pipeline.Window.rect_emb_val_off win0_3 t _ 0).trans ?_
    rw [e]
    rfl
  | ⟨1, _⟩ =>
    refine (Pipeline.Window.rect_emb_val_off win0_3 t _ 1).trans ?_
    rw [e]
    exact (show 0 * 1024 + j.val = j.val by omega)

theorem b4_at (t : Fin cfg0.N) (a : Fin 512) (j : Fin 1024) :
    b4 m c t (ix2 a j) = V m c main_arg4 (ix2 ⟨t.val * 512 + a.val, by have : t.val < 32 := Nat.lt_of_lt_of_eq t.isLt N_0; omega⟩ ⟨2048 + j.val, by omega⟩) := by
  have e : ∀ t : Fin cfg0.N, win0_4.index t = ![t.val, 2] := (by decide +kernel : ∀ t : Fin grid0.N, _)
  refine congrArg (V m c main_arg4) (funext fun i => Fin.ext ?_)
  match i with
  | ⟨0, _⟩ =>
    refine (Pipeline.Window.rect_emb_val_off win0_4 t _ 0).trans ?_
    rw [e]
    rfl
  | ⟨1, _⟩ =>
    refine (Pipeline.Window.rect_emb_val_off win0_4 t _ 1).trans ?_
    rw [e]
    exact (show 2 * 1024 + j.val = 2048 + j.val by omega)

theorem b5_at (t : Fin cfg0.N) (a : Fin 512) (j : Fin 1024) :
    b5 m c t (ix2 a j) = V m c main_arg4 (ix2 ⟨t.val * 512 + a.val, by have : t.val < 32 := Nat.lt_of_lt_of_eq t.isLt N_0; omega⟩ ⟨5120 + j.val, by omega⟩) := by
  have e : ∀ t : Fin cfg0.N, win0_5.index t = ![t.val, 5] := (by decide +kernel : ∀ t : Fin grid0.N, _)
  refine congrArg (V m c main_arg4) (funext fun i => Fin.ext ?_)
  match i with
  | ⟨0, _⟩ =>
    refine (Pipeline.Window.rect_emb_val_off win0_5 t _ 0).trans ?_
    rw [e]
    rfl
  | ⟨1, _⟩ =>
    refine (Pipeline.Window.rect_emb_val_off win0_5 t _ 1).trans ?_
    rw [e]
    exact (show 5 * 1024 + j.val = 5120 + j.val by omega)

theorem b6_at (t : Fin cfg0.N) (a : Fin 512) (j : Fin 1024) :
    b6 m c t (ix2 a j) = V m c main_arg4 (ix2 ⟨t.val * 512 + a.val, by have : t.val < 32 := Nat.lt_of_lt_of_eq t.isLt N_0; omega⟩ ⟨6144 + j.val, by omega⟩) := by
  have e : ∀ t : Fin cfg0.N, win0_6.index t = ![t.val, 6] := (by decide +kernel : ∀ t : Fin grid0.N, _)
  refine congrArg (V m c main_arg4) (funext fun i => Fin.ext ?_)
  match i with
  | ⟨0, _⟩ =>
    refine (Pipeline.Window.rect_emb_val_off win0_6 t _ 0).trans ?_
    rw [e]
    rfl
  | ⟨1, _⟩ =>
    refine (Pipeline.Window.rect_emb_val_off win0_6 t _ 1).trans ?_
    rw [e]
    exact (show 6 * 1024 + j.val = 6144 + j.val by omega)

theorem b7_at (t : Fin cfg0.N) (a : Fin 512) (j : Fin 1024) :
    b7 m c t (ix2 a j) = V m c main_arg4 (ix2 ⟨t.val * 512 + a.val, by have : t.val < 32 := Nat.lt_of_lt_of_eq t.isLt N_0; omega⟩ ⟨7168 + j.val, by omega⟩) := by
  have e : ∀ t : Fin cfg0.N, win0_7.index t = ![t.val, 7] := (by decide +kernel : ∀ t : Fin grid0.N, _)
  refine congrArg (V m c main_arg4) (funext fun i => Fin.ext ?_)
  match i with
  | ⟨0, _⟩ =>
    refine (Pipeline.Window.rect_emb_val_off win0_7 t _ 0).trans ?_
    rw [e]
    rfl
  | ⟨1, _⟩ =>
    refine (Pipeline.Window.rect_emb_val_off win0_7 t _ 1).trans ?_
    rw [e]
    exact (show 7 * 1024 + j.val = 7168 + j.val by omega)

theorem b8_at (t : Fin cfg0.N) (a : Fin 512) (j : Fin 1024) :
    b8 m c t (ix2 a j) = V m c main_v0 (ix2 ⟨t.val * 512 + a.val, by have : t.val < 32 := Nat.lt_of_lt_of_eq t.isLt N_0; omega⟩ j) := by
  have e : ∀ t : Fin cfg0.N, win0_8.index t = ![t.val, 0] := (by decide +kernel : ∀ t : Fin grid0.N, _)
  refine congrArg (V m c main_v0) (funext fun i => Fin.ext ?_)
  match i with
  | ⟨0, _⟩ =>
    refine (Pipeline.Window.rect_emb_val_off win0_8 t _ 0).trans ?_
    rw [e]
    rfl
  | ⟨1, _⟩ =>
    refine (Pipeline.Window.rect_emb_val_off win0_8 t _ 1).trans ?_
    rw [e]
    exact (show 0 * 1024 + j.val = j.val by omega)

theorem b9_at (t : Fin cfg0.N) (j : Fin 1024) :
    b9 m c t (ix3 0 0 j) = V m c main_arg6 (ix3 ⟨t.val / 16, by have : t.val < 32 := Nat.lt_of_lt_of_eq t.isLt N_0; omega⟩ 0 j) := by
  have e : ∀ t : Fin cfg0.N, win0_9.index t = ![t.val / 16, 0, 0] := (by decide +kernel : ∀ t : Fin grid0.N, _)
  refine congrArg (V m c main_arg6) (funext fun i => Fin.ext ?_)
  match i with
  | ⟨0, _⟩ =>
    refine (Pipeline.Window.rect_emb_val_off win0_9 t _ 0).trans ?_
    rw [e]
    exact (show t.val / 16 * 1 + 0 = t.val / 16 by omega)
  | ⟨1, _⟩ =>
    refine (Pipeline.Window.rect_emb_val_off win0_9 t _ 1).trans ?_
    rw [e]
    rfl
  | ⟨2, _⟩ =>
    refine (Pipeline.Window.rect_emb_val_off win0_9 t _ 2).trans ?_
    rw [e]
    exact (show 0 * 1024 + j.val = j.val by omega)

theorem b10_at (t : Fin cfg0.N) (j : Fin 1024) :
    b10 m c t (ix3 0 0 j) = V m c main_arg7 (ix3 ⟨t.val / 16, by have : t.val < 32 := Nat.lt_of_lt_of_eq t.isLt N_0; omega⟩ 0 j) := by
  have e : ∀ t : Fin cfg0.N, win0_10.index t = ![t.val / 16, 0, 0] := (by decide +kernel : ∀ t : Fin grid0.N, _)
  refine congrArg (V m c main_arg7) (funext fun i => Fin.ext ?_)
  match i with
  | ⟨0, _⟩ =>
    refine (Pipeline.Window.rect_emb_val_off win0_10 t _ 0).trans ?_
    rw [e]
    exact (show t.val / 16 * 1 + 0 = t.val / 16 by omega)
  | ⟨1, _⟩ =>
    refine (Pipeline.Window.rect_emb_val_off win0_10 t _ 1).trans ?_
    rw [e]
    rfl
  | ⟨2, _⟩ =>
    refine (Pipeline.Window.rect_emb_val_off win0_10 t _ 2).trans ?_
    rw [e]
    exact (show 0 * 1024 + j.val = j.val by omega)

theorem b11_at (t : Fin cfg0.N) (j : Fin 1024) :
    b11 m c t (ix3 0 0 j) = V m c main_v29 (ix3 ⟨t.val / 16, by have : t.val < 32 := Nat.lt_of_lt_of_eq t.isLt N_0; omega⟩ 0 j) := by
  have e : ∀ t : Fin cfg0.N, win0_11.index t = ![t.val / 16, 0, 0] := (by decide +kernel : ∀ t : Fin grid0.N, _)
  refine congrArg (V m c main_v29) (funext fun i => Fin.ext ?_)
  match i with
  | ⟨0, _⟩ =>
    refine (Pipeline.Window.rect_emb_val_off win0_11 t _ 0).trans ?_
    rw [e]
    exact (show t.val / 16 * 1 + 0 = t.val / 16 by omega)
  | ⟨1, _⟩ =>
    refine (Pipeline.Window.rect_emb_val_off win0_11 t _ 1).trans ?_
    rw [e]
    rfl
  | ⟨2, _⟩ =>
    refine (Pipeline.Window.rect_emb_val_off win0_11 t _ 2).trans ?_
    rw [e]
    exact (show 0 * 1024 + j.val = j.val by omega)

theorem b12_at (t : Fin cfg0.N) (j : Fin 1024) : b12 m c t (ix2 0 j) = V m c main_v34 (ix2 0 j) := by
  have e : ∀ t : Fin cfg0.N, win0_12.index t = ![0, 0] := (by decide +kernel : ∀ t : Fin grid0.N, _)
  refine congrArg (V m c main_v34) (funext fun i => Fin.ext ?_)
  match i with
  | ⟨0, _⟩ =>
    refine (Pipeline.Window.rect_emb_val_off win0_12 t _ 0).trans ?_
    rw [e]
    rfl
  | ⟨1, _⟩ =>
    refine (Pipeline.Window.rect_emb_val_off win0_12 t _ 1).trans ?_
    rw [e]
    exact (show 0 * 1024 + j.val = j.val by omega)

end Cert.Kernel3Ideal.Merge

end
-- ==== Proof.MergeRef.lean ====
/-  The merge call's reference read entry by entry. -/
module

public import proofs.«01_k».proof.Proof.MergeModel
public import proofs.«01_k».proof.Proof.Gen.Reference3Ideal.Run
public import Idealize.ShloMosaic.Lib.Pointwise

@[expose] public section

set_option maxRecDepth 16384

noncomputable section

namespace Cert.Reference3Ideal.Entry

open Cert.Reference3Ideal Cert.Reference3Ideal.Gen Cert.Merge Cert.Proj Idealize.ShloMosaic Idealize.ShloMosaic.TcCoe Idealize.SL.Sem

/-- The heads of a sum of two arrays. -/
def refHeads (a b : FVec Ideal S16384x1024 .bf16) : FVec Ideal S16384x4x256 .f32 :=
  shapeCast _ (addf (extf .f32 a bitsLt_bf16_f32) (extf .f32 b bitsLt_bf16_f32)) shapeCasts_S16384x1024_S16384x4x256

/-- A head's mean, along its row. -/
def refMean (u : FVec Ideal S16384x4x256 .f32) : FVec Ideal S16384x4x1 .f32 :=
  Host.divf (broadcastInDim S16384x4x1 ![0, 1] bcast_S16384x4_S16384x4x1_0_1
    (Host.reduceAdd u (constant S_ .f32 0x00000000#32) reducesTo_S16384x4x256_S16384x4_d2 h_S_))
    (broadcastInDim S16384x4x1 ![] bcast_S_S16384x4x1 (constant S_ .f32 0x43800000#32))

/-- The array times the reciprocal root of another's mean square. -/
def refScale (u v : FVec Ideal S16384x4x256 .f32) : FVec Ideal S16384x4x256 .f32 :=
  mulf u (broadcastInDim S16384x4x256 ![0, 1, 2] bcast_S16384x4x1_S16384x4x256_0_1_2
    (Host.rsqrt (addf (refMean (mulf v v)) (broadcastInDim S16384x4x1 ![] bcast_S_S16384x4x1 (constant S_ .f32 0x358637BD#32)))))

/-- The array less its heads' means. -/
def refCentre (u : FVec Ideal S16384x4x256 .f32) : FVec Ideal S16384x4x256 .f32 :=
  subf u (broadcastInDim S16384x4x256 ![0, 1, 2] bcast_S16384x4x1_S16384x4x256_0_1_2 (refMean u))

/-- The logistic function of an array. -/
def refSig (g : FVec Ideal S16384x1024 .f32) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf g)))

/-- The columns of the projection each gate is read from. -/
def refGG (p : FVec Ideal S16384x8192 .bf16) : FVec Ideal S16384x1024 .f32 :=
  extf .f32 (extractStridedSlice S16384x1024 ![0, 2048] p slices_S16384x8192_S16384x1024_0_2048) bitsLt_bf16_f32
def refRG (p : FVec Ideal S16384x8192 .bf16) : FVec Ideal S16384x1024 .f32 :=
  extf .f32 (extractStridedSlice S16384x1024 ![0, 5120] p slices_S16384x8192_S16384x1024_0_5120) bitsLt_bf16_f32
def refMG (p : FVec Ideal S16384x8192 .bf16) : FVec Ideal S16384x1024 .f32 :=
  extf .f32 (extractStridedSlice S16384x1024 ![0, 6144] p slices_S16384x8192_S16384x1024_0_6144) bitsLt_bf16_f32
def refMR (p : FVec Ideal S16384x8192 .bf16) : FVec Ideal S16384x1024 .f32 :=
  extf .f32 (extractStridedSlice S16384x1024 ![0, 7168] p slices_S16384x8192_S16384x1024_0_7168) bitsLt_bf16_f32

/-- The first branch, gated. -/
def refGla (gf gb : FVec Ideal S16384x1024 .bf16) (p : FVec Ideal S16384x8192 .bf16) (gn : FVec Ideal S1x256 .f32) : FVec Ideal S16384x1024 .f32 :=
  mulf (shapeCast _ (mulf (refScale (refHeads gf gb) (refHeads gf gb))
      (broadcastInDim S16384x4x256 ![0, 1, 2] bcast_S1x1x256_S16384x4x256_0_1_2 (broadcastInDim S1x1x256 ![2] bcast_S256_S1x1x256_2 (shapeCast _ gn shapeCasts_S1x256_S256))))
      shapeCasts_S16384x4x256_S16384x1024)
    (mulf (refGG p) (refSig (refGG p)))

/-- The second branch, gated. -/
def refRet (rf rb : FVec Ideal S16384x1024 .bf16) (p : FVec Ideal S16384x8192 .bf16) : FVec Ideal S16384x1024 .f32 :=
  mulf (shapeCast _ (refScale (refCentre (refHeads rf rb)) (refCentre (refHeads rf rb))) shapeCasts_S16384x4x256_S16384x1024)
    (mulf (refRG p) (refSig (refRG p)))

/-- A product with a weight. -/
def refDot (a : FVec Ideal S16384x1024 .f32) (w : FVec Ideal S1x1024x1024 .f32) : FVec Ideal S16384x1024 .f32 :=
  Host.dotGeneral dot_S16384x1024_S1024x1024_S16384x1024_1_0_0_1_n_n none a (shapeCast _ w shapeCasts_S1x1024x1024_S1024x1024)

/-- The branches mixed. -/
def refMix (a b : FVec Ideal S16384x1024 .f32) (p : FVec Ideal S16384x8192 .bf16) (wg wr : FVec Ideal S1x1024x1024 .f32) : FVec Ideal S16384x1024 .f32 :=
  addf (mulf (refSig (refMG p)) (refDot a wg)) (mulf (refSig (refMR p)) (refDot b wr))

/-- The residual rows. -/
def refRes (x : FVec Ideal S2x8192x1024 .f32) (g1 : FVec Ideal S2x1x1024 .f32) (y : FVec Ideal S16384x1024 .f32) (wo : FVec Ideal S1x1024x1024 .f32) : FVec Ideal S2x8192x1024 .f32 :=
  addf x (mulf (broadcastInDim S2x8192x1024 ![0, 1, 2] bcast_S2x1x1024_S2x8192x1024_0_1_2 g1) (shapeCast _ (refDot y wo) shapeCasts_S16384x1024_S2x8192x1024))

/-- The features. -/
def refFeat (h : FVec Ideal S2x8192x1024 .f32) (sh sc : FVec Ideal S2x1x1024 .f32) (nf : FVec Ideal S1x1024 .f32) : FVec Ideal S2x8192x1024 .f32 :=
  addf (mulf (mulf (mulf h (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf h h) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ nf shapeCasts_S1x1024_S1024))))
    (broadcastInDim S2x8192x1024 ![0, 1, 2] bcast_S2x1x1024_S2x8192x1024_0_1_2 (addf (broadcastInDim S2x1x1024 ![] bcast_S_S2x1x1024 (constant S_ .f32 0x3F800000#32)) sc)))
    (broadcastInDim S2x8192x1024 ![0, 1, 2] bcast_S2x1x1024_S2x8192x1024_0_1_2 sh)

variable (m : (ℓ : Loc nD τ sig) → Buf (Elt Ideal) ℓ) (c : Dev nD)

/-- The residual rows, from a memory's arguments. -/
def refH : FVec Ideal S2x8192x1024 .f32 :=
  refRes (m ((c.tc : Thread nD τ).loc main_arg5)) (m ((c.tc : Thread nD τ).loc main_arg6))
    (refMix (refGla (m ((c.tc : Thread nD τ).loc main_arg0)) (m ((c.tc : Thread nD τ).loc main_arg1)) (m ((c.tc : Thread nD τ).loc main_arg4)) (m ((c.tc : Thread nD τ).loc main_arg10)))
      (refRet (m ((c.tc : Thread nD τ).loc main_arg2)) (m ((c.tc : Thread nD τ).loc main_arg3)) (m ((c.tc : Thread nD τ).loc main_arg4)))
      (m ((c.tc : Thread nD τ).loc main_arg4)) (m ((c.tc : Thread nD τ).loc main_arg11)) (m ((c.tc : Thread nD τ).loc main_arg12)))
    (m ((c.tc : Thread nD τ).loc main_arg13))

set_option maxHeartbeats 1600000 in
/-- The reference's two results are those terms. -/
theorem res_stages : Value.res_out0 m c = shapeCast S16384x1024 (refH m c) shapeCasts_S2x8192x1024_S16384x1024 := by
  unfold Value.res_out0 Value.res_main_v113
  rfl

set_option maxHeartbeats 1600000 in
theorem feat_stages : Value.res_out1 m c
    = shapeCast S131072x128 (refFeat (refH m c) (m ((c.tc : Thread nD τ).loc main_arg7)) (m ((c.tc : Thread nD τ).loc main_arg8)) (m ((c.tc : Thread nD τ).loc main_arg9))) shapeCasts_S2x8192x1024_S131072x128 := by
  unfold Value.res_out1 Value.res_main_v114
  rfl

/-! ## Read at an index -/

theorem refHeads_apply (a b : FVec Ideal S16384x1024 .bf16) (r : Fin 16384) (q : Fin 4) (j : Fin 256) :
    refHeads a b (ix3 r q j) = a (ix2 r ⟨q.val * 256 + j.val, by omega⟩) + b (ix2 r ⟨q.val * 256 + j.val, by omega⟩) := by
  pointwise [refHeads]

theorem refMean_apply (u : FVec Ideal S16384x4x256 .f32) (r : Fin 16384) (q : Fin 4) : refMean u (ix3 r q 0) = mean256 (∑ k : Fin 256, u (ix3 r q k)) := by
  pointwise [refMean, mean256]

theorem refScale_apply (u v : FVec Ideal S16384x4x256 .f32) (r : Fin 16384) (q : Fin 4) (j : Fin 256) :
    refScale u v (ix3 r q j) = u (ix3 r q j) * rsq256 (∑ k : Fin 256, v (ix3 r q k) * v (ix3 r q k)) := by
  pointwise [refScale, refMean_apply, rsq256]

theorem refCentre_apply (u : FVec Ideal S16384x4x256 .f32) (r : Fin 16384) (q : Fin 4) (j : Fin 256) :
    refCentre u (ix3 r q j) = u (ix3 r q j) - mean256 (∑ k : Fin 256, u (ix3 r q k)) := by
  pointwise [refCentre, refMean_apply]

theorem refSig_apply (g : FVec Ideal S16384x1024 .f32) (r : Fin 16384) (i : Fin 1024) : refSig g (ix2 r i) = sigm (g (ix2 r i)) := by
  pointwise [refSig, sigm]

theorem refGG_apply (p : FVec Ideal S16384x8192 .bf16) (r : Fin 16384) (i : Fin 1024) : refGG p (ix2 r i) = p (ix2 r ⟨2048 + i.val, by omega⟩) := by
  pointwise [refGG]
theorem refRG_apply (p : FVec Ideal S16384x8192 .bf16) (r : Fin 16384) (i : Fin 1024) : refRG p (ix2 r i) = p (ix2 r ⟨5120 + i.val, by omega⟩) := by
  pointwise [refRG]
theorem refMG_apply (p : FVec Ideal S16384x8192 .bf16) (r : Fin 16384) (i : Fin 1024) : refMG p (ix2 r i) = p (ix2 r ⟨6144 + i.val, by omega⟩) := by
  pointwise [refMG]
theorem refMR_apply (p : FVec Ideal S16384x8192 .bf16) (r : Fin 16384) (i : Fin 1024) : refMR p (ix2 r i) = p (ix2 r ⟨7168 + i.val, by omega⟩) := by
  pointwise [refMR]

theorem refGla_apply (gf gb : FVec Ideal S16384x1024 .bf16) (p : FVec Ideal S16384x8192 .bf16) (gn : FVec Ideal S1x256 .f32) (r : Fin 16384) (i : Fin 1024) :
    refGla gf gb p gn (ix2 r i) = glaRow (fun j => gf (ix2 r j) + gb (ix2 r j)) (fun j => gn (ix2 0 (laneOf j))) (fun j => p (ix2 r ⟨2048 + j.val, by omega⟩)) i := by
  pointwise [refGla, refScale_apply, refHeads_apply, refGG_apply, refSig_apply, glaRow, rmsHead, headOf, laneOf]

theorem refRet_apply (rf rb : FVec Ideal S16384x1024 .bf16) (p : FVec Ideal S16384x8192 .bf16) (r : Fin 16384) (i : Fin 1024) :
    refRet rf rb p (ix2 r i) = retRow (fun j => rf (ix2 r j) + rb (ix2 r j)) (fun j => p (ix2 r ⟨5120 + j.val, by omega⟩)) i := by
  pointwise [refRet, refScale_apply, refCentre_apply, refHeads_apply, refRG_apply, refSig_apply, retRow, normHead, headOf, laneOf]

theorem refDot_apply (a : FVec Ideal S16384x1024 .f32) (w : FVec Ideal S1x1024x1024 .f32) (r : Fin 16384) (i : Fin 1024) :
    refDot a w (ix2 r i) = dot1 (fun k => a (ix2 r k)) (fun k => w (ix3 0 k i)) := by
  pointwise [refDot, dot1]

theorem refMix_apply (a b : FVec Ideal S16384x1024 .f32) (p : FVec Ideal S16384x8192 .bf16) (wg wr : FVec Ideal S1x1024x1024 .f32) (r : Fin 16384) (i : Fin 1024) :
    refMix a b p wg wr (ix2 r i) = mixRow (fun k => a (ix2 r k)) (fun k => b (ix2 r k)) (fun j => p (ix2 r ⟨6144 + j.val, by omega⟩)) (fun j => p (ix2 r ⟨7168 + j.val, by omega⟩))
      (fun k i => wg (ix3 0 k i)) (fun k i => wr (ix3 0 k i)) i := by
  pointwise [refMix, refDot_apply, refSig_apply, refMG_apply, refMR_apply, mixRow]

theorem refRes_apply (x : FVec Ideal S2x8192x1024 .f32) (g1 : FVec Ideal S2x1x1024 .f32) (y : FVec Ideal S16384x1024 .f32) (wo : FVec Ideal S1x1024x1024 .f32) (b : Fin 2) (p : Fin 8192) (i : Fin 1024) :
    refRes x g1 y wo (ix3 b p i) = resRow (fun j => x (ix3 b p j)) (fun j => g1 (ix3 b 0 j)) (fun k => y (ix2 ⟨b.val * 8192 + p.val, by omega⟩ k)) (fun k i => wo (ix3 0 k i)) i := by
  pointwise [refRes, refDot_apply, resRow]

theorem refFeat_apply (h : FVec Ideal S2x8192x1024 .f32) (sh sc : FVec Ideal S2x1x1024 .f32) (nf : FVec Ideal S1x1024 .f32) (b : Fin 2) (p : Fin 8192) (i : Fin 1024) :
    refFeat h sh sc nf (ix3 b p i) = featRow (fun j => h (ix3 b p j)) (fun j => nf (ix2 0 j) * (1 + sc (ix3 b 0 j))) (fun j => sh (ix3 b 0 j)) i := by
  pointwise [refFeat, featRow, rsq]
  rw [mul_assoc]

end Cert.Reference3Ideal.Entry

end
-- ==== Proof.MergeArr.lean ====
/-  The merge call's two results as arrays: what each token's row is of the launch's arrays. -/
module

public import proofs.«01_k».proof.Proof.MergeRef

@[expose] public section

set_option maxRecDepth 16384

noncomputable section

namespace Cert.Reference3Ideal.Entry

open Cert.Reference3Ideal Cert.Reference3Ideal.Gen Cert.Proj Cert.Merge
open Idealize.ShloMosaic Idealize.ShloMosaic.TcCoe Idealize.ShloMosaic.Tactic Idealize.SL.Sem

section
variable (gf gb rf rb : S16384x1024.Idx → EReal) (p : S16384x8192.Idx → EReal) (x : S2x8192x1024.Idx → EReal) (g1 sh sc : S2x1x1024.Idx → EReal)
  (nf : S1x1024.Idx → EReal) (gn : S1x256.Idx → EReal) (wg wr wo : S1x1024x1024.Idx → EReal)

/-- A token's residual row. -/
def tokRow (r : Fin 16384) : Fin 1024 → EReal :=
  mergeRow (fun j => gf (ix2 r j) + gb (ix2 r j)) (fun j => gn (ix2 0 (laneOf j))) (fun j => p (ix2 r ⟨2048 + j.val, by omega⟩))
    (fun j => rf (ix2 r j) + rb (ix2 r j)) (fun j => p (ix2 r ⟨5120 + j.val, by omega⟩))
    (fun j => p (ix2 r ⟨6144 + j.val, by omega⟩)) (fun j => p (ix2 r ⟨7168 + j.val, by omega⟩))
    (fun j => x (ix3 ⟨r.val / 8192, by omega⟩ ⟨r.val % 8192, by omega⟩ j)) (fun j => g1 (ix3 ⟨r.val / 8192, by omega⟩ 0 j))
    (fun k i => wg (ix3 0 k i)) (fun k i => wr (ix3 0 k i)) (fun k i => wo (ix3 0 k i))

/-- A token's features. -/
def tokFeat (r : Fin 16384) : Fin 1024 → EReal :=
  featRow (tokRow gf gb rf rb p x g1 gn wg wr wo r) (fun j => nf (ix2 0 j) * (1 + sc (ix3 ⟨r.val / 8192, by omega⟩ 0 j)))
    (fun j => sh (ix3 ⟨r.val / 8192, by omega⟩ 0 j))

/-- The residual rows of all tokens. -/
def tokRows : S16384x1024.Idx → EReal := fun i => tokRow gf gb rf rb p x g1 gn wg wr wo (i 0) (i 1)

/-- The features of all tokens, one token's in eight rows. -/
def tokFeats : S131072x128.Idx → EReal := fun i =>
  tokFeat gf gb rf rb p x g1 sh sc nf gn wg wr wo ⟨(i 0).val / 8, Nat.div_lt_of_lt_mul (i 0).isLt⟩ ⟨(i 0).val % 8 * 128 + (i 1).val, by
    have h0 : (i 0).val % 8 < 8 := Nat.mod_lt _ (by decide)
    have h1 : (i 1).val < 128 := (i 1).isLt
    omega⟩
end

theorem rows_apply (h : S2x8192x1024.Idx → EReal) (r : Fin 16384) (i : Fin 1024) :
    shapeCast S16384x1024 h shapeCasts_S2x8192x1024_S16384x1024 (ix2 r i) = h (ix3 ⟨r.val / 8192, by omega⟩ ⟨r.val % 8192, by omega⟩ i) := by
  pointwise

theorem feats_apply (h : S2x8192x1024.Idx → EReal) (R : Fin 131072) (l : Fin 128) :
    shapeCast S131072x128 h shapeCasts_S2x8192x1024_S131072x128 (ix2 R l)
      = h (ix3 ⟨R.val / 8 / 8192, by omega⟩ ⟨R.val / 8 % 8192, by omega⟩ ⟨R.val % 8 * 128 + l.val, by omega⟩) := by
  pointwise
  exact congrArg (fun b => h (ix3 b _ _)) (Fin.ext (Nat.div_div_eq_div_mul R.val 8 8192).symm)

variable (m : (ℓ : Loc nD τ sig) → Buf (Elt Ideal) ℓ) (c : Dev nD)

/-- The reference's residual rows, entry by entry. -/
theorem refH_apply (r : Fin 16384) (i : Fin 1024) :
    refH m c (ix3 ⟨r.val / 8192, by omega⟩ ⟨r.val % 8192, by omega⟩ i)
      = tokRow (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg10)) (m ((c.tc : Thread nD τ).loc main_arg11))
        (m ((c.tc : Thread nD τ).loc main_arg12)) (m ((c.tc : Thread nD τ).loc main_arg13)) r i := by
  unfold refH
  refine (refRes_apply _ _ _ _ _ _ i).trans ?_
  have hr : (⟨(⟨r.val / 8192, by omega⟩ : Fin 2).val * 8192 + (⟨r.val % 8192, by omega⟩ : Fin 8192).val, by show r.val / 8192 * 8192 + r.val % 8192 < 16384; omega⟩ : Fin 16384) = r :=
    Fin.ext (show r.val / 8192 * 8192 + r.val % 8192 = r.val by omega)
  unfold tokRow mergeRow
  refine congrFun (congrArg (fun y => resRow _ _ y _) (funext fun k => ?_)) i
  rw [hr]
  refine (refMix_apply _ _ _ _ _ r k).trans ?_
  exact congrFun (congrArg₂ (fun a b => mixRow a b _ _ _ _) (funext fun q => refGla_apply _ _ _ _ r q) (funext fun q => refRet_apply _ _ _ r q)) k

/-- The reference's first result is the tokens' residual rows. -/
theorem res_tok : Value.res_out0 m c
      = tokRows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg10)) (m ((c.tc : Thread nD τ).loc main_arg11))
        (m ((c.tc : Thread nD τ).loc main_arg12)) (m ((c.tc : Thread nD τ).loc main_arg13)) := by
  refine (res_stages m c).trans (funext fun y => ?_)
  obtain ⟨r, i, rfl⟩ : ∃ (r : Fin 16384) (i : Fin 1024), y = ix2 r i := ⟨y 0, y 1, eq_ix2 y⟩
  exact (rows_apply _ r i).trans (refH_apply m c r i)

/-- The reference's second result is the tokens' features. -/
theorem feat_tok : Value.res_out1 m c
      = tokFeats (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13)) := by
  refine (feat_stages m c).trans (funext fun y => ?_)
  obtain ⟨R, l, rfl⟩ : ∃ (R : Fin 131072) (l : Fin 128), y = ix2 R l := ⟨y 0, y 1, eq_ix2 y⟩
  refine (feats_apply _ R l).trans ((refFeat_apply _ _ _ _ _ _ _).trans ?_)
  show _ = tokFeat _ _ _ _ _ _ _ _ _ _ _ _ _ _ ⟨R.val / 8, by omega⟩ ⟨R.val % 8 * 128 + l.val, by omega⟩
  unfold tokFeat
  exact congrFun (congrArg (fun h => featRow h _ _) (funext fun j => refH_apply m c ⟨R.val / 8, by omega⟩ j)) _

end Cert.Reference3Ideal.Entry

end
-- ==== Proof.MergeFinal.lean ====
/-  The merge call's two results: every grid point's blocks are the tokens' rows, so the arrays are the tokens' arrays. -/
module

public import proofs.«01_k».proof.Proof.MergeEntry
public import proofs.«01_k».proof.Proof.MergeArr

@[expose] public section

set_option maxRecDepth 16384

noncomputable section

namespace Cert.Kernel3Ideal.Merge

open Cert.Kernel3Ideal Cert.Kernel3Ideal.Gen Cert.Merge Cert.Proj
open Cert.Reference3Ideal.Entry (tokRow tokFeat tokRows tokFeats)
open Idealize.ShloMosaic Idealize.ShloMosaic.TcCoe Idealize.ShloMosaic.Tactic Idealize.SL.Sem

variable (m : (ℓ : Loc nD τ sig) → Buf (Elt Ideal) ℓ) (c : Dev nD)

/-- A token's residual row at the launch arguments. -/
def rowAt (r : Fin 16384) : Fin 1024 → EReal :=
  tokRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) r

/-- A token's features at the launch arguments. -/
def featRowAt (r : Fin 16384) : Fin 1024 → EReal :=
  tokFeat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) r

theorem b0_row (t : Fin cfg0.N) (a : Fin 512) (j : Fin 1024) (r : Fin 16384) (hr : r.val = t.val * 512 + a.val) :
    b0 m c t (ix2 a j) = m ((c.tc : Thread nD τ).loc main_arg0) (ix2 r j) :=
  (b0_at m c t a j).trans ((congrFun (V_main_arg0 m c) _).trans (congrArg (fun q => m ((c.tc : Thread nD τ).loc main_arg0) (ix2 q j)) (Fin.ext hr.symm)))

theorem b1_row (t : Fin cfg0.N) (a : Fin 512) (j : Fin 1024) (r : Fin 16384) (hr : r.val = t.val * 512 + a.val) :
    b1 m c t (ix2 a j) = m ((c.tc : Thread nD τ).loc main_arg1) (ix2 r j) :=
  (b1_at m c t a j).trans ((congrFun (V_main_arg1 m c) _).trans (congrArg (fun q => m ((c.tc : Thread nD τ).loc main_arg1) (ix2 q j)) (Fin.ext hr.symm)))

theorem b2_row (t : Fin cfg0.N) (a : Fin 512) (j : Fin 1024) (r : Fin 16384) (hr : r.val = t.val * 512 + a.val) :
    b2 m c t (ix2 a j) = m ((c.tc : Thread nD τ).loc main_arg2) (ix2 r j) :=
  (b2_at m c t a j).trans ((congrFun (V_main_arg2 m c) _).trans (congrArg (fun q => m ((c.tc : Thread nD τ).loc main_arg2) (ix2 q j)) (Fin.ext hr.symm)))

theorem b3_row (t : Fin cfg0.N) (a : Fin 512) (j : Fin 1024) (r : Fin 16384) (hr : r.val = t.val * 512 + a.val) :
    b3 m c t (ix2 a j) = m ((c.tc : Thread nD τ).loc main_arg3) (ix2 r j) :=
  (b3_at m c t a j).trans ((congrFun (V_main_arg3 m c) _).trans (congrArg (fun q => m ((c.tc : Thread nD τ).loc main_arg3) (ix2 q j)) (Fin.ext hr.symm)))

theorem b4_row (t : Fin cfg0.N) (a : Fin 512) (j : Fin 1024) (r : Fin 16384) (hr : r.val = t.val * 512 + a.val) :
    b4 m c t (ix2 a j) = m ((c.tc : Thread nD τ).loc main_arg4) (ix2 r ⟨2048 + j.val, by omega⟩) :=
  (b4_at m c t a j).trans ((congrFun (V_main_arg4 m c) _).trans (congrArg (fun q => m ((c.tc : Thread nD τ).loc main_arg4) (ix2 q ⟨2048 + j.val, by omega⟩)) (Fin.ext hr.symm)))

theorem b5_row (t : Fin cfg0.N) (a : Fin 512) (j : Fin 1024) (r : Fin 16384) (hr : r.val = t.val * 512 + a.val) :
    b5 m c t (ix2 a j) = m ((c.tc : Thread nD τ).loc main_arg4) (ix2 r ⟨5120 + j.val, by omega⟩) :=
  (b5_at m c t a j).trans ((congrFun (V_main_arg4 m c) _).trans (congrArg (fun q => m ((c.tc : Thread nD τ).loc main_arg4) (ix2 q ⟨5120 + j.val, by omega⟩)) (Fin.ext hr.symm)))

theorem b6_row (t : Fin cfg0.N) (a : Fin 512) (j : Fin 1024) (r : Fin 16384) (hr : r.val = t.val * 512 + a.val) :
    b6 m c t (ix2 a j) = m ((c.tc : Thread nD τ).loc main_arg4) (ix2 r ⟨6144 + j.val, by omega⟩) :=
  (b6_at m c t a j).trans ((congrFun (V_main_arg4 m c) _).trans (congrArg (fun q => m ((c.tc : Thread nD τ).loc main_arg4) (ix2 q ⟨6144 + j.val, by omega⟩)) (Fin.ext hr.symm)))

theorem b7_row (t : Fin cfg0.N) (a : Fin 512) (j : Fin 1024) (r : Fin 16384) (hr : r.val = t.val * 512 + a.val) :
    b7 m c t (ix2 a j) = m ((c.tc : Thread nD τ).loc main_arg4) (ix2 r ⟨7168 + j.val, by omega⟩) :=
  (b7_at m c t a j).trans ((congrFun (V_main_arg4 m c) _).trans (congrArg (fun q => m ((c.tc : Thread nD τ).loc main_arg4) (ix2 q ⟨7168 + j.val, by omega⟩)) (Fin.ext hr.symm)))

theorem b8_row (t : Fin cfg0.N) (a : Fin 512) (j : Fin 1024) (r : Fin 16384) (hr : r.val = t.val * 512 + a.val) :
    b8 m c t (ix2 a j) = m ((c.tc : Thread nD τ).loc main_arg5) (ix3 ⟨r.val / 8192, by omega⟩ ⟨r.val % 8192, by omega⟩ j) := by
  refine (b8_at m c t a j).trans ((congrFun (entry_x m c) _).trans ?_)
  refine (congrArg (fun q => shapeCast S16384x1024 (m ((c.tc : Thread nD τ).loc main_arg5)) shapeCasts_S2x8192x1024_S16384x1024 (ix2 q j)) (Fin.ext hr.symm)).trans ?_
  exact flat_apply _ r j

theorem b9_row (t : Fin cfg0.N) (a : Fin 512) (j : Fin 1024) (r : Fin 16384) (hr : r.val = t.val * 512 + a.val) :
    b9 m c t (ix3 0 0 j) = m ((c.tc : Thread nD τ).loc main_arg6) (ix3 ⟨r.val / 8192, by omega⟩ 0 j) :=
  (b9_at m c t j).trans ((congrFun (V_main_arg6 m c) _).trans (congrArg (fun q => m ((c.tc : Thread nD τ).loc main_arg6) (ix3 q 0 j)) (Fin.ext (show t.val / 16 = r.val / 8192 by omega))))

theorem b10_row (t : Fin cfg0.N) (a : Fin 512) (j : Fin 1024) (r : Fin 16384) (hr : r.val = t.val * 512 + a.val) :
    b10 m c t (ix3 0 0 j) = m ((c.tc : Thread nD τ).loc main_arg7) (ix3 ⟨r.val / 8192, by omega⟩ 0 j) :=
  (b10_at m c t j).trans ((congrFun (V_main_arg7 m c) _).trans (congrArg (fun q => m ((c.tc : Thread nD τ).loc main_arg7) (ix3 q 0 j)) (Fin.ext (show t.val / 16 = r.val / 8192 by omega))))

/-- The gain times one more than the scale's shift. -/
abbrev scaleAt (nf : S1x1024.Idx → EReal) (sc : S2x1x1024.Idx → EReal) (b : Fin 2) (j : Fin 1024) : EReal := nf (ix2 0 j) * (1 + sc (ix3 b 0 j))

theorem b11_row (t : Fin cfg0.N) (a : Fin 512) (j : Fin 1024) (r : Fin 16384) (hr : r.val = t.val * 512 + a.val) :
    b11 m c t (ix3 0 0 j) = scaleAt (m ((c.tc : Thread nD τ).loc main_arg9)) (m ((c.tc : Thread nD τ).loc main_arg8)) ⟨r.val / 8192, by omega⟩ j :=
  (b11_at m c t j).trans ((congrFun (entry_scale m c) _).trans ((hostScale_apply _ _ _ j).trans
    (congrArg (fun q => scaleAt (m ((c.tc : Thread nD τ).loc main_arg9)) (m ((c.tc : Thread nD τ).loc main_arg8)) q j)
      (Fin.ext (show t.val / 16 = r.val / 8192 by omega)))))

theorem b12_row (t : Fin cfg0.N) (j : Fin 1024) : b12 m c t (ix2 0 j) = m ((c.tc : Thread nD τ).loc main_arg10) (ix2 0 (laneOf j)) :=
  (b12_at m c t j).trans ((congrFun (entry_gain m c) _).trans (hostGain_apply _ j))

theorem w0_row (k i : Fin 1024) : w0 m c (ix2 k i) = m ((c.tc : Thread nD τ).loc main_arg11) (ix3 0 k i) :=
  (congrFun (entry_wg m c) _).trans (square_apply _ k i)
theorem w1_row (k i : Fin 1024) : w1 m c (ix2 k i) = m ((c.tc : Thread nD τ).loc main_arg12) (ix3 0 k i) :=
  (congrFun (entry_wr m c) _).trans (square_apply _ k i)
theorem w2_row (k i : Fin 1024) : w2 m c (ix2 k i) = m ((c.tc : Thread nD τ).loc main_arg13) (ix3 0 k i) :=
  (congrFun (entry_wo m c) _).trans (square_apply _ k i)

/-- A point's residual rows are its tokens'. -/
theorem blockRow_eq (t : Fin cfg0.N) (a : Fin 512) (r : Fin 16384) (hr : r.val = t.val * 512 + a.val) : blockRow m c t a = rowAt m c r :=
  mergeRow_congr (funext fun j => congrArg₂ (· + ·) (b0_row m c t a j r hr) (b1_row m c t a j r hr)) (funext fun j => b12_row m c t j)
    (funext fun j => b4_row m c t a j r hr) (funext fun j => congrArg₂ (· + ·) (b2_row m c t a j r hr) (b3_row m c t a j r hr))
    (funext fun j => b5_row m c t a j r hr) (funext fun j => b6_row m c t a j r hr) (funext fun j => b7_row m c t a j r hr)
    (funext fun j => b8_row m c t a j r hr) (funext fun j => b9_row m c t a j r hr)
    (funext fun k => funext fun i => w0_row m c k i) (funext fun k => funext fun i => w1_row m c k i) (funext fun k => funext fun i => w2_row m c k i)

/-- So are a point's features. -/
theorem blockFeat_eq (t : Fin cfg0.N) (a : Fin 512) (r : Fin 16384) (hr : r.val = t.val * 512 + a.val) : blockFeat m c t a = featRowAt m c r := by
  unfold blockFeat
  rw [blockRow_eq m c t a r hr]
  exact congrArg₂ (featRow (rowAt m c r)) (funext fun j => b11_row m c t a j r hr) (funext fun j => b10_row m c t a j r hr)

/-- The tokens' residual rows at the launch arguments. -/
def hArr : S16384x1024.Idx → EReal :=
  tokRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13))

/-- The tokens' features at the launch arguments. -/
def hnArr : S131072x128.Idx → EReal :=
  tokFeats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The first result after the call is the tokens' residual rows. -/
theorem h_final : (dats m 0 c).arrAt 16 cfg0.N = hArr m c := by
  refine (dats m 0 c).arrAt_eq_of_covers 16 (hArr m c) (by decide +kernel) fun t hf y => ?_
  have e : ∀ t : Fin cfg0.N, win0_16.index t = ![t.val, 0] := (by decide +kernel : ∀ t : Fin grid0.N, _)
  have ht : t.val < 32 := Nat.lt_of_lt_of_eq t.isLt N_0
  obtain ⟨a, b, rfl⟩ : ∃ (a : Fin 512) (b : Fin 1024), y = ix2 a b := ⟨y 0, y 1, eq_ix2 y⟩
  have ho : (win0_16.rect t).emb (ix2 a b) = ix2 ⟨t.val * 512 + a.val, by omega⟩ b := funext fun i => Fin.ext (by
    rw [Pipeline.Window.rect_emb_val_off win0_16 t _ i, e]
    match i with
    | ⟨0, _⟩ => rfl
    | ⟨1, _⟩ => exact (show 0 * 1024 + b.val = b.val by omega))
  refine (congrFun (after16 m c t) (ix2 a b)).trans ((out16_apply m c t a b).trans ((congrFun (blockRow_eq m c t a ⟨t.val * 512 + a.val, by omega⟩ rfl) b).trans ?_))
  show _ = hArr m c ((win0_16.rect t).emb (ix2 a b))
  rw [ho]
  rfl

/-- The second result after the call is the tokens' features. -/
theorem hn_final : (dats m 0 c).arrAt 17 cfg0.N = hnArr m c := by
  refine (dats m 0 c).arrAt_eq_of_covers 17 (hnArr m c) (by decide +kernel) fun t hf y => ?_
  have e : ∀ t : Fin cfg0.N, win0_17.index t = ![t.val, 0] := (by decide +kernel : ∀ t : Fin grid0.N, _)
  have ht : t.val < 32 := Nat.lt_of_lt_of_eq t.isLt N_0
  obtain ⟨R, l, rfl⟩ : ∃ (R : Fin 4096) (l : Fin 128), y = ix2 R l := ⟨y 0, y 1, eq_ix2 y⟩
  have ho : (win0_17.rect t).emb (ix2 R l) = ix2 ⟨t.val * 4096 + R.val, by omega⟩ l := funext fun i => Fin.ext (by
    rw [Pipeline.Window.rect_emb_val_off win0_17 t _ i, e]
    match i with
    | ⟨0, _⟩ => rfl
    | ⟨1, _⟩ => exact (show 0 * 128 + l.val = l.val by omega))
  refine (congrFun (after17 m c t) (ix2 R l)).trans ((out17_apply m c t R l).trans
    ((congrFun (blockFeat_eq m c t ⟨R.val / 8, by omega⟩ ⟨(t.val * 4096 + R.val) / 8, by omega⟩ (show (t.val * 4096 + R.val) / 8 = t.val * 512 + R.val / 8 by omega)) _).trans ?_))
  show _ = hnArr m c ((win0_17.rect t).emb (ix2 R l))
  rw [ho]
  exact congrArg (featRowAt m c ⟨(t.val * 4096 + R.val) / 8, by omega⟩) (Fin.ext (show R.val % 8 * 128 + l.val = (t.val * 4096 + R.val) % 8 * 128 + l.val by omega))

end Cert.Kernel3Ideal.Merge

end
-- ==== Proof.lean ====
/- The certificate: frames of the two programs and the reference, and the equality of their results. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Wprep
public import proofs.«01_k».proof.Proof.Run
public import proofs.«01_k».proof.Proof.ValRef
public import proofs.«01_k».proof.Proof.ValProj
public import proofs.«01_k».proof.Proof.MergeRun
public import proofs.«01_k».proof.Proof.MergeFinal
public import Idealize.ShloMosaic.Adequacy
public import Idealize.ShloMosaic.Init

@[expose] public section

noncomputable section

namespace Cert.Proof

open Idealize.ShloMosaic Idealize.SL.Sem Cert.Kernel

set_option maxRecDepth 65536 in
set_option smartUnfolding false in
/-- The weight preparation call, as printed, runs and leaves its argument as it was: the ideal reading's run at bits. -/
theorem frame_kernel : Cert.quiescent_Kernel := fun m ρ _ =>
  (θ_run Cert.KernelIdeal.defs _ _).mono (fun _ h => h) (Cert.KernelIdeal.Gen.frame (F := Bits) m ρ)

/-- The ideal reading runs and leaves its argument as it was. -/
theorem frame_ideal : Cert.quiescent_KernelIdeal := fun m ρ _ => Cert.KernelIdeal.Gen.frame m ρ

/-- The reference runs and leaves its argument as it was. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Kernel and reference end with the same two arrays: both are `mainOf` and `lrOf` of the transposed weight. -/
theorem algebraic : Cert.algebraic_KernelIdeal_ReferenceIdeal := by
  intro m ρ m' ρ' _ hagree
  refine ⟨fun c => Cert.KernelIdeal.Wprep.mainOf (Cert.KernelIdeal.Gen.V m c Cert.KernelIdeal.main_v1),
    fun c => Cert.KernelIdeal.Wprep.lrOf (Cert.KernelIdeal.Gen.V m c Cert.KernelIdeal.main_v1), ?_, ?_⟩
  · exact (θ_run Cert.KernelIdeal.defs _ _).mono
      (fun _ h c => ⟨(h c).1.trans (Cert.KernelIdeal.Wprep.final_main m c),
        (h c).2.1.trans (Cert.KernelIdeal.Wprep.final_lr m c), (h c).2.2⟩)
      (Cert.KernelIdeal.Value.run_blocks m ρ)
  · refine (θ_run Cert.ReferenceIdeal.defs _ _).mono (fun _ h c => ⟨(h c).1.trans ?_, (h c).2.1.trans ?_, (h c).2.2⟩)
      (Cert.ReferenceIdeal.Value.run m' ρ')
    · rw [hagree c]; beta_reduce; rw [Cert.KernelIdeal.Wprep.entry_wt]
      exact Cert.KernelIdeal.Wprep.ref_main _
    · rw [hagree c]; beta_reduce; rw [Cert.KernelIdeal.Wprep.entry_wt]
      exact Cert.KernelIdeal.Wprep.ref_lr _

set_option maxHeartbeats 4000000 in
set_option maxRecDepth 65536 in
set_option smartUnfolding false in
/-- The two calls joined, as printed, run and leave their arguments as they were: the ideal reading's run at bits. -/
theorem frame_kernel2 : Cert.quiescent_Kernel2 := fun m ρ _ =>
  (θ_run Cert.Kernel2Ideal.defs _ _).mono (fun _ h => h) (Cert.Kernel2Ideal.Proj.frame (F := Bits) m ρ)

/-- The ideal reading of the two calls joined runs and leaves its arguments as they were. -/
theorem frame_ideal2 : Cert.quiescent_Kernel2Ideal := fun m ρ _ => Cert.Kernel2Ideal.Proj.frame m ρ

/-- The reference of the projection runs and leaves its arguments as they were. -/
theorem frame_reference2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

section Projection

open Cert.Proj Cert.Reference2Ideal Cert.Reference2Ideal.Entry

variable (x : FVec Ideal S2x8192x1024 .f32) (sh sc : FVec Ideal S2x1x1024 .f32) (g : FVec Ideal S1x1024 .f32) (w : FVec Ideal Reference2Ideal.S1x1024x8224 .f32)

/-- The reference's wide array is the model's. -/
theorem ref_wide : refWide (refP x sh sc g w) = fun i =>
    wide (proj x sh sc g w ⟨(i 0).val / 8192, Nat.div_lt_of_lt_mul (i 0).isLt⟩ ⟨(i 0).val % 8192, Nat.mod_lt _ (by decide)⟩)
      ⟨(i 0).val % 8192, Nat.mod_lt _ (by decide)⟩ (i 1) := by
  funext i
  obtain ⟨r, n, rfl⟩ : ∃ (r : Fin 16384) (n : Fin 8192), i = ix2 r n := ⟨i 0, i 1, eq_ix2 i⟩
  refine (refWide_apply _ r n).trans ?_
  exact congrArg (fun q => wide q ⟨r.val % 8192, Nat.mod_lt _ (by decide)⟩ n) (funext fun k => refP_apply x sh sc g w _ _ k)

/-- The reference's narrow array is the model's. -/
theorem ref_narrow : refNarrow (refP x sh sc g w) = fun i =>
    narrow (proj x sh sc g w ⟨(i 0).val / 8192, Nat.div_lt_of_lt_mul (i 0).isLt⟩ ⟨(i 0).val % 8192, Nat.mod_lt _ (by decide)⟩) (i 1) := by
  funext i
  obtain ⟨r, n, rfl⟩ : ∃ (r : Fin 16384) (n : Fin 128), i = ix2 r n := ⟨i 0, i 1, eq_ix2 i⟩
  refine (refNarrow_apply _ r n).trans ?_
  exact congrArg (fun q => narrow q n) (funext fun k => refP_apply x sh sc g w _ _ k)

end Projection

/-- The two calls joined and the projection's reference end with the same two arrays: the model's wide and narrow arrays
    of the launch arguments. -/
theorem algebraic2 : Cert.algebraic_Kernel2Ideal_Reference2Ideal := by
  intro m ρ m' ρ' _ hagree
  refine ⟨fun c => Cert.Kernel2Ideal.Proj.wideArr m c, fun c => Cert.Kernel2Ideal.Proj.narrowArr m c, ?_, ?_⟩
  · exact (θ_run Cert.Kernel2Ideal.defs _ _).mono
      (fun _ h c => ⟨(h.1 c).2.2.2.2.2.1.trans (Cert.Kernel2Ideal.Proj.wide_final m c),
        (h.1 c).2.2.2.2.2.2.trans (Cert.Kernel2Ideal.Proj.narrow_final m c),
        (h.1 c).1, (h.1 c).2.1, (h.1 c).2.2.1, (h.1 c).2.2.2.1, (h.1 c).2.2.2.2.1⟩)
      (Cert.Kernel2Ideal.Proj.run (F := Ideal) m ρ)
  · refine (θ_run Cert.Reference2Ideal.defs _ _).mono (fun _ h c => ⟨(h c).1.trans ?_, (h c).2.1.trans ?_, (h c).2.2⟩)
      (Cert.Reference2Ideal.Value.run (F := Ideal) m' ρ')
    · refine (Cert.Reference2Ideal.Entry.wide_stages m' c).trans ((ref_wide _ _ _ _ _).trans ?_)
      obtain ⟨a0, a1, a2, a3, a4⟩ := hagree c
      rw [a0, a1, a2, a3, a4]
      rfl
    · show Cert.Reference2Ideal.Entry.refNarrow (Cert.Reference2Ideal.Entry.refQ m' c) = _
      refine (ref_narrow _ _ _ _ _).trans ?_
      obtain ⟨a0, a1, a2, a3, a4⟩ := hagree c
      rw [a0, a1, a2, a3, a4]
      rfl

set_option maxHeartbeats 4000000 in
set_option maxRecDepth 65536 in
set_option smartUnfolding false in
/-- The merge call, as printed, runs and leaves its arguments as they were: the ideal reading's run at bits. -/
theorem frame_kernel3 : Cert.quiescent_Kernel3 := fun m ρ _ =>
  (θ_run Cert.Kernel3Ideal.defs _ _).mono (fun _ h => h) (Cert.Kernel3Ideal.Merge.frame (F := Bits) m ρ)

/-- The ideal reading of the merge call runs and leaves its arguments as they were. -/
theorem frame_ideal3 : Cert.quiescent_Kernel3Ideal := fun m ρ _ => Cert.Kernel3Ideal.Merge.frame m ρ

/-- The reference of the merge runs and leaves its arguments as they were. -/
theorem frame_reference3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The merge call and its reference end with the same residual rows and the same features: the tokens' arrays of the
    launch arguments. -/
theorem algebraic3 : Cert.algebraic_Kernel3Ideal_Reference3Ideal := by
  intro m ρ m' ρ' _ hagree
  refine ⟨fun c => Cert.Kernel3Ideal.Merge.hArr m c, fun c => Cert.Kernel3Ideal.Merge.hnArr m c, ?_, ?_⟩
  · exact (θ_run Cert.Kernel3Ideal.defs _ _).mono
      (fun _ h c => ⟨(h.1 c).1.trans (Cert.Kernel3Ideal.Merge.h_final m c), (h.1 c).2.1.trans (Cert.Kernel3Ideal.Merge.hn_final m c), (h.1 c).2.2⟩)
      (Cert.Kernel3Ideal.Merge.run (F := Ideal) m ρ)
  · refine (θ_run Cert.Reference3Ideal.defs _ _).mono (fun _ h c => ⟨(h c).1.trans ?_, (h c).2.1.trans ?_, (h c).2.2⟩)
      (Cert.Reference3Ideal.Value.run (F := Ideal) m' ρ')
    · refine (Cert.Reference3Ideal.Entry.res_tok m' c).trans ?_
      obtain ⟨a0, a1, a2, a3, a4, a5, a6, a7, a8, a9, a10, a11, a12, a13, _⟩ := hagree c
      rw [a0, a1, a2, a3, a4, a5, a6, a10, a11, a12, a13]
      rfl
    · refine (Cert.Reference3Ideal.Entry.feat_tok m' c).trans ?_
      obtain ⟨a0, a1, a2, a3, a4, a5, a6, a7, a8, a9, a10, a11, a12, a13, _⟩ := hagree c
      rw [a0, a1, a2, a3, a4, a5, a6, a7, a8, a9, a10, a11, a12, a13]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_ideal, frame_reference, frame_kernel2, frame_ideal2, frame_reference2, frame_kernel3, frame_ideal3, frame_reference3,
  trivial, algebraic, trivial, algebraic2, trivial, algebraic3⟩

end Cert.Proof

end
